-- ==== Defs.lean ====
def Pre_Cmp (m : (ℓ : Loc Cert.Cmp.nD Cert.Cmp.τ Cert.Cmp.sig) → Buf (Elt Bits) ℓ) : Prop :=
  True

def Pre_CmpIdeal (m : (ℓ : Loc Cert.CmpIdeal.nD Cert.CmpIdeal.τ Cert.CmpIdeal.sig) → Buf (Elt Ideal) ℓ) : Prop :=
  True

def Pre_CmpIdeal_finite_rows [hPre_finite_rows : Cert.Pre_finite_rows.Facts] (m : (ℓ : Loc Cert.CmpIdeal.nD Cert.CmpIdeal.τ Cert.CmpIdeal.sig) → Buf (Elt Ideal) ℓ) : Prop :=
  ∀ c : Dev Cert.CmpIdeal.nD,
    (Cert.Pre_finite_rows.fn (F := Ideal) (m ((c.tc : Thread Cert.CmpIdeal.nD Cert.CmpIdeal.τ).loc Cert.CmpIdeal.main_arg0)) (m ((c.tc : Thread Cert.CmpIdeal.nD Cert.CmpIdeal.τ).loc Cert.CmpIdeal.main_arg1)) (m ((c.tc : Thread Cert.CmpIdeal.nD Cert.CmpIdeal.τ).loc Cert.CmpIdeal.main_arg2))) = (fun _ => 1#1)

def Pre_CmpRefIdeal (m : (ℓ : Loc Cert.CmpRefIdeal.nD Cert.CmpRefIdeal.τ Cert.CmpRefIdeal.sig) → Buf (Elt Ideal) ℓ) : Prop :=
  True

def Pre_CmpRefIdeal_finite_rows [hPre_finite_rows : Cert.Pre_finite_rows.Facts] (m : (ℓ : Loc Cert.CmpRefIdeal.nD Cert.CmpRefIdeal.τ Cert.CmpRefIdeal.sig) → Buf (Elt Ideal) ℓ) : Prop :=
  ∀ c : Dev Cert.CmpRefIdeal.nD,
    (Cert.Pre_finite_rows.fn (F := Ideal) (m ((c.tc : Thread Cert.CmpRefIdeal.nD Cert.CmpRefIdeal.τ).loc Cert.CmpRefIdeal.main_arg0)) (m ((c.tc : Thread Cert.CmpRefIdeal.nD Cert.CmpRefIdeal.τ).loc Cert.CmpRefIdeal.main_arg1)) (m ((c.tc : Thread Cert.CmpRefIdeal.nD Cert.CmpRefIdeal.τ).loc Cert.CmpRefIdeal.main_arg2))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjIdeal_finite_hidden [hPre_finite_hidden : Cert.Pre_finite_hidden.Facts] (m : (ℓ : Loc Cert.ProjIdeal.nD Cert.ProjIdeal.τ Cert.ProjIdeal.sig) → Buf (Elt Ideal) ℓ) : Prop :=
  ∀ c : Dev Cert.ProjIdeal.nD,
    (Cert.Pre_finite_hidden.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7)) (m ((c.tc : Thread Cert.ProjIdeal.nD Cert.ProjIdeal.τ).loc Cert.ProjIdeal.main_arg8))) = (fun _ => 1#1)

def Pre_ProjRefIdeal (m : (ℓ : Loc Cert.ProjRefIdeal.nD Cert.ProjRefIdeal.τ Cert.ProjRefIdeal.sig) → Buf (Elt Ideal) ℓ) : Prop :=
  True

def Pre_ProjRefIdeal_finite_hidden [hPre_finite_hidden : Cert.Pre_finite_hidden.Facts] (m : (ℓ : Loc Cert.ProjRefIdeal.nD Cert.ProjRefIdeal.τ Cert.ProjRefIdeal.sig) → Buf (Elt Ideal) ℓ) : Prop :=
  ∀ c : Dev Cert.ProjRefIdeal.nD,
    (Cert.Pre_finite_hidden.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4)) (m ((c.tc : Thread Cert.ProjRefIdeal.nD Cert.ProjRefIdeal.τ).loc Cert.ProjRefIdeal.main_arg5)) (m ((c.tc : Thread Cert.ProjRefIdeal.nD Cert.ProjRefIdeal.τ).loc Cert.ProjRefIdeal.main_arg6)) (m ((c.tc : Thread Cert.ProjRefIdeal.nD Cert.ProjRefIdeal.τ).loc Cert.ProjRefIdeal.main_arg7)) (m ((c.tc : Thread Cert.ProjRefIdeal.nD Cert.ProjRefIdeal.τ).loc Cert.ProjRefIdeal.main_arg8))) = (fun _ => 1#1)

def quiescent_Cmp [hCmp : Cert.Cmp.Facts] : Prop :=
  ∀ (m : (ℓ : Loc Cert.Cmp.nD Cert.Cmp.τ Cert.Cmp.sig) → Buf (Elt Bits) ℓ) (g : Dev Cert.Cmp.nD → PrngReg), Pre_Cmp m →
    θ_run (Cert.Cmp.defs (F := Bits)) (onTc (τ := Cert.Cmp.τ) (Cert.Cmp.main (F := Bits))) ⟨m, fun _ => 0, g⟩ (fun r => (∀ c : Dev Cert.Cmp.nD,
      r.2.mem ((c.tc : Thread Cert.Cmp.nD Cert.Cmp.τ).loc Cert.Cmp.main_arg0) = m ((c.tc : Thread Cert.Cmp.nD Cert.Cmp.τ).loc Cert.Cmp.main_arg0)
      ∧ r.2.mem ((c.tc : Thread Cert.Cmp.nD Cert.Cmp.τ).loc Cert.Cmp.main_arg1) = m ((c.tc : Thread Cert.Cmp.nD Cert.Cmp.τ).loc Cert.Cmp.main_arg1)
      ∧ r.2.mem ((c.tc : Thread Cert.Cmp.nD Cert.Cmp.τ).loc Cert.Cmp.main_arg2) = m ((c.tc : Thread Cert.Cmp.nD Cert.Cmp.τ).loc Cert.Cmp.main_arg2))
      ∧ r.2.sem = fun _ => 0)

def quiescent_CmpIdeal [hCmpIdeal : Cert.CmpIdeal.Facts] : Prop :=
  ∀ (m : (ℓ : Loc Cert.CmpIdeal.nD Cert.CmpIdeal.τ Cert.CmpIdeal.sig) → Buf (Elt Ideal) ℓ) (g : Dev Cert.CmpIdeal.nD → PrngReg), Pre_CmpIdeal m →
    θ_run (Cert.CmpIdeal.defs (F := Ideal)) (onTc (τ := Cert.CmpIdeal.τ) (Cert.CmpIdeal.main (F := Ideal))) ⟨m, fun _ => 0, g⟩ (fun r => (∀ c : Dev Cert.CmpIdeal.nD,
      r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
      ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
      ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2))
      ∧ r.2.sem = fun _ => 0)

def quiescent_CmpIdeal_pre_finite_rows [hCmpIdeal : Cert.CmpIdeal.Facts] [hPre_finite_rows : Cert.Pre_finite_rows.Facts] : Prop :=
  ∀ (m : (ℓ : Loc Cert.CmpIdeal.nD Cert.CmpIdeal.τ Cert.CmpIdeal.sig) → Buf (Elt Ideal) ℓ) (g : Dev Cert.CmpIdeal.nD → PrngReg), Pre_CmpIdeal_finite_rows m →
    θ_run (Cert.CmpIdeal.defs (F := Ideal)) (onTc (τ := Cert.CmpIdeal.τ) (Cert.CmpIdeal.main (F := Ideal))) ⟨m, fun _ => 0, g⟩ (fun r => (∀ c : Dev Cert.CmpIdeal.nD,
      r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
      ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
      ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2))
      ∧ r.2.sem = fun _ => 0)

def quiescent_CmpRefIdeal [hCmpRefIdeal : Cert.CmpRefIdeal.Facts] : Prop :=
  ∀ (m : (ℓ : Loc Cert.CmpRefIdeal.nD Cert.CmpRefIdeal.τ Cert.CmpRefIdeal.sig) → Buf (Elt Ideal) ℓ) (g : Dev Cert.CmpRefIdeal.nD → PrngReg), Pre_CmpRefIdeal m →
    θ_run (Cert.CmpRefIdeal.defs (F := Ideal)) (onTc (τ := Cert.CmpRefIdeal.τ) (Cert.CmpRefIdeal.main (F := Ideal))) ⟨m, fun _ => 0, g⟩ (fun r => (∀ c : Dev Cert.CmpRefIdeal.nD,
      r.2.mem ((c.tc : Thread Cert.CmpRefIdeal.nD Cert.CmpRefIdeal.τ).loc Cert.CmpRefIdeal.main_arg0) = m ((c.tc : Thread Cert.CmpRefIdeal.nD Cert.CmpRefIdeal.τ).loc Cert.CmpRefIdeal.main_arg0)
      ∧ r.2.mem ((c.tc : Thread Cert.CmpRefIdeal.nD Cert.CmpRefIdeal.τ).loc Cert.CmpRefIdeal.main_arg1) = m ((c.tc : Thread Cert.CmpRefIdeal.nD Cert.CmpRefIdeal.τ).loc Cert.CmpRefIdeal.main_arg1)
      ∧ r.2.mem ((c.tc : Thread Cert.CmpRefIdeal.nD Cert.CmpRefIdeal.τ).loc Cert.CmpRefIdeal.main_arg2) = m ((c.tc : Thread Cert.CmpRefIdeal.nD Cert.CmpRefIdeal.τ).loc Cert.CmpRefIdeal.main_arg2))
      ∧ r.2.sem = fun _ => 0)

def quiescent_CmpRefIdeal_pre_finite_rows [hCmpRefIdeal : Cert.CmpRefIdeal.Facts] [hPre_finite_rows : Cert.Pre_finite_rows.Facts] : Prop :=
  ∀ (m : (ℓ : Loc Cert.CmpRefIdeal.nD Cert.CmpRefIdeal.τ Cert.CmpRefIdeal.sig) → Buf (Elt Ideal) ℓ) (g : Dev Cert.CmpRefIdeal.nD → PrngReg), Pre_CmpRefIdeal_finite_rows m →
    θ_run (Cert.CmpRefIdeal.defs (F := Ideal)) (onTc (τ := Cert.CmpRefIdeal.τ) (Cert.CmpRefIdeal.main (F := Ideal))) ⟨m, fun _ => 0, g⟩ (fun r => (∀ c : Dev Cert.CmpRefIdeal.nD,
      r.2.mem ((c.tc : Thread Cert.CmpRefIdeal.nD Cert.CmpRefIdeal.τ).loc Cert.CmpRefIdeal.main_arg0) = m ((c.tc : Thread Cert.CmpRefIdeal.nD Cert.CmpRefIdeal.τ).loc Cert.CmpRefIdeal.main_arg0)
      ∧ r.2.mem ((c.tc : Thread Cert.CmpRefIdeal.nD Cert.CmpRefIdeal.τ).loc Cert.CmpRefIdeal.main_arg1) = m ((c.tc : Thread Cert.CmpRefIdeal.nD Cert.CmpRefIdeal.τ).loc Cert.CmpRefIdeal.main_arg1)
      ∧ r.2.mem ((c.tc : Thread Cert.CmpRefIdeal.nD Cert.CmpRefIdeal.τ).loc Cert.CmpRefIdeal.main_arg2) = m ((c.tc : Thread Cert.CmpRefIdeal.nD Cert.CmpRefIdeal.τ).loc Cert.CmpRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7)
      ∧ r.2.mem ((c.tc : Thread Cert.Proj.nD Cert.Proj.τ).loc Cert.Proj.main_arg8) = m ((c.tc : Thread Cert.Proj.nD Cert.Proj.τ).loc Cert.Proj.main_arg8))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8))
      ∧ r.2.sem = fun _ => 0)

def quiescent_ProjIdeal_pre_finite_hidden [hProjIdeal : Cert.ProjIdeal.Facts] [hPre_finite_hidden : Cert.Pre_finite_hidden.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal_finite_hidden m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7)
      ∧ r.2.mem ((c.tc : Thread Cert.ProjRefIdeal.nD Cert.ProjRefIdeal.τ).loc Cert.ProjRefIdeal.main_arg8) = m ((c.tc : Thread Cert.ProjRefIdeal.nD Cert.ProjRefIdeal.τ).loc Cert.ProjRefIdeal.main_arg8))
      ∧ r.2.sem = fun _ => 0)

def quiescent_ProjRefIdeal_pre_finite_hidden [hProjRefIdeal : Cert.ProjRefIdeal.Facts] [hPre_finite_hidden : Cert.Pre_finite_hidden.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal_finite_hidden m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7)
      ∧ r.2.mem ((c.tc : Thread Cert.ProjRefIdeal.nD Cert.ProjRefIdeal.τ).loc Cert.ProjRefIdeal.main_arg8) = m ((c.tc : Thread Cert.ProjRefIdeal.nD Cert.ProjRefIdeal.τ).loc Cert.ProjRefIdeal.main_arg8))
      ∧ r.2.sem = fun _ => 0)

def preserves_Cmp_CmpIdeal : Prop :=
  True

def algebraic_CmpIdeal_CmpRefIdeal_pre_finite_rows [hCmpIdeal : Cert.CmpIdeal.Facts] [hCmpRefIdeal : Cert.CmpRefIdeal.Facts] [hPre_finite_rows : Cert.Pre_finite_rows.Facts] : Prop :=
  ∀ (m : (ℓ : Loc Cert.CmpIdeal.nD Cert.CmpIdeal.τ Cert.CmpIdeal.sig) → Buf (Elt Ideal) ℓ) (g : Dev Cert.CmpIdeal.nD → PrngReg)
    (m' : (ℓ : Loc Cert.CmpRefIdeal.nD Cert.CmpRefIdeal.τ Cert.CmpRefIdeal.sig) → Buf (Elt Ideal) ℓ) (g' : Dev Cert.CmpRefIdeal.nD → PrngReg), Pre_CmpIdeal_finite_rows m →
    (∀ c : Dev Cert.CmpIdeal.nD,
      m' ((c.tc : Thread Cert.CmpRefIdeal.nD Cert.CmpRefIdeal.τ).loc Cert.CmpRefIdeal.main_arg0) = m ((c.tc : Thread Cert.CmpIdeal.nD Cert.CmpIdeal.τ).loc Cert.CmpIdeal.main_arg0)
      ∧ m' ((c.tc : Thread Cert.CmpRefIdeal.nD Cert.CmpRefIdeal.τ).loc Cert.CmpRefIdeal.main_arg1) = m ((c.tc : Thread Cert.CmpIdeal.nD Cert.CmpIdeal.τ).loc Cert.CmpIdeal.main_arg1)
      ∧ m' ((c.tc : Thread Cert.CmpRefIdeal.nD Cert.CmpRefIdeal.τ).loc Cert.CmpRefIdeal.main_arg2) = m ((c.tc : Thread Cert.CmpIdeal.nD Cert.CmpIdeal.τ).loc Cert.CmpIdeal.main_arg2)) →
    ∃ (v0 : (c : Dev Cert.CmpIdeal.nD) → Buf (Elt Ideal) ((c.tc : Thread Cert.CmpIdeal.nD Cert.CmpIdeal.τ).loc Cert.CmpIdeal.main_v29_0)) (v1 : (c : Dev Cert.CmpIdeal.nD) → Buf (Elt Ideal) ((c.tc : Thread Cert.CmpIdeal.nD Cert.CmpIdeal.τ).loc Cert.CmpIdeal.main_v29_1)),
      θ_run (Cert.CmpIdeal.defs (F := Ideal)) (onTc (τ := Cert.CmpIdeal.τ) (Cert.CmpIdeal.main (F := Ideal))) ⟨m, fun _ => 0, g⟩ (fun r => ∀ c : Dev Cert.CmpIdeal.nD,
          r.2.mem ((c.tc : Thread Cert.CmpIdeal.nD Cert.CmpIdeal.τ).loc Cert.CmpIdeal.main_v29_0) = v0 c
          ∧ r.2.mem ((c.tc : Thread Cert.CmpIdeal.nD Cert.CmpIdeal.τ).loc Cert.CmpIdeal.main_v29_1) = v1 c
          ∧ r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
          ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
          ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2))
      ∧ θ_run (Cert.CmpRefIdeal.defs (F := Ideal)) (onTc (τ := Cert.CmpRefIdeal.τ) (Cert.CmpRefIdeal.main (F := Ideal))) ⟨m', fun _ => 0, g'⟩ (fun r => ∀ c : Dev Cert.CmpRefIdeal.nD,
          r.2.mem ((c.tc : Thread Cert.CmpRefIdeal.nD Cert.CmpRefIdeal.τ).loc Cert.CmpRefIdeal.main_v24) = v0 c
          ∧ r.2.mem ((c.tc : Thread Cert.CmpRefIdeal.nD Cert.CmpRefIdeal.τ).loc Cert.CmpRefIdeal.main_v29) = v1 c
          ∧ r.2.mem ((c.tc : Thread Cert.CmpRefIdeal.nD Cert.CmpRefIdeal.τ).loc Cert.CmpRefIdeal.main_arg0) = m' ((c.tc : Thread Cert.CmpRefIdeal.nD Cert.CmpRefIdeal.τ).loc Cert.CmpRefIdeal.main_arg0)
          ∧ r.2.mem ((c.tc : Thread Cert.CmpRefIdeal.nD Cert.CmpRefIdeal.τ).loc Cert.CmpRefIdeal.main_arg1) = m' ((c.tc : Thread Cert.CmpRefIdeal.nD Cert.CmpRefIdeal.τ).loc Cert.CmpRefIdeal.main_arg1)
          ∧ r.2.mem ((c.tc : Thread Cert.CmpRefIdeal.nD Cert.CmpRefIdeal.τ).loc Cert.CmpRefIdeal.main_arg2) = m' ((c.tc : Thread Cert.CmpRefIdeal.nD Cert.CmpRefIdeal.τ).loc Cert.CmpRefIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v11)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v11) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v21) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v33)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v33) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v22) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_Proj_ProjIdeal : Prop :=
  True

def algebraic_ProjIdeal_ProjRefIdeal_pre_finite_hidden [hProjIdeal : Cert.ProjIdeal.Facts] [hProjRefIdeal : Cert.ProjRefIdeal.Facts] [hPre_finite_hidden : Cert.Pre_finite_hidden.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal_finite_hidden m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)
      ∧ m' ((c.tc : Thread Cert.ProjRefIdeal.nD Cert.ProjRefIdeal.τ).loc Cert.ProjRefIdeal.main_arg7) = m ((c.tc : Thread Cert.ProjIdeal.nD Cert.ProjIdeal.τ).loc Cert.ProjIdeal.main_arg7)
      ∧ m' ((c.tc : Thread Cert.ProjRefIdeal.nD Cert.ProjRefIdeal.τ).loc Cert.ProjRefIdeal.main_arg8) = m ((c.tc : Thread Cert.ProjIdeal.nD Cert.ProjIdeal.τ).loc Cert.ProjIdeal.main_arg8)) →
    ∃ (v0 : (c : Dev Cert.ProjIdeal.nD) → Buf (Elt Ideal) ((c.tc : Thread Cert.ProjIdeal.nD Cert.ProjIdeal.τ).loc Cert.ProjIdeal.main_v100_0)) (v1 : (c : Dev Cert.ProjIdeal.nD) → Buf (Elt Ideal) ((c.tc : Thread Cert.ProjIdeal.nD Cert.ProjIdeal.τ).loc Cert.ProjIdeal.main_v100_1)) (v2 : (c : Dev Cert.ProjIdeal.nD) → Buf (Elt Ideal) ((c.tc : Thread Cert.ProjIdeal.nD Cert.ProjIdeal.τ).loc Cert.ProjIdeal.main_v100_2)) (v3 : (c : Dev Cert.ProjIdeal.nD) → Buf (Elt Ideal) ((c.tc : Thread Cert.ProjIdeal.nD Cert.ProjIdeal.τ).loc Cert.ProjIdeal.main_v100_3)) (v4 : (c : Dev Cert.ProjIdeal.nD) → Buf (Elt Ideal) ((c.tc : Thread Cert.ProjIdeal.nD Cert.ProjIdeal.τ).loc Cert.ProjIdeal.main_v100_4)) (v5 : (c : Dev Cert.ProjIdeal.nD) → Buf (Elt Ideal) ((c.tc : Thread Cert.ProjIdeal.nD Cert.ProjIdeal.τ).loc Cert.ProjIdeal.main_v100_5)) (v6 : (c : Dev Cert.ProjIdeal.nD) → Buf (Elt Ideal) ((c.tc : Thread Cert.ProjIdeal.nD Cert.ProjIdeal.τ).loc Cert.ProjIdeal.main_v100_6)) (v7 : (c : Dev Cert.ProjIdeal.nD) → Buf (Elt Ideal) ((c.tc : Thread Cert.ProjIdeal.nD Cert.ProjIdeal.τ).loc Cert.ProjIdeal.main_v100_7)) (v8 : (c : Dev Cert.ProjIdeal.nD) → Buf (Elt Ideal) ((c.tc : Thread Cert.ProjIdeal.nD Cert.ProjIdeal.τ).loc Cert.ProjIdeal.main_v100_8)) (v9 : (c : Dev Cert.ProjIdeal.nD) → Buf (Elt Ideal) ((c.tc : Thread Cert.ProjIdeal.nD Cert.ProjIdeal.τ).loc Cert.ProjIdeal.main_v100_9)) (v10 : (c : Dev Cert.ProjIdeal.nD) → Buf (Elt Ideal) ((c.tc : Thread Cert.ProjIdeal.nD Cert.ProjIdeal.τ).loc Cert.ProjIdeal.main_v100_10)) (v11 : (c : Dev Cert.ProjIdeal.nD) → Buf (Elt Ideal) ((c.tc : Thread Cert.ProjIdeal.nD Cert.ProjIdeal.τ).loc Cert.ProjIdeal.main_v100_11)) (v12 : (c : Dev Cert.ProjIdeal.nD) → Buf (Elt Ideal) ((c.tc : Thread Cert.ProjIdeal.nD Cert.ProjIdeal.τ).loc Cert.ProjIdeal.main_v100_12)) (v13 : (c : Dev Cert.ProjIdeal.nD) → Buf (Elt Ideal) ((c.tc : Thread Cert.ProjIdeal.nD Cert.ProjIdeal.τ).loc Cert.ProjIdeal.main_v100_13)) (v14 : (c : Dev Cert.ProjIdeal.nD) → Buf (Elt Ideal) ((c.tc : Thread Cert.ProjIdeal.nD Cert.ProjIdeal.τ).loc Cert.ProjIdeal.main_v100_14)) (v15 : (c : Dev Cert.ProjIdeal.nD) → Buf (Elt Ideal) ((c.tc : Thread Cert.ProjIdeal.nD Cert.ProjIdeal.τ).loc Cert.ProjIdeal.main_v100_15)) (v16 : (c : Dev Cert.ProjIdeal.nD) → Buf (Elt Ideal) ((c.tc : Thread Cert.ProjIdeal.nD Cert.ProjIdeal.τ).loc Cert.ProjIdeal.main_v100_16)) (v17 : (c : Dev Cert.ProjIdeal.nD) → Buf (Elt Ideal) ((c.tc : Thread Cert.ProjIdeal.nD Cert.ProjIdeal.τ).loc Cert.ProjIdeal.main_v100_17)) (v18 : (c : Dev Cert.ProjIdeal.nD) → Buf (Elt Ideal) ((c.tc : Thread Cert.ProjIdeal.nD Cert.ProjIdeal.τ).loc Cert.ProjIdeal.main_v100_18)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v100_0) = v0 c
          ∧ r.2.mem ((c.tc : Thread Cert.ProjIdeal.nD Cert.ProjIdeal.τ).loc Cert.ProjIdeal.main_v100_1) = v1 c
          ∧ r.2.mem ((c.tc : Thread Cert.ProjIdeal.nD Cert.ProjIdeal.τ).loc Cert.ProjIdeal.main_v100_2) = v2 c
          ∧ r.2.mem ((c.tc : Thread Cert.ProjIdeal.nD Cert.ProjIdeal.τ).loc Cert.ProjIdeal.main_v100_3) = v3 c
          ∧ r.2.mem ((c.tc : Thread Cert.ProjIdeal.nD Cert.ProjIdeal.τ).loc Cert.ProjIdeal.main_v100_4) = v4 c
          ∧ r.2.mem ((c.tc : Thread Cert.ProjIdeal.nD Cert.ProjIdeal.τ).loc Cert.ProjIdeal.main_v100_5) = v5 c
          ∧ r.2.mem ((c.tc : Thread Cert.ProjIdeal.nD Cert.ProjIdeal.τ).loc Cert.ProjIdeal.main_v100_6) = v6 c
          ∧ r.2.mem ((c.tc : Thread Cert.ProjIdeal.nD Cert.ProjIdeal.τ).loc Cert.ProjIdeal.main_v100_7) = v7 c
          ∧ r.2.mem ((c.tc : Thread Cert.ProjIdeal.nD Cert.ProjIdeal.τ).loc Cert.ProjIdeal.main_v100_8) = v8 c
          ∧ r.2.mem ((c.tc : Thread Cert.ProjIdeal.nD Cert.ProjIdeal.τ).loc Cert.ProjIdeal.main_v100_9) = v9 c
          ∧ r.2.mem ((c.tc : Thread Cert.ProjIdeal.nD Cert.ProjIdeal.τ).loc Cert.ProjIdeal.main_v100_10) = v10 c
          ∧ r.2.mem ((c.tc : Thread Cert.ProjIdeal.nD Cert.ProjIdeal.τ).loc Cert.ProjIdeal.main_v100_11) = v11 c
          ∧ r.2.mem ((c.tc : Thread Cert.ProjIdeal.nD Cert.ProjIdeal.τ).loc Cert.ProjIdeal.main_v100_12) = v12 c
          ∧ r.2.mem ((c.tc : Thread Cert.ProjIdeal.nD Cert.ProjIdeal.τ).loc Cert.ProjIdeal.main_v100_13) = v13 c
          ∧ r.2.mem ((c.tc : Thread Cert.ProjIdeal.nD Cert.ProjIdeal.τ).loc Cert.ProjIdeal.main_v100_14) = v14 c
          ∧ r.2.mem ((c.tc : Thread Cert.ProjIdeal.nD Cert.ProjIdeal.τ).loc Cert.ProjIdeal.main_v100_15) = v15 c
          ∧ r.2.mem ((c.tc : Thread Cert.ProjIdeal.nD Cert.ProjIdeal.τ).loc Cert.ProjIdeal.main_v100_16) = v16 c
          ∧ r.2.mem ((c.tc : Thread Cert.ProjIdeal.nD Cert.ProjIdeal.τ).loc Cert.ProjIdeal.main_v100_17) = v17 c
          ∧ r.2.mem ((c.tc : Thread Cert.ProjIdeal.nD Cert.ProjIdeal.τ).loc Cert.ProjIdeal.main_v100_18) = v18 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
          ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v77) = v0 c
          ∧ r.2.mem ((c.tc : Thread Cert.ProjRefIdeal.nD Cert.ProjRefIdeal.τ).loc Cert.ProjRefIdeal.main_v32) = v1 c
          ∧ r.2.mem ((c.tc : Thread Cert.ProjRefIdeal.nD Cert.ProjRefIdeal.τ).loc Cert.ProjRefIdeal.main_v104) = v2 c
          ∧ r.2.mem ((c.tc : Thread Cert.ProjRefIdeal.nD Cert.ProjRefIdeal.τ).loc Cert.ProjRefIdeal.main_v122) = v3 c
          ∧ r.2.mem ((c.tc : Thread Cert.ProjRefIdeal.nD Cert.ProjRefIdeal.τ).loc Cert.ProjRefIdeal.main_v123) = v4 c
          ∧ r.2.mem ((c.tc : Thread Cert.ProjRefIdeal.nD Cert.ProjRefIdeal.τ).loc Cert.ProjRefIdeal.main_v124) = v5 c
          ∧ r.2.mem ((c.tc : Thread Cert.ProjRefIdeal.nD Cert.ProjRefIdeal.τ).loc Cert.ProjRefIdeal.main_v20) = v6 c
          ∧ r.2.mem ((c.tc : Thread Cert.ProjRefIdeal.nD Cert.ProjRefIdeal.τ).loc Cert.ProjRefIdeal.main_v142) = v7 c
          ∧ r.2.mem ((c.tc : Thread Cert.ProjRefIdeal.nD Cert.ProjRefIdeal.τ).loc Cert.ProjRefIdeal.main_v143) = v8 c
          ∧ r.2.mem ((c.tc : Thread Cert.ProjRefIdeal.nD Cert.ProjRefIdeal.τ).loc Cert.ProjRefIdeal.main_v144) = v9 c
          ∧ r.2.mem ((c.tc : Thread Cert.ProjRefIdeal.nD Cert.ProjRefIdeal.τ).loc Cert.ProjRefIdeal.main_v162) = v10 c
          ∧ r.2.mem ((c.tc : Thread Cert.ProjRefIdeal.nD Cert.ProjRefIdeal.τ).loc Cert.ProjRefIdeal.main_v163) = v11 c
          ∧ r.2.mem ((c.tc : Thread Cert.ProjRefIdeal.nD Cert.ProjRefIdeal.τ).loc Cert.ProjRefIdeal.main_v164) = v12 c
          ∧ r.2.mem ((c.tc : Thread Cert.ProjRefIdeal.nD Cert.ProjRefIdeal.τ).loc Cert.ProjRefIdeal.main_v170) = v13 c
          ∧ r.2.mem ((c.tc : Thread Cert.ProjRefIdeal.nD Cert.ProjRefIdeal.τ).loc Cert.ProjRefIdeal.main_v176) = v14 c
          ∧ r.2.mem ((c.tc : Thread Cert.ProjRefIdeal.nD Cert.ProjRefIdeal.τ).loc Cert.ProjRefIdeal.main_v45) = v15 c
          ∧ r.2.mem ((c.tc : Thread Cert.ProjRefIdeal.nD Cert.ProjRefIdeal.τ).loc Cert.ProjRefIdeal.main_v48) = v16 c
          ∧ r.2.mem ((c.tc : Thread Cert.ProjRefIdeal.nD Cert.ProjRefIdeal.τ).loc Cert.ProjRefIdeal.main_v178) = v17 c
          ∧ r.2.mem ((c.tc : Thread Cert.ProjRefIdeal.nD Cert.ProjRefIdeal.τ).loc Cert.ProjRefIdeal.main_v184) = v18 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6)
          ∧ r.2.mem ((c.tc : Thread Cert.ProjRefIdeal.nD Cert.ProjRefIdeal.τ).loc Cert.ProjRefIdeal.main_arg7) = m' ((c.tc : Thread Cert.ProjRefIdeal.nD Cert.ProjRefIdeal.τ).loc Cert.ProjRefIdeal.main_arg7)
          ∧ r.2.mem ((c.tc : Thread Cert.ProjRefIdeal.nD Cert.ProjRefIdeal.τ).loc Cert.ProjRefIdeal.main_arg8) = m' ((c.tc : Thread Cert.ProjRefIdeal.nD Cert.ProjRefIdeal.τ).loc Cert.ProjRefIdeal.main_arg8))

def Claim : Prop :=
  ∃ (hCmp : Cert.Cmp.Facts) (hCmpIdeal : Cert.CmpIdeal.Facts) (hCmpRefIdeal : Cert.CmpRefIdeal.Facts) (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hProj : Cert.Proj.Facts) (hProjIdeal : Cert.ProjIdeal.Facts) (hProjRefIdeal : Cert.ProjRefIdeal.Facts) (hPre_finite_rows : Cert.Pre_finite_rows.Facts) (hPre_finite_hidden : Cert.Pre_finite_hidden.Facts),
    quiescent_Cmp (hCmp := hCmp)
    ∧ quiescent_CmpIdeal (hCmpIdeal := hCmpIdeal)
    ∧ quiescent_CmpIdeal_pre_finite_rows (hCmpIdeal := hCmpIdeal) (hPre_finite_rows := hPre_finite_rows)
    ∧ quiescent_CmpRefIdeal (hCmpRefIdeal := hCmpRefIdeal)
    ∧ quiescent_CmpRefIdeal_pre_finite_rows (hCmpRefIdeal := hCmpRefIdeal) (hPre_finite_rows := hPre_finite_rows)
    ∧ quiescent_Ffn (hFfn := hFfn)
    ∧ quiescent_FfnIdeal (hFfnIdeal := hFfnIdeal)
    ∧ quiescent_FfnRefIdeal (hFfnRefIdeal := hFfnRefIdeal)
    ∧ quiescent_Merge (hMerge := hMerge)
    ∧ quiescent_MergeIdeal (hMergeIdeal := hMergeIdeal)
    ∧ quiescent_MergeRefIdeal (hMergeRefIdeal := hMergeRefIdeal)
    ∧ quiescent_Proj (hProj := hProj)
    ∧ quiescent_ProjIdeal (hProjIdeal := hProjIdeal)
    ∧ quiescent_ProjIdeal_pre_finite_hidden (hProjIdeal := hProjIdeal) (hPre_finite_hidden := hPre_finite_hidden)
    ∧ quiescent_ProjRefIdeal (hProjRefIdeal := hProjRefIdeal)
    ∧ quiescent_ProjRefIdeal_pre_finite_hidden (hProjRefIdeal := hProjRefIdeal) (hPre_finite_hidden := hPre_finite_hidden)
    ∧ preserves_Cmp_CmpIdeal
    ∧ algebraic_CmpIdeal_CmpRefIdeal_pre_finite_rows (hCmpIdeal := hCmpIdeal) (hCmpRefIdeal := hCmpRefIdeal) (hPre_finite_rows := hPre_finite_rows)
    ∧ preserves_Ffn_FfnIdeal
    ∧ algebraic_FfnIdeal_FfnRefIdeal (hFfnIdeal := hFfnIdeal) (hFfnRefIdeal := hFfnRefIdeal)
    ∧ preserves_Merge_MergeIdeal
    ∧ algebraic_MergeIdeal_MergeRefIdeal (hMergeIdeal := hMergeIdeal) (hMergeRefIdeal := hMergeRefIdeal)
    ∧ preserves_Proj_ProjIdeal
    ∧ algebraic_ProjIdeal_ProjRefIdeal_pre_finite_hidden (hProjIdeal := hProjIdeal) (hProjRefIdeal := hProjRefIdeal) (hPre_finite_hidden := hPre_finite_hidden)
-- ==== Pre_finite_hidden.lean ====
abbrev S65536x1024 : Shape := ⟨2, ![65536, 1024]⟩
abbrev S1024 : Shape := ⟨1, ![1024]⟩
abbrev S1024x4704 : Shape := ⟨2, ![1024, 4704]⟩
abbrev S64 : Shape := ⟨1, ![64]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x4704 : S_.BroadcastsInDim S1024x4704 (![] : Fin 0 → Fin S1024x4704.rank)
  reducesTo_S1024x4704_S_d0_1 : S1024x4704.ReducesTo [0, 1] S_

variable [Facts]

def fn {F : FTy → Type} [FloatOps F] (main_arg0 : FVec F S65536x1024 .f32) (main_arg1 : FVec F S1024 .f32) (main_arg2 : FVec F S1024x4704 .f32) (main_arg3 : FVec F S64 .f32) (main_arg4 : FVec F S64 .f32) (main_arg5 : FVec F S64 .f32) (main_arg6 : FVec F S64 .f32) (main_arg7 : FVec F S64 .f32) (main_arg8 : FVec F S64 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x4704 .f32 := Host.absf main_arg2
  let main_cst_2 : FVec F S_ .f32 := constant S_ .f32 0x7F800000#32
  let main_v10 : FVec F S1024x4704 .f32 := broadcastInDim S1024x4704 ![] bcast_S_S1024x4704 main_cst_2
  let main_v11 : IVec S1024x4704 1 := cmpf .olt main_v9 main_v10
  let main_c_3 : IVec S_ 1 := constantI S_ 1 1#1
  let main_v12 : IVec S_ 1 := (fun x v => Host.reduce IntOp.andi x v reducesTo_S1024x4704_S_d0_1 h_S_) main_v11 main_c_3
  let main_v13 : IVec S_ 1 := andi main_v8 main_v12
  main_v13
-- ==== Pre_finite_rows.lean ====
abbrev S65536x256 : Shape := ⟨2, ![65536, 256]⟩
abbrev S2x32x64x64 : Shape := ⟨4, ![2, 32, 64, 64]⟩
abbrev S64 : Shape := ⟨1, ![64]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S2x32x64x64 : S_.BroadcastsInDim S2x32x64x64 (![] : Fin 0 → Fin S2x32x64x64.rank)
  reducesTo_S2x32x64x64_S_d0_1_2_3 : S2x32x64x64.ReducesTo [0, 1, 2, 3] S_

variable [Facts]

def fn {F : FTy → Type} [FloatOps F] (main_arg0 : FVec F S65536x256 .f32) (main_arg1 : FVec F S2x32x64x64 .f32) (main_arg2 : FVec F S64 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S2x32x64x64 .f32 := Host.absf main_arg1
  let main_cst_0 : FVec F S_ .f32 := constant S_ .f32 0x7F800000#32
  let main_v5 : FVec F S2x32x64x64 .f32 := broadcastInDim S2x32x64x64 ![] bcast_S_S2x32x64x64 main_cst_0
  let main_v6 : IVec S2x32x64x64 1 := cmpf .olt main_v4 main_v5
  let main_c_1 : IVec S_ 1 := constantI S_ 1 1#1
  let main_v7 : IVec S_ 1 := (fun x v => Host.reduce IntOp.andi x v reducesTo_S2x32x64x64_S_d0_1_2_3 h_S_) main_v6 main_c_1
  let main_v8 : IVec S_ 1 := andi main_v3 main_v7
  main_v8
-- ==== Cmp.lean ====
abbrev S65536x256 : Shape := ⟨2, ![65536, 256]⟩
abbrev S2x32x64x64 : Shape := ⟨4, ![2, 32, 64, 64]⟩
abbrev S64 : Shape := ⟨1, ![64]⟩
abbrev S128x128 : Shape := ⟨2, ![128, 128]⟩
abbrev S2x2 : Shape := ⟨2, ![2, 2]⟩
abbrev S_ : Shape := ⟨0, ![]⟩
abbrev S1x2x1x1x2x1x1 : Shape := ⟨7, ![1, 2, 1, 1, 2, 1, 1]⟩
abbrev S1x1x2x1x1x2x1 : Shape := ⟨7, ![1, 1, 2, 1, 1, 2, 1]⟩
abbrev S32x2x64x64 : Shape := ⟨4, ![32, 2, 64, 64]⟩
abbrev S32x2x1x64x1x1x64 : Shape := ⟨7, ![32, 2, 1, 64, 1, 1, 64]⟩
abbrev S32x2x1x64x2x1x64 : Shape := ⟨7, ![32, 2, 1, 64, 2, 1, 64]⟩
abbrev S32x2x2x64x2x2x64 : Shape := ⟨7, ![32, 2, 2, 64, 2, 2, 64]⟩
abbrev S8192x256 : Shape := ⟨2, ![8192, 256]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S8x128x16384 : Shape := ⟨3, ![8, 128, 16384]⟩
abbrev S8x256x128 : Shape := ⟨3, ![8, 256, 128]⟩
abbrev S1x128x16384 : Shape := ⟨3, ![1, 128, 16384]⟩
abbrev S1x256x128 : Shape := ⟨3, ![1, 256, 128]⟩
abbrev S1x128x8192 : Shape := ⟨3, ![1, 128, 8192]⟩
abbrev S128x8192 : Shape := ⟨2, ![128, 8192]⟩
abbrev S128x256 : Shape := ⟨2, ![128, 256]⟩
abbrev S1x128x128 : Shape := ⟨3, ![1, 128, 128]⟩

abbrev nBuf : Space → Nat
  | .hbm => 37
  | .vmem => 9
  | .smem => 0
  | _ => 0

abbrev bufTy : (tb : Table) → Fin (tcTables nBuf tb) → BufTy
  | .hbm, ⟨0, _⟩ => ⟨S65536x256, .f32⟩
  | .hbm, ⟨1, _⟩ => ⟨S2x32x64x64, .f32⟩
  | .hbm, ⟨2, _⟩ => ⟨S64, .f32⟩
  | .hbm, ⟨3, _⟩ => ⟨S128x128, .bf16⟩
  | .hbm, ⟨4, _⟩ => ⟨S2x2, .i32⟩
  | .hbm, ⟨5, _⟩ => ⟨S2x2, .i32⟩
  | .hbm, ⟨6, _⟩ => ⟨S_, .i32⟩
  | .hbm, ⟨7, _⟩ => ⟨S2x2, .i32⟩
  | .hbm, ⟨8, _⟩ => ⟨S2x2, .i32⟩
  | .hbm, ⟨9, _⟩ => ⟨S2x2, .i1⟩
  | .hbm, ⟨10, _⟩ => ⟨S2x2, .f32⟩
  | .hbm, ⟨11, _⟩ => ⟨S2x2, .i32⟩
  | .hbm, ⟨12, _⟩ => ⟨S2x2, .i32⟩
  | .hbm, ⟨13, _⟩ => ⟨S_, .i32⟩
  | .hbm, ⟨14, _⟩ => ⟨S2x2, .i32⟩
  | .hbm, ⟨15, _⟩ => ⟨S2x2, .i32⟩
  | .hbm, ⟨16, _⟩ => ⟨S2x2, .i1⟩
  | .hbm, ⟨17, _⟩ => ⟨S2x2, .f32⟩
  | .hbm, ⟨18, _⟩ => ⟨S1x2x1x1x2x1x1, .f32⟩
  | .hbm, ⟨19, _⟩ => ⟨S1x1x2x1x1x2x1, .f32⟩
  | .hbm, ⟨20, _⟩ => ⟨S32x2x64x64, .f32⟩
  | .hbm, ⟨21, _⟩ => ⟨S32x2x1x64x1x1x64, .f32⟩
  | .hbm, ⟨22, _⟩ => ⟨S32x2x1x64x2x1x64, .f32⟩
  | .hbm, ⟨23, _⟩ => ⟨S32x2x1x64x2x1x64, .f32⟩
  | .hbm, ⟨24, _⟩ => ⟨S32x2x1x64x2x1x64, .f32⟩
  | .hbm, ⟨25, _⟩ => ⟨S32x2x2x64x2x2x64, .f32⟩
  | .hbm, ⟨26, _⟩ => ⟨S32x2x2x64x2x2x64, .f32⟩
  | .hbm, ⟨27, _⟩ => ⟨S32x2x2x64x2x2x64, .f32⟩
  | .hbm, ⟨28, _⟩ => ⟨S8192x256, .f32⟩
  | .hbm, ⟨29, _⟩ => ⟨S8192x256, .bf16⟩
  | .hbm, ⟨30, _⟩ => ⟨S1x64, .f32⟩
  | .hbm, ⟨31, _⟩ => ⟨S2x64, .f32⟩
  | .hbm, ⟨32, _⟩ => ⟨S128, .f32⟩
  | .hbm, ⟨33, _⟩ => ⟨S1x128, .f32⟩
  | .hbm, ⟨34, _⟩ => ⟨S8x128x16384, .f32⟩
  | .hbm, ⟨35, _⟩ => ⟨S8x256x128, .bf16⟩
  | .hbm, ⟨36, _⟩ => ⟨S8x256x128, .bf16⟩
  | .local _ .vmem, ⟨0, _⟩ => ⟨S1x128x16384, .f32⟩
  | .local _ .vmem, ⟨1, _⟩ => ⟨S1x128x16384, .f32⟩
  | .local _ .vmem, ⟨2, _⟩ => ⟨S8192x256, .bf16⟩
  | .local _ .vmem, ⟨3, _⟩ => ⟨S1x128, .f32⟩
  | .local _ .vmem, ⟨4, _⟩ => ⟨S128x128, .bf16⟩
  | .local _ .vmem, ⟨5, _⟩ => ⟨S1x256x128, .bf16⟩
  | .local _ .vmem, ⟨6, _⟩ => ⟨S1x256x128, .bf16⟩
  | .local _ .vmem, ⟨7, _⟩ => ⟨S1x256x128, .bf16⟩
  | .local _ .vmem, ⟨8, _⟩ => ⟨S1x256x128, .bf16⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29_0 : Ref sig .tc := ⟨.hbm, 35, rfl⟩
abbrev main_v29_1 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== CmpRefIdeal.lean ====
abbrev S65536x256 : Shape := ⟨2, ![65536, 256]⟩
abbrev S2x32x64x64 : Shape := ⟨4, ![2, 32, 64, 64]⟩
abbrev S64 : Shape := ⟨1, ![64]⟩
abbrev S8x256x32x2x2x64 : Shape := ⟨6, ![8, 256, 32, 2, 2, 64]⟩
abbrev S2x64x8x256x2 : Shape := ⟨5, ![2, 64, 8, 256, 2]⟩
abbrev S8x256x2x2x64 : Shape := ⟨5, ![8, 256, 2, 2, 64]⟩
abbrev S8x256x1x2x64 : Shape := ⟨5, ![8, 256, 1, 2, 64]⟩
abbrev S8x256x2x64 : Shape := ⟨4, ![8, 256, 2, 64]⟩
abbrev S_ : Shape := ⟨0, ![]⟩
abbrev S8x256x2 : Shape := ⟨3, ![8, 256, 2]⟩
abbrev S8x256x2x1 : Shape := ⟨4, ![8, 256, 2, 1]⟩
abbrev S1x1x1x64 : Shape := ⟨4, ![1, 1, 1, 64]⟩
abbrev S8x128x2x64 : Shape := ⟨4, ![8, 128, 2, 64]⟩
abbrev S8x256x128 : Shape := ⟨3, ![8, 256, 128]⟩

abbrev nBuf : Space → Nat
  | .hbm => 36
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S2x32x64x64, .f32⟩
  | .hbm, ⟨2, _⟩ => ⟨S64, .f32⟩
  | .hbm, ⟨3, _⟩ => ⟨S8x256x32x2x2x64, .f32⟩
  | .hbm, ⟨4, _⟩ => ⟨S2x64x8x256x2, .f32⟩
  | .hbm, ⟨5, _⟩ => ⟨S8x256x2x2x64, .f32⟩
  | .hbm, ⟨6, _⟩ => ⟨S8x256x1x2x64, .f32⟩
  | .hbm, ⟨7, _⟩ => ⟨S8x256x2x64, .f32⟩
  | .hbm, ⟨8, _⟩ => ⟨S8x256x2x64, .f32⟩
  | .hbm, ⟨9, _⟩ => ⟨S_, .f32⟩
  | .hbm, ⟨10, _⟩ => ⟨S8x256x2, .f32⟩
  | .hbm, ⟨11, _⟩ => ⟨S8x256x2x1, .f32⟩
  | .hbm, ⟨12, _⟩ => ⟨S_, .f32⟩
  | .hbm, ⟨13, _⟩ => ⟨S8x256x2x1, .f32⟩
  | .hbm, ⟨14, _⟩ => ⟨S8x256x2x1, .f32⟩
  | .hbm, ⟨15, _⟩ => ⟨S_, .f32⟩
  | .hbm, ⟨16, _⟩ => ⟨S8x256x2x1, .f32⟩
  | .hbm, ⟨17, _⟩ => ⟨S8x256x2x1, .f32⟩
  | .hbm, ⟨18, _⟩ => ⟨S8x256x2x1, .f32⟩
  | .hbm, ⟨19, _⟩ => ⟨S8x256x2x64, .f32⟩
  | .hbm, ⟨20, _⟩ => ⟨S8x256x2x64, .f32⟩
  | .hbm, ⟨21, _⟩ => ⟨S1x1x1x64, .f32⟩
  | .hbm, ⟨22, _⟩ => ⟨S8x256x2x64, .f32⟩
  | .hbm, ⟨23, _⟩ => ⟨S8x256x2x64, .f32⟩
  | .hbm, ⟨24, _⟩ => ⟨S8x256x1x2x64, .f32⟩
  | .hbm, ⟨25, _⟩ => ⟨S8x256x2x64, .f32⟩
  | .hbm, ⟨26, _⟩ => ⟨S8x128x2x64, .f32⟩
  | .hbm, ⟨27, _⟩ => ⟨S8x128x2x64, .f32⟩
  | .hbm, ⟨28, _⟩ => ⟨S8x256x2x64, .f32⟩
  | .hbm, ⟨29, _⟩ => ⟨S8x256x128, .f32⟩
  | .hbm, ⟨30, _⟩ => ⟨S8x256x128, .bf16⟩
  | .hbm, ⟨31, _⟩ => ⟨S8x128x2x64, .f32⟩
  | .hbm, ⟨32, _⟩ => ⟨S8x128x2x64, .f32⟩
  | .hbm, ⟨33, _⟩ => ⟨S8x256x2x64, .f32⟩
  | .hbm, ⟨34, _⟩ => ⟨S8x256x128, .f32⟩
  | .hbm, ⟨35, _⟩ => ⟨S8x256x128, .bf16⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩

abbrev nD : Nat := 1
abbrev τ : Topo := Topo.v7x

variable {F : FTy → Type} [FloatOps F]
-- ==== Ffn.lean ====
abbrev S65536x1024 : Shape := ⟨2, ![65536, 1024]⟩
abbrev S1024 : Shape := ⟨1, ![1024]⟩
abbrev S1024x5632 : Shape := ⟨2, ![1024, 5632]⟩
abbrev S2816x1024 : Shape := ⟨2, ![2816, 1024]⟩
abbrev S1024x2816 : Shape := ⟨2, ![1024, 2816]⟩
abbrev S1024x11x256 : Shape := ⟨3, ![1024, 11, 256]⟩
abbrev S11x1024x256 : Shape := ⟨3, ![11, 1024, 256]⟩
abbrev S11x256x1024 : Shape := ⟨3, ![11, 256, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 16
  | .vmem => 10
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024x2816, .f32⟩
  | .hbm, ⟨5, _⟩ => ⟨S1024x11x256, .f32⟩
  | .hbm, ⟨6, _⟩ => ⟨S11x1024x256, .f32⟩
  | .hbm, ⟨7, _⟩ => ⟨S11x1024x256, .bf16⟩
  | .hbm, ⟨8, _⟩ => ⟨S1024x2816, .f32⟩
  | .hbm, ⟨9, _⟩ => ⟨S1024x11x256, .f32⟩
  | .hbm, ⟨10, _⟩ => ⟨S11x1024x256, .f32⟩
  | .hbm, ⟨11, _⟩ => ⟨S11x1024x256, .bf16⟩
  | .hbm, ⟨12, _⟩ => ⟨S11x256x1024, .f32⟩
  | .hbm, ⟨13, _⟩ => ⟨S11x256x1024, .bf16⟩
  | .hbm, ⟨14, _⟩ => ⟨S1x1024, .f32⟩
  | .hbm, ⟨15, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S11x1024x256, .bf16⟩
  | .local _ .vmem, ⟨4, _⟩ => ⟨S11x1024x256, .bf16⟩
  | .local _ .vmem, ⟨5, _⟩ => ⟨S11x256x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

@[reducible] def k0_t1_loop : Scf.Loop 32 :=
  let c0_i32 : BitVec 32 := 0#32
  let c11_i32 : BitVec 32 := 11#32
  let v23 : BitVec 32 := Scalar.addi c0_i32 c11_i32
  let c1_i32 : BitVec 32 := 1#32
  ⟨c0_i32, v23, c1_i32⟩
def k0_off1 (k0_t1 : Fin k0_t1_loop.trips) : Fin 3 → Nat :=
  let c0_i32 : BitVec 32 := 0#32
  let c1_i32 : BitVec 32 := 1#32
  let arg9 : BitVec 32 := Scf.iv c0_i32 c1_i32 k0_t1
  let v30 : Index := Scalar.indexCast arg9
  let c0_18 : Index := 0#32
  let c0_19 : Index := 0#32
  ![v30.toNat, 0, 0]
def k0_off2 (k0_t1 : Fin k0_t1_loop.trips) : Fin 3 → Nat :=
  let c0_i32 : BitVec 32 := 0#32
  let c1_i32 : BitVec 32 := 1#32
  let arg9 : BitVec 32 := Scf.iv c0_i32 c1_i32 k0_t1
  let v43 : Index := Scalar.indexCast arg9
  let c0_26 : Index := 0#32
  let c0_27 : Index := 0#32
  ![v43.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S11x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S11x1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S11x256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnRefIdeal.lean ====
abbrev S65536x1024 : Shape := ⟨2, ![65536, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x5632 : Shape := ⟨2, ![65536, 5632]⟩
abbrev S65536x2816 : Shape := ⟨2, ![65536, 2816]⟩

abbrev nBuf : Space → Nat
  | .hbm => 38
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S65536x1024, .f32⟩
  | .hbm, ⟨5, _⟩ => ⟨S_, .f32⟩
  | .hbm, ⟨6, _⟩ => ⟨S65536, .f32⟩
  | .hbm, ⟨7, _⟩ => ⟨S65536x1, .f32⟩
  | .hbm, ⟨8, _⟩ => ⟨S_, .f32⟩
  | .hbm, ⟨9, _⟩ => ⟨S65536x1, .f32⟩
  | .hbm, ⟨10, _⟩ => ⟨S65536x1, .f32⟩
  | .hbm, ⟨11, _⟩ => ⟨S_, .f32⟩
  | .hbm, ⟨12, _⟩ => ⟨S65536x1, .f32⟩
  | .hbm, ⟨13, _⟩ => ⟨S65536x1, .f32⟩
  | .hbm, ⟨14, _⟩ => ⟨S65536x1, .f32⟩
  | .hbm, ⟨15, _⟩ => ⟨S65536x1024, .f32⟩
  | .hbm, ⟨16, _⟩ => ⟨S65536x1024, .f32⟩
  | .hbm, ⟨17, _⟩ => ⟨S1x1024, .f32⟩
  | .hbm, ⟨18, _⟩ => ⟨S65536x1024, .f32⟩
  | .hbm, ⟨19, _⟩ => ⟨S65536x1024, .f32⟩
  | .hbm, ⟨20, _⟩ => ⟨S65536x5632, .f32⟩
  | .hbm, ⟨21, _⟩ => ⟨S65536x2816, .f32⟩
  | .hbm, ⟨22, _⟩ => ⟨S65536x2816, .f32⟩
  | .hbm, ⟨23, _⟩ => ⟨S65536x2816, .f32⟩
  | .hbm, ⟨24, _⟩ => ⟨S65536x2816, .f32⟩
  | .hbm, ⟨25, _⟩ => ⟨S_, .f32⟩
  | .hbm, ⟨26, _⟩ => ⟨S65536x2816, .f32⟩
  | .hbm, ⟨27, _⟩ => ⟨S65536x2816, .f32⟩
  | .hbm, ⟨28, _⟩ => ⟨S_, .f32⟩
  | .hbm, ⟨29, _⟩ => ⟨S65536x2816, .f32⟩
  | .hbm, ⟨30, _⟩ => ⟨S65536x2816, .f32⟩
  | .hbm, ⟨31, _⟩ => ⟨S65536x2816, .f32⟩
  | .hbm, ⟨32, _⟩ => ⟨S65536x2816, .f32⟩
  | .hbm, ⟨33, _⟩ => ⟨S65536x1024, .f32⟩
  | .hbm, ⟨34, _⟩ => ⟨S_, .f32⟩
  | .hbm, ⟨35, _⟩ => ⟨S65536x1024, .f32⟩
  | .hbm, ⟨36, _⟩ => ⟨S65536x1024, .f32⟩
  | .hbm, ⟨37, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩

abbrev nD : Nat := 1
abbrev τ : Topo := Topo.v7x

variable {F : FTy → Type} [FloatOps F]
-- ==== Merge.lean ====
abbrev S65536x1024 : Shape := ⟨2, ![65536, 1024]⟩
abbrev S512x1024 : Shape := ⟨2, ![512, 1024]⟩
abbrev S1024x1024 : Shape := ⟨2, ![1024, 1024]⟩
abbrev S1024x512 : Shape := ⟨2, ![1024, 512]⟩
abbrev S1024x8x64 : Shape := ⟨3, ![1024, 8, 64]⟩
abbrev S_ : Shape := ⟨0, ![]⟩
abbrev S8 : Shape := ⟨1, ![8]⟩
abbrev S1x8x1 : Shape := ⟨3, ![1, 8, 1]⟩
abbrev S1024x8x128 : Shape := ⟨3, ![1024, 8, 128]⟩

abbrev nBuf : Space → Nat
  | .hbm => 86
  | .vmem => 15
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | .hbm, ⟨2, _⟩ => ⟨S65536x1024, .bf16⟩
  | .hbm, ⟨3, _⟩ => ⟨S65536x1024, .f32⟩
  | .hbm, ⟨4, _⟩ => ⟨S65536x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024x512, .f32⟩
  | .hbm, ⟨9, _⟩ => ⟨S1024x8x64, .f32⟩
  | .hbm, ⟨10, _⟩ => ⟨S_, .f32⟩
  | .hbm, ⟨11, _⟩ => ⟨S1024x8x64, .f32⟩
  | .hbm, ⟨12, _⟩ => ⟨S8, .i32⟩
  | .hbm, ⟨13, _⟩ => ⟨S_, .i32⟩
  | .hbm, ⟨14, _⟩ => ⟨S_, .i32⟩
  | .hbm, ⟨15, _⟩ => ⟨S8, .i32⟩
  | .hbm, ⟨16, _⟩ => ⟨S8, .i32⟩
  | .hbm, ⟨17, _⟩ => ⟨S8, .i32⟩
  | .hbm, ⟨18, _⟩ => ⟨S_, .i32⟩
  | .hbm, ⟨19, _⟩ => ⟨S8, .i32⟩
  | .hbm, ⟨20, _⟩ => ⟨S8, .i1⟩
  | .hbm, ⟨21, _⟩ => ⟨S8, .i32⟩
  | .hbm, ⟨22, _⟩ => ⟨S8, .i32⟩
  | .hbm, ⟨23, _⟩ => ⟨S_, .i32⟩
  | .hbm, ⟨24, _⟩ => ⟨S8, .i32⟩
  | .hbm, ⟨25, _⟩ => ⟨S8, .i1⟩
  | .hbm, ⟨26, _⟩ => ⟨S8, .i1⟩
  | .hbm, ⟨27, _⟩ => ⟨S_, .i32⟩
  | .hbm, ⟨28, _⟩ => ⟨S8, .i32⟩
  | .hbm, ⟨29, _⟩ => ⟨S8, .i32⟩
  | .hbm, ⟨30, _⟩ => ⟨S8, .i32⟩
  | .hbm, ⟨31, _⟩ => ⟨S1x8x1, .i32⟩
  | .hbm, ⟨32, _⟩ => ⟨S_, .i32⟩
  | .hbm, ⟨33, _⟩ => ⟨S1x8x1, .i32⟩
  | .hbm, ⟨34, _⟩ => ⟨S1x8x1, .i1⟩
  | .hbm, ⟨35, _⟩ => ⟨S1024x8x64, .i1⟩
  | .hbm, ⟨36, _⟩ => ⟨S1024x8x64, .f32⟩
  | .hbm, ⟨37, _⟩ => ⟨S_, .i32⟩
  | .hbm, ⟨38, _⟩ => ⟨S1x8x1, .i32⟩
  | .hbm, ⟨39, _⟩ => ⟨S1x8x1, .i1⟩
  | .hbm, ⟨40, _⟩ => ⟨S1024x8x64, .i1⟩
  | .hbm, ⟨41, _⟩ => ⟨S1024x8x64, .f32⟩
  | .hbm, ⟨42, _⟩ => ⟨S1024x8x128, .f32⟩
  | .hbm, ⟨43, _⟩ => ⟨S1024x1024, .f32⟩
  | .hbm, ⟨44, _⟩ => ⟨S1024x1024, .f32⟩
  | .hbm, ⟨45, _⟩ => ⟨S1024x1024, .bf16⟩
  | .hbm, ⟨46, _⟩ => ⟨S1024x512, .f32⟩
  | .hbm, ⟨47, _⟩ => ⟨S1024x8x64, .f32⟩
  | .hbm, ⟨48, _⟩ => ⟨S_, .f32⟩
  | .hbm, ⟨49, _⟩ => ⟨S1024x8x64, .f32⟩
  | .hbm, ⟨50, _⟩ => ⟨S8, .i32⟩
  | .hbm, ⟨51, _⟩ => ⟨S_, .i32⟩
  | .hbm, ⟨52, _⟩ => ⟨S_, .i32⟩
  | .hbm, ⟨53, _⟩ => ⟨S8, .i32⟩
  | .hbm, ⟨54, _⟩ => ⟨S8, .i32⟩
  | .hbm, ⟨55, _⟩ => ⟨S8, .i32⟩
  | .hbm, ⟨56, _⟩ => ⟨S_, .i32⟩
  | .hbm, ⟨57, _⟩ => ⟨S8, .i32⟩
  | .hbm, ⟨58, _⟩ => ⟨S8, .i1⟩
  | .hbm, ⟨59, _⟩ => ⟨S8, .i32⟩
  | .hbm, ⟨60, _⟩ => ⟨S8, .i32⟩
  | .hbm, ⟨61, _⟩ => ⟨S_, .i32⟩
  | .hbm, ⟨62, _⟩ => ⟨S8, .i32⟩
  | .hbm, ⟨63, _⟩ => ⟨S8, .i1⟩
  | .hbm, ⟨64, _⟩ => ⟨S8, .i1⟩
  | .hbm, ⟨65, _⟩ => ⟨S_, .i32⟩
  | .hbm, ⟨66, _⟩ => ⟨S8, .i32⟩
  | .hbm, ⟨67, _⟩ => ⟨S8, .i32⟩
  | .hbm, ⟨68, _⟩ => ⟨S8, .i32⟩
  | .hbm, ⟨69, _⟩ => ⟨S1x8x1, .i32⟩
  | .hbm, ⟨70, _⟩ => ⟨S_, .i32⟩
  | .hbm, ⟨71, _⟩ => ⟨S1x8x1, .i32⟩
  | .hbm, ⟨72, _⟩ => ⟨S1x8x1, .i1⟩
  | .hbm, ⟨73, _⟩ => ⟨S1024x8x64, .i1⟩
  | .hbm, ⟨74, _⟩ => ⟨S1024x8x64, .f32⟩
  | .hbm, ⟨75, _⟩ => ⟨S_, .i32⟩
  | .hbm, ⟨76, _⟩ => ⟨S1x8x1, .i32⟩
  | .hbm, ⟨77, _⟩ => ⟨S1x8x1, .i1⟩
  | .hbm, ⟨78, _⟩ => ⟨S1024x8x64, .i1⟩
  | .hbm, ⟨79, _⟩ => ⟨S1024x8x64, .f32⟩
  | .hbm, ⟨80, _⟩ => ⟨S1024x8x128, .f32⟩
  | .hbm, ⟨81, _⟩ => ⟨S1024x1024, .f32⟩
  | .hbm, ⟨82, _⟩ => ⟨S1024x1024, .f32⟩
  | .hbm, ⟨83, _⟩ => ⟨S1024x1024, .bf16⟩
  | .hbm, ⟨84, _⟩ => ⟨S1024x1024, .bf16⟩
  | .hbm, ⟨85, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S512x1024, .f32⟩
  | .local _ .vmem, ⟨14, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v4 : Ref sig .tc := ⟨.hbm, 30, rfl⟩
abbrev main_v5 : Ref sig .tc := ⟨.hbm, 31, rfl⟩
abbrev main_c_0 : Ref sig .tc := ⟨.hbm, 32, rfl⟩
abbrev main_v6 : Ref sig .tc := ⟨.hbm, 33, rfl⟩
abbrev main_v7 : Ref sig .tc := ⟨.hbm, 34, rfl⟩
abbrev main_call1_v0 : Ref sig .tc := ⟨.hbm, 35, rfl⟩
abbrev main_v8 : Ref sig .tc := ⟨.hbm, 36, rfl⟩
abbrev main_c_1 : Ref sig .tc := ⟨.hbm, 37, rfl⟩
abbrev main_v9 : Ref sig .tc := ⟨.hbm, 38, rfl⟩
abbrev main_v10 : Ref sig .tc := ⟨.hbm, 39, rfl⟩
abbrev main_call2_v0 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_cst_2 : Ref sig .tc := ⟨.hbm, 48, rfl⟩
abbrev main_v18 : Ref sig .tc := ⟨.hbm, 49, rfl⟩
abbrev main_v19 : Ref sig .tc := ⟨.hbm, 50, rfl⟩
abbrev main_c_3 : Ref sig .tc := ⟨.hbm, 51, rfl⟩
abbrev main_call3_v0 : Ref sig .tc := ⟨.hbm, 52, rfl⟩
abbrev main_call3_v1 : Ref sig .tc := ⟨.hbm, 53, rfl⟩
abbrev main_call3_v2 : Ref sig .tc := ⟨.hbm, 54, rfl⟩
abbrev main_call3_v3 : Ref sig .tc := ⟨.hbm, 55, rfl⟩
abbrev main_call3_v4 : Ref sig .tc := ⟨.hbm, 56, rfl⟩
abbrev main_call3_v5 : Ref sig .tc := ⟨.hbm, 57, rfl⟩
abbrev main_call3_v6 : Ref sig .tc := ⟨.hbm, 58, rfl⟩
abbrev main_call3_v7 : Ref sig .tc := ⟨.hbm, 59, rfl⟩
abbrev main_call3_v8 : Ref sig .tc := ⟨.hbm, 60, rfl⟩
abbrev main_call3_c : Ref sig .tc := ⟨.hbm, 61, rfl⟩
abbrev main_call3_v9 : Ref sig .tc := ⟨.hbm, 62, rfl⟩
abbrev main_call3_v10 : Ref sig .tc := ⟨.hbm, 63, rfl⟩
abbrev main_call3_v11 : Ref sig .tc := ⟨.hbm, 64, rfl⟩
abbrev main_call3_c_0 : Ref sig .tc := ⟨.hbm, 65, rfl⟩
abbrev main_call3_v12 : Ref sig .tc := ⟨.hbm, 66, rfl⟩
abbrev main_call3_v13 : Ref sig .tc := ⟨.hbm, 67, rfl⟩
abbrev main_v20 : Ref sig .tc := ⟨.hbm, 68, rfl⟩
abbrev main_v21 : Ref sig .tc := ⟨.hbm, 69, rfl⟩
abbrev main_c_4 : Ref sig .tc := ⟨.hbm, 70, rfl⟩
abbrev main_v22 : Ref sig .tc := ⟨.hbm, 71, rfl⟩
abbrev main_v23 : Ref sig .tc := ⟨.hbm, 72, rfl⟩
abbrev main_call4_v0 : Ref sig .tc := ⟨.hbm, 73, rfl⟩
abbrev main_v24 : Ref sig .tc := ⟨.hbm, 74, rfl⟩
abbrev main_c_5 : Ref sig .tc := ⟨.hbm, 75, rfl⟩
abbrev main_v25 : Ref sig .tc := ⟨.hbm, 76, rfl⟩
abbrev main_v26 : Ref sig .tc := ⟨.hbm, 77, rfl⟩
abbrev main_call5_v0 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeRefIdeal.lean ====
abbrev S65536x1024 : Shape := ⟨2, ![65536, 1024]⟩
abbrev S512x1024 : Shape := ⟨2, ![512, 1024]⟩
abbrev S1024x1024 : Shape := ⟨2, ![1024, 1024]⟩
abbrev S65536x2x4x2x64 : Shape := ⟨5, ![65536, 2, 4, 2, 64]⟩
abbrev S65536x1x4x1x64 : Shape := ⟨5, ![65536, 1, 4, 1, 64]⟩
abbrev S65536x4x64 : Shape := ⟨3, ![65536, 4, 64]⟩
abbrev S65536x8x64 : Shape := ⟨3, ![65536, 8, 64]⟩
abbrev S65536x512 : Shape := ⟨2, ![65536, 512]⟩

abbrev nBuf : Space → Nat
  | .hbm => 31
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | .hbm, ⟨2, _⟩ => ⟨S65536x1024, .bf16⟩
  | .hbm, ⟨3, _⟩ => ⟨S65536x1024, .f32⟩
  | .hbm, ⟨4, _⟩ => ⟨S65536x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S65536x1024, .f32⟩
  | .hbm, ⟨9, _⟩ => ⟨S65536x2x4x2x64, .f32⟩
  | .hbm, ⟨10, _⟩ => ⟨S65536x1x4x1x64, .f32⟩
  | .hbm, ⟨11, _⟩ => ⟨S65536x4x64, .f32⟩
  | .hbm, ⟨12, _⟩ => ⟨S65536x1x4x1x64, .f32⟩
  | .hbm, ⟨13, _⟩ => ⟨S65536x4x64, .f32⟩
  | .hbm, ⟨14, _⟩ => ⟨S65536x8x64, .f32⟩
  | .hbm, ⟨15, _⟩ => ⟨S65536x512, .f32⟩
  | .hbm, ⟨16, _⟩ => ⟨S65536x1024, .f32⟩
  | .hbm, ⟨17, _⟩ => ⟨S65536x1024, .f32⟩
  | .hbm, ⟨18, _⟩ => ⟨S65536x1024, .f32⟩
  | .hbm, ⟨19, _⟩ => ⟨S65536x2x4x2x64, .f32⟩
  | .hbm, ⟨20, _⟩ => ⟨S65536x1x4x1x64, .f32⟩
  | .hbm, ⟨21, _⟩ => ⟨S65536x4x64, .f32⟩
  | .hbm, ⟨22, _⟩ => ⟨S65536x1x4x1x64, .f32⟩
  | .hbm, ⟨23, _⟩ => ⟨S65536x4x64, .f32⟩
  | .hbm, ⟨24, _⟩ => ⟨S65536x8x64, .f32⟩
  | .hbm, ⟨25, _⟩ => ⟨S65536x512, .f32⟩
  | .hbm, ⟨26, _⟩ => ⟨S65536x1024, .f32⟩
  | .hbm, ⟨27, _⟩ => ⟨S65536x1024, .f32⟩
  | .hbm, ⟨28, _⟩ => ⟨S65536x1024, .f32⟩
  | .hbm, ⟨29, _⟩ => ⟨S65536x1024, .f32⟩
  | .hbm, ⟨30, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Proj.lean ====
abbrev S65536x1024 : Shape := ⟨2, ![65536, 1024]⟩
abbrev S1024 : Shape := ⟨1, ![1024]⟩
abbrev S1024x4704 : Shape := ⟨2, ![1024, 4704]⟩
abbrev S64 : Shape := ⟨1, ![64]⟩
abbrev S128x128 : Shape := ⟨2, ![128, 128]⟩
abbrev S1024x512 : Shape := ⟨2, ![1024, 512]⟩
abbrev S1024x256 : Shape := ⟨2, ![1024, 256]⟩
abbrev S1024x8 : Shape := ⟨2, ![1024, 8]⟩
abbrev S1024x64 : Shape := ⟨2, ![1024, 64]⟩
abbrev S1024x24 : Shape := ⟨2, ![1024, 24]⟩
abbrev S1024x2048 : Shape := ⟨2, ![1024, 2048]⟩
abbrev S_ : Shape := ⟨0, ![]⟩
abbrev S1024x96 : Shape := ⟨2, ![1024, 96]⟩
abbrev S1024x128 : Shape := ⟨2, ![1024, 128]⟩
abbrev S1024x8x64 : Shape := ⟨3, ![1024, 8, 64]⟩
abbrev S8 : Shape := ⟨1, ![8]⟩
abbrev S1x8x1 : Shape := ⟨3, ![1, 8, 1]⟩
abbrev S1024x8x128 : Shape := ⟨3, ![1024, 8, 128]⟩
abbrev S1024x1024 : Shape := ⟨2, ![1024, 1024]⟩
abbrev S1024x6400 : Shape := ⟨2, ![1024, 6400]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S1x8x64 : Shape := ⟨3, ![1, 8, 64]⟩
abbrev S1x8x128 : Shape := ⟨3, ![1, 8, 128]⟩
abbrev S1x1024 : Shape := ⟨2, ![1, 1024]⟩
abbrev S2x64 : Shape := ⟨2, ![2, 64]⟩
abbrev S128 : Shape := ⟨1, ![128]⟩
abbrev S384 : Shape := ⟨1, ![384]⟩
abbrev S1x384 : Shape := ⟨2, ![1, 384]⟩
abbrev S1x128 : Shape := ⟨2, ![1, 128]⟩
abbrev S65536x256 : Shape := ⟨2, ![65536, 256]⟩
abbrev S65536x128 : Shape := ⟨2, ![65536, 128]⟩
abbrev S65536x64 : Shape := ⟨2, ![65536, 64]⟩
abbrev S512x1024 : Shape := ⟨2, ![512, 1024]⟩
abbrev S512x256 : Shape := ⟨2, ![512, 256]⟩
abbrev S512x128 : Shape := ⟨2, ![512, 128]⟩
abbrev S512x64 : Shape := ⟨2, ![512, 64]⟩
abbrev S512x1 : Shape := ⟨2, ![512, 1]⟩

abbrev nBuf : Space → Nat
  | .hbm => 223
  | .vmem => 48
  | .smem => 0
  | _ => 0

abbrev hbmTy0_0 (i : Nat) : BufTy := match i % 128 with
  | 0 => ⟨S65536x1024, .f32⟩
  | 1 => ⟨S1024, .f32⟩
  | 2 => ⟨S1024x4704, .f32⟩
  | 3 => ⟨S64, .f32⟩
  | 4 => ⟨S64, .f32⟩
  | 5 => ⟨S64, .f32⟩
  | 6 => ⟨S64, .f32⟩
  | 7 => ⟨S64, .f32⟩
  | 8 => ⟨S64, .f32⟩
  | 9 => ⟨S128x128, .bf16⟩
  | 10 => ⟨S1024x512, .f32⟩
  | 11 => ⟨S1024x256, .f32⟩
  | 12 => ⟨S1024x512, .f32⟩
  | 13 => ⟨S1024x8, .f32⟩
  | 14 => ⟨S1024x64, .f32⟩
  | 15 => ⟨S1024x512, .f32⟩
  | 16 => ⟨S1024x256, .f32⟩
  | 17 => ⟨S1024x256, .f32⟩
  | 18 => ⟨S1024x256, .f32⟩
  | 19 => ⟨S1024x24, .f32⟩
  | 20 => ⟨S1024x2048, .f32⟩
  | 21 => ⟨S_, .f32⟩
  | 22 => ⟨S1024x96, .f32⟩
  | 23 => ⟨S1024x128, .f32⟩
  | 24 => ⟨S_, .f32⟩
  | 25 => ⟨S1024x64, .f32⟩
  | 26 => ⟨S1024x128, .f32⟩
  | 27 => ⟨S1024x8x64, .f32⟩
  | 28 => ⟨S_, .f32⟩
  | 29 => ⟨S1024x8x64, .f32⟩
  | 30 => ⟨S8, .i32⟩
  | 31 => ⟨S_, .i32⟩
  | 32 => ⟨S_, .i32⟩
  | 33 => ⟨S8, .i32⟩
  | 34 => ⟨S8, .i32⟩
  | 35 => ⟨S8, .i32⟩
  | 36 => ⟨S_, .i32⟩
  | 37 => ⟨S8, .i32⟩
  | 38 => ⟨S8, .i1⟩
  | 39 => ⟨S8, .i32⟩
  | 40 => ⟨S8, .i32⟩
  | 41 => ⟨S_, .i32⟩
  | 42 => ⟨S8, .i32⟩
  | 43 => ⟨S8, .i1⟩
  | 44 => ⟨S8, .i1⟩
  | 45 => ⟨S_, .i32⟩
  | 46 => ⟨S8, .i32⟩
  | 47 => ⟨S8, .i32⟩
  | 48 => ⟨S8, .i32⟩
  | 49 => ⟨S1x8x1, .i32⟩
  | 50 => ⟨S_, .i32⟩
  | 51 => ⟨S1x8x1, .i32⟩
  | 52 => ⟨S1x8x1, .i1⟩
  | 53 => ⟨S1024x8x64, .i1⟩
  | 54 => ⟨S1024x8x64, .f32⟩
  | 55 => ⟨S_, .i32⟩
  | 56 => ⟨S1x8x1, .i32⟩
  | 57 => ⟨S1x8x1, .i1⟩
  | 58 => ⟨S1024x8x64, .i1⟩
  | 59 => ⟨S1024x8x64, .f32⟩
  | 60 => ⟨S1024x8x128, .f32⟩
  | 61 => ⟨S1024x1024, .f32⟩
  | 62 => ⟨S1024x8x64, .f32⟩
  | 63 => ⟨S_, .f32⟩
  | 64 => ⟨S1024x8x64, .f32⟩
  | 65 => ⟨S1024x8x128, .f32⟩
  | 66 => ⟨S1024x1024, .f32⟩
  | 67 => ⟨S1024x8x64, .f32⟩
  | 68 => ⟨S_, .f32⟩
  | 69 => ⟨S1024x8x64, .f32⟩
  | 70 => ⟨S8, .i32⟩
  | 71 => ⟨S_, .i32⟩
  | 72 => ⟨S_, .i32⟩
  | 73 => ⟨S8, .i32⟩
  | 74 => ⟨S8, .i32⟩
  | 75 => ⟨S8, .i32⟩
  | 76 => ⟨S_, .i32⟩
  | 77 => ⟨S8, .i32⟩
  | 78 => ⟨S8, .i1⟩
  | 79 => ⟨S8, .i32⟩
  | 80 => ⟨S8, .i32⟩
  | 81 => ⟨S_, .i32⟩
  | 82 => ⟨S8, .i32⟩
  | 83 => ⟨S8, .i1⟩
  | 84 => ⟨S8, .i1⟩
  | 85 => ⟨S_, .i32⟩
  | 86 => ⟨S8, .i32⟩
  | 87 => ⟨S8, .i32⟩
  | 88 => ⟨S8, .i32⟩
  | 89 => ⟨S1x8x1, .i32⟩
  | 90 => ⟨S_, .i32⟩
  | 91 => ⟨S1x8x1, .i32⟩
  | 92 => ⟨S1x8x1, .i1⟩
  | 93 => ⟨S1024x8x64, .i1⟩
  | 94 => ⟨S1024x8x64, .f32⟩
  | 95 => ⟨S_, .i32⟩
  | 96 => ⟨S1x8x1, .i32⟩
  | 97 => ⟨S1x8x1, .i1⟩
  | 98 => ⟨S1024x8x64, .i1⟩
  | 99 => ⟨S1024x8x64, .f32⟩
  | 100 => ⟨S1024x8x128, .f32⟩
  | 101 => ⟨S1024x1024, .f32⟩
  | 102 => ⟨S1024x6400, .f32⟩
  | 103 => ⟨S1024x6400, .bf16⟩
  | 104 => ⟨S_, .f32⟩
  | 105 => ⟨S64, .f32⟩
  | 106 => ⟨S64, .f32⟩
  | 107 => ⟨S1x64, .f32⟩
  | 108 => ⟨S8x64, .f32⟩
  | 109 => ⟨S512, .f32⟩
  | 110 => ⟨S1x512, .f32⟩
  | 111 => ⟨S1x8x64, .f32⟩
  | 112 => ⟨S_, .f32⟩
  | 113 => ⟨S1x8x64, .f32⟩
  | 114 => ⟨S8, .i32⟩
  | 115 => ⟨S_, .i32⟩
  | 116 => ⟨S_, .i32⟩
  | 117 => ⟨S8, .i32⟩
  | 118 => ⟨S8, .i32⟩
  | 119 => ⟨S8, .i32⟩
  | 120 => ⟨S_, .i32⟩
  | 121 => ⟨S8, .i32⟩
  | 122 => ⟨S8, .i1⟩
  | 123 => ⟨S8, .i32⟩
  | 124 => ⟨S8, .i32⟩
  | 125 => ⟨S_, .i32⟩
  | 126 => ⟨S8, .i32⟩
  | 127 => ⟨S8, .i1⟩
  | _ => ⟨S65536x1024, .f32⟩

abbrev hbmTy0_1 (i : Nat) : BufTy := match i % 128 with
  | 0 => ⟨S8, .i1⟩
  | 1 => ⟨S_, .i32⟩
  | 2 => ⟨S8, .i32⟩
  | 3 => ⟨S8, .i32⟩
  | 4 => ⟨S8, .i32⟩
  | 5 => ⟨S1x8x1, .i32⟩
  | 6 => ⟨S_, .i32⟩
  | 7 => ⟨S1x8x1, .i32⟩
  | 8 => ⟨S1x8x1, .i1⟩
  | 9 => ⟨S1x8x64, .i1⟩
  | 10 => ⟨S1x8x64, .f32⟩
  | 11 => ⟨S_, .i32⟩
  | 12 => ⟨S1x8x1, .i32⟩
  | 13 => ⟨S1x8x1, .i1⟩
  | 14 => ⟨S1x8x64, .i1⟩
  | 15 => ⟨S1x8x64, .f32⟩
  | 16 => ⟨S1x8x128, .f32⟩
  | 17 => ⟨S1x1024, .f32⟩
  | 18 => ⟨S_, .f32⟩
  | 19 => ⟨S64, .f32⟩
  | 20 => ⟨S64, .f32⟩
  | 21 => ⟨S1x64, .f32⟩
  | 22 => ⟨S8x64, .f32⟩
  | 23 => ⟨S512, .f32⟩
  | 24 => ⟨S1x512, .f32⟩
  | 25 => ⟨S1x8x64, .f32⟩
  | 26 => ⟨S_, .f32⟩
  | 27 => ⟨S1x8x64, .f32⟩
  | 28 => ⟨S8, .i32⟩
  | 29 => ⟨S_, .i32⟩
  | 30 => ⟨S_, .i32⟩
  | 31 => ⟨S8, .i32⟩
  | 32 => ⟨S8, .i32⟩
  | 33 => ⟨S8, .i32⟩
  | 34 => ⟨S_, .i32⟩
  | 35 => ⟨S8, .i32⟩
  | 36 => ⟨S8, .i1⟩
  | 37 => ⟨S8, .i32⟩
  | 38 => ⟨S8, .i32⟩
  | 39 => ⟨S_, .i32⟩
  | 40 => ⟨S8, .i32⟩
  | 41 => ⟨S8, .i1⟩
  | 42 => ⟨S8, .i1⟩
  | 43 => ⟨S_, .i32⟩
  | 44 => ⟨S8, .i32⟩
  | 45 => ⟨S8, .i32⟩
  | 46 => ⟨S8, .i32⟩
  | 47 => ⟨S1x8x1, .i32⟩
  | 48 => ⟨S_, .i32⟩
  | 49 => ⟨S1x8x1, .i32⟩
  | 50 => ⟨S1x8x1, .i1⟩
  | 51 => ⟨S1x8x64, .i1⟩
  | 52 => ⟨S1x8x64, .f32⟩
  | 53 => ⟨S_, .i32⟩
  | 54 => ⟨S1x8x1, .i32⟩
  | 55 => ⟨S1x8x1, .i1⟩
  | 56 => ⟨S1x8x64, .i1⟩
  | 57 => ⟨S1x8x64, .f32⟩
  | 58 => ⟨S1x8x128, .f32⟩
  | 59 => ⟨S1x1024, .f32⟩
  | 60 => ⟨S1x64, .f32⟩
  | 61 => ⟨S2x64, .f32⟩
  | 62 => ⟨S128, .f32⟩
  | 63 => ⟨S1x64, .f32⟩
  | 64 => ⟨S2x64, .f32⟩
  | 65 => ⟨S128, .f32⟩
  | 66 => ⟨S1x64, .f32⟩
  | 67 => ⟨S2x64, .f32⟩
  | 68 => ⟨S128, .f32⟩
  | 69 => ⟨S384, .f32⟩
  | 70 => ⟨S1x384, .f32⟩
  | 71 => ⟨S_, .f32⟩
  | 72 => ⟨S64, .f32⟩
  | 73 => ⟨S128, .f32⟩
  | 74 => ⟨S1x128, .f32⟩
  | 75 => ⟨S1x1024, .f32⟩
  | 76 => ⟨S65536x1024, .bf16⟩
  | 77 => ⟨S65536x1024, .bf16⟩
  | 78 => ⟨S65536x1024, .bf16⟩
  | 79 => ⟨S65536x256, .f32⟩
  | 80 => ⟨S65536x128, .bf16⟩
  | 81 => ⟨S65536x128, .bf16⟩
  | 82 => ⟨S65536x256, .f32⟩
  | 83 => ⟨S65536x256, .f32⟩
  | 84 => ⟨S65536x128, .bf16⟩
  | 85 => ⟨S65536x128, .bf16⟩
  | 86 => ⟨S65536x256, .f32⟩
  | 87 => ⟨S65536x128, .bf16⟩
  | 88 => ⟨S65536x128, .bf16⟩
  | 89 => ⟨S65536x1024, .f32⟩
  | 90 => ⟨S65536x1024, .f32⟩
  | 91 => ⟨S65536x64, .f32⟩
  | 92 => ⟨S65536x128, .bf16⟩
  | 93 => ⟨S65536x128, .f32⟩
  | 94 => ⟨S65536x128, .f32⟩
  | _ => ⟨S65536x1024, .f32⟩

abbrev hbmTy (i : Nat) : BufTy := match i / 128 with
  | 0 => hbmTy0_0 i
  | 1 => hbmTy0_1 i
  | _ => ⟨S65536x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x6400, .bf16⟩
  | .local _ .vmem, ⟨4, _⟩ => ⟨S1x1024, .f32⟩
  | .local _ .vmem, ⟨5, _⟩ => ⟨S1x1024, .f32⟩
  | .local _ .vmem, ⟨6, _⟩ => ⟨S1x384, .f32⟩
  | .local _ .vmem, ⟨7, _⟩ => ⟨S1x128, .f32⟩
  | .local _ .vmem, ⟨8, _⟩ => ⟨S128x128, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x256, .f32⟩
  | .local _ .vmem, ⟨16, _⟩ => ⟨S512x256, .f32⟩
  | .local _ .vmem, ⟨17, _⟩ => ⟨S512x128, .bf16⟩
  | .local _ .vmem, ⟨18, _⟩ => ⟨S512x128, .bf16⟩
  | .local _ .vmem, ⟨19, _⟩ => ⟨S512x128, .bf16⟩
  | .local _ .vmem, ⟨20, _⟩ => ⟨S512x128, .bf16⟩
  | .local _ .vmem, ⟨21, _⟩ => ⟨S512x256, .f32⟩
  | .local _ .vmem, ⟨22, _⟩ => ⟨S512x256, .f32⟩
  | .local _ .vmem, ⟨23, _⟩ => ⟨S512x256, .f32⟩
  | .local _ .vmem, ⟨24, _⟩ => ⟨S512x256, .f32⟩
  | .local _ .vmem, ⟨25, _⟩ => ⟨S512x128, .bf16⟩
  | .local _ .vmem, ⟨26, _⟩ => ⟨S512x128, .bf16⟩
  | .local _ .vmem, ⟨27, _⟩ => ⟨S512x128, .bf16⟩
  | .local _ .vmem, ⟨28, _⟩ => ⟨S512x128, .bf16⟩
  | .local _ .vmem, ⟨29, _⟩ => ⟨S512x256, .f32⟩
  | .local _ .vmem, ⟨30, _⟩ => ⟨S512x256, .f32⟩
  | .local _ .vmem, ⟨31, _⟩ => ⟨S512x128, .bf16⟩
  | .local _ .vmem, ⟨32, _⟩ => ⟨S512x128, .bf16⟩
  | .local _ .vmem, ⟨33, _⟩ => ⟨S512x128, .bf16⟩
  | .local _ .vmem, ⟨34, _⟩ => ⟨S512x128, .bf16⟩
  | .local _ .vmem, ⟨35, _⟩ => ⟨S512x1024, .f32⟩
  | .local _ .vmem, ⟨36, _⟩ => ⟨S512x1024, .f32⟩
  | .local _ .vmem, ⟨37, _⟩ => ⟨S512x1024, .f32⟩
  | .local _ .vmem, ⟨38, _⟩ => ⟨S512x1024, .f32⟩
  | .local _ .vmem, ⟨39, _⟩ => ⟨S512x64, .f32⟩
  | .local _ .vmem, ⟨40, _⟩ => ⟨S512x64, .f32⟩
  | .local _ .vmem, ⟨41, _⟩ => ⟨S512x128, .bf16⟩
  | .local _ .vmem, ⟨42, _⟩ => ⟨S512x128, .bf16⟩
  | .local _ .vmem, ⟨43, _⟩ => ⟨S512x128, .f32⟩
  | .local _ .vmem, ⟨44, _⟩ => ⟨S512x128, .f32⟩
  | .local _ .vmem, ⟨45, _⟩ => ⟨S512x128, .f32⟩
  | .local _ .vmem, ⟨46, _⟩ => ⟨S512x128, .f32⟩
  | .local _ .vmem, ⟨47, _⟩ => ⟨S512x1024, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_c : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_c_0 : Ref sig .tc := ⟨.hbm, 45, rfl⟩
abbrev main_call0_v12 : Ref sig .tc := ⟨.hbm, 46, rfl⟩
abbrev main_call0_v13 : Ref sig .tc := ⟨.hbm, 47, rfl⟩
abbrev main_v18 : Ref sig .tc := ⟨.hbm, 48, rfl⟩
abbrev main_v19 : Ref sig .tc := ⟨.hbm, 49, rfl⟩
abbrev main_c_3 : Ref sig .tc := ⟨.hbm, 50, rfl⟩
abbrev main_v20 : Ref sig .tc := ⟨.hbm, 51, rfl⟩
abbrev main_v21 : Ref sig .tc := ⟨.hbm, 52, rfl⟩
abbrev main_call1_v0 : Ref sig .tc := ⟨.hbm, 53, rfl⟩
abbrev main_v22 : Ref sig .tc := ⟨.hbm, 54, rfl⟩
abbrev main_c_4 : Ref sig .tc := ⟨.hbm, 55, rfl⟩
abbrev main_v23 : Ref sig .tc := ⟨.hbm, 56, rfl⟩
abbrev main_v24 : Ref sig .tc := ⟨.hbm, 57, rfl⟩
abbrev main_call2_v0 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_cst_5 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_cst_6 : Ref sig .tc := ⟨.hbm, 68, rfl⟩
abbrev main_v33 : Ref sig .tc := ⟨.hbm, 69, rfl⟩
abbrev main_v34 : Ref sig .tc := ⟨.hbm, 70, rfl⟩
abbrev main_c_7 : Ref sig .tc := ⟨.hbm, 71, rfl⟩
abbrev main_call3_v0 : Ref sig .tc := ⟨.hbm, 72, rfl⟩
abbrev main_call3_v1 : Ref sig .tc := ⟨.hbm, 73, rfl⟩
abbrev main_call3_v2 : Ref sig .tc := ⟨.hbm, 74, rfl⟩
abbrev main_call3_v3 : Ref sig .tc := ⟨.hbm, 75, rfl⟩
abbrev main_call3_v4 : Ref sig .tc := ⟨.hbm, 76, rfl⟩
abbrev main_call3_v5 : Ref sig .tc := ⟨.hbm, 77, rfl⟩
abbrev main_call3_v6 : Ref sig .tc := ⟨.hbm, 78, rfl⟩
abbrev main_call3_v7 : Ref sig .tc := ⟨.hbm, 79, rfl⟩
abbrev main_call3_v8 : Ref sig .tc := ⟨.hbm, 80, rfl⟩
abbrev main_call3_c : Ref sig .tc := ⟨.hbm, 81, rfl⟩
abbrev main_call3_v9 : Ref sig .tc := ⟨.hbm, 82, rfl⟩
abbrev main_call3_v10 : Ref sig .tc := ⟨.hbm, 83, rfl⟩
abbrev main_call3_v11 : Ref sig .tc := ⟨.hbm, 84, rfl⟩
abbrev main_call3_c_0 : Ref sig .tc := ⟨.hbm, 85, rfl⟩
abbrev main_call3_v12 : Ref sig .tc := ⟨.hbm, 86, rfl⟩
abbrev main_call3_v13 : Ref sig .tc := ⟨.hbm, 87, rfl⟩
abbrev main_v35 : Ref sig .tc := ⟨.hbm, 88, rfl⟩
abbrev main_v36 : Ref sig .tc := ⟨.hbm, 89, rfl⟩
abbrev main_c_8 : Ref sig .tc := ⟨.hbm, 90, rfl⟩
abbrev main_v37 : Ref sig .tc := ⟨.hbm, 91, rfl⟩
abbrev main_v38 : Ref sig .tc := ⟨.hbm, 92, rfl⟩
abbrev main_call4_v0 : Ref sig .tc := ⟨.hbm, 93, rfl⟩
abbrev main_v39 : Ref sig .tc := ⟨.hbm, 94, rfl⟩
abbrev main_c_9 : Ref sig .tc := ⟨.hbm, 95, rfl⟩
abbrev main_v40 : Ref sig .tc := ⟨.hbm, 96, rfl⟩
abbrev main_v41 : Ref sig .tc := ⟨.hbm, 97, rfl⟩
abbrev main_call5_v0 : Ref sig .tc := ⟨.hbm, 98, rfl⟩
abbrev main_v42 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_v46 : Ref sig .tc := ⟨.hbm, 103, rfl⟩
abbrev main_cst_10 : Ref sig .tc := ⟨.hbm, 104, rfl⟩
abbrev main_v47 : Ref sig .tc := ⟨.hbm, 105, rfl⟩
abbrev main_v48 : Ref sig .tc := ⟨.hbm, 106, rfl⟩
abbrev main_v49 : Ref sig .tc := ⟨.hbm, 107, rfl⟩
abbrev main_v50 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_cst_11 : Ref sig .tc := ⟨.hbm, 112, rfl⟩
abbrev main_v54 : Ref sig .tc := ⟨.hbm, 113, rfl⟩
abbrev main_v55 : Ref sig .tc := ⟨.hbm, 114, rfl⟩
abbrev main_c_12 : Ref sig .tc := ⟨.hbm, 115, rfl⟩
abbrev main_call6_v0 : Ref sig .tc := ⟨.hbm, 116, rfl⟩
abbrev main_call6_v1 : Ref sig .tc := ⟨.hbm, 117, rfl⟩
abbrev main_call6_v2 : Ref sig .tc := ⟨.hbm, 118, rfl⟩
abbrev main_call6_v3 : Ref sig .tc := ⟨.hbm, 119, rfl⟩
abbrev main_call6_v4 : Ref sig .tc := ⟨.hbm, 120, rfl⟩
abbrev main_call6_v5 : Ref sig .tc := ⟨.hbm, 121, rfl⟩
abbrev main_call6_v6 : Ref sig .tc := ⟨.hbm, 122, rfl⟩
abbrev main_call6_v7 : Ref sig .tc := ⟨.hbm, 123, rfl⟩
abbrev main_call6_v8 : Ref sig .tc := ⟨.hbm, 124, rfl⟩
abbrev main_call6_c : Ref sig .tc := ⟨.hbm, 125, rfl⟩
abbrev main_call6_v9 : Ref sig .tc := ⟨.hbm, 126, rfl⟩
abbrev main_call6_v10 : Ref sig .tc := ⟨.hbm, 127, rfl⟩
abbrev main_call6_v11 : Ref sig .tc := ⟨.hbm, 128, rfl⟩
abbrev main_call6_c_0 : Ref sig .tc := ⟨.hbm, 129, rfl⟩
abbrev main_call6_v12 : Ref sig .tc := ⟨.hbm, 130, rfl⟩
abbrev main_call6_v13 : Ref sig .tc := ⟨.hbm, 131, rfl⟩
abbrev main_v56 : Ref sig .tc := ⟨.hbm, 132, rfl⟩
abbrev main_v57 : Ref sig .tc := ⟨.hbm, 133, rfl⟩
abbrev main_c_13 : Ref sig .tc := ⟨.hbm, 134, rfl⟩
abbrev main_v58 : Ref sig .tc := ⟨.hbm, 135, rfl⟩
abbrev main_v59 : Ref sig .tc := ⟨.hbm, 136, rfl⟩
abbrev main_call7_v0 : Ref sig .tc := ⟨.hbm, 137, rfl⟩
abbrev main_v60 : Ref sig .tc := ⟨.hbm, 138, rfl⟩
abbrev main_c_14 : Ref sig .tc := ⟨.hbm, 139, rfl⟩
abbrev main_v61 : Ref sig .tc := ⟨.hbm, 140, rfl⟩
abbrev main_v62 : Ref sig .tc := ⟨.hbm, 141, rfl⟩
abbrev main_call8_v0 : Ref sig .tc := ⟨.hbm, 142, rfl⟩
abbrev main_v63 : Ref sig .tc := ⟨.hbm, 143, rfl⟩
abbrev main_v64 : Ref sig .tc := ⟨.hbm, 144, rfl⟩
abbrev main_v65 : Ref sig .tc := ⟨.hbm, 145, rfl⟩
abbrev main_cst_15 : Ref sig .tc := ⟨.hbm, 146, rfl⟩
abbrev main_v66 : Ref sig .tc := ⟨.hbm, 147, rfl⟩
abbrev main_v67 : Ref sig .tc := ⟨.hbm, 148, rfl⟩
abbrev main_v68 : Ref sig .tc := ⟨.hbm, 149, rfl⟩
abbrev main_v69 : Ref sig .tc := ⟨.hbm, 150, rfl⟩
abbrev main_v70 : Ref sig .tc := ⟨.hbm, 151, rfl⟩
abbrev main_v71 : Ref sig .tc := ⟨.hbm, 152, rfl⟩
abbrev main_v72 : Ref sig .tc := ⟨.hbm, 153, rfl⟩
abbrev main_cst_16 : Ref sig .tc := ⟨.hbm, 154, rfl⟩
abbrev main_v73 : Ref sig .tc := ⟨.hbm, 155, rfl⟩
abbrev main_v74 : Ref sig .tc := ⟨.hbm, 156, rfl⟩
abbrev main_c_17 : Ref sig .tc := ⟨.hbm, 157, rfl⟩
abbrev main_call9_v0 : Ref sig .tc := ⟨.hbm, 158, rfl⟩
abbrev main_call9_v1 : Ref sig .tc := ⟨.hbm, 159, rfl⟩
abbrev main_call9_v2 : Ref sig .tc := ⟨.hbm, 160, rfl⟩
abbrev main_call9_v3 : Ref sig .tc := ⟨.hbm, 161, rfl⟩
abbrev main_call9_v4 : Ref sig .tc := ⟨.hbm, 162, rfl⟩
abbrev main_call9_v5 : Ref sig .tc := ⟨.hbm, 163, rfl⟩
abbrev main_call9_v6 : Ref sig .tc := ⟨.hbm, 164, rfl⟩
abbrev main_call9_v7 : Ref sig .tc := ⟨.hbm, 165, rfl⟩
abbrev main_call9_v8 : Ref sig .tc := ⟨.hbm, 166, rfl⟩
abbrev main_call9_c : Ref sig .tc := ⟨.hbm, 167, rfl⟩
abbrev main_call9_v9 : Ref sig .tc := ⟨.hbm, 168, rfl⟩
abbrev main_call9_v10 : Ref sig .tc := ⟨.hbm, 169, rfl⟩
abbrev main_call9_v11 : Ref sig .tc := ⟨.hbm, 170, rfl⟩
abbrev main_call9_c_0 : Ref sig .tc := ⟨.hbm, 171, rfl⟩
abbrev main_call9_v12 : Ref sig .tc := ⟨.hbm, 172, rfl⟩
abbrev main_call9_v13 : Ref sig .tc := ⟨.hbm, 173, rfl⟩
abbrev main_v75 : Ref sig .tc := ⟨.hbm, 174, rfl⟩
abbrev main_v76 : Ref sig .tc := ⟨.hbm, 175, rfl⟩
abbrev main_c_18 : Ref sig .tc := ⟨.hbm, 176, rfl⟩
abbrev main_v77 : Ref sig .tc := ⟨.hbm, 177, rfl⟩
abbrev main_v78 : Ref sig .tc := ⟨.hbm, 178, rfl⟩
abbrev main_call10_v0 : Ref sig .tc := ⟨.hbm, 179, rfl⟩
abbrev main_v79 : Ref sig .tc := ⟨.hbm, 180, rfl⟩
abbrev main_c_19 : Ref sig .tc := ⟨.hbm, 181, rfl⟩
abbrev main_v80 : Ref sig .tc := ⟨.hbm, 182, rfl⟩
abbrev main_v81 : Ref sig .tc := ⟨.hbm, 183, rfl⟩
abbrev main_call11_v0 : Ref sig .tc := ⟨.hbm, 184, rfl⟩
abbrev main_v82 : Ref sig .tc := ⟨.hbm, 185, rfl⟩
abbrev main_v83 : Ref sig .tc := ⟨.hbm, 186, rfl⟩
abbrev main_v84 : Ref sig .tc := ⟨.hbm, 187, rfl⟩
abbrev main_v85 : Ref sig .tc := ⟨.hbm, 188, rfl⟩
abbrev main_v86 : Ref sig .tc := ⟨.hbm, 189, rfl⟩
abbrev main_v87 : Ref sig .tc := ⟨.hbm, 190, rfl⟩
abbrev main_v88 : Ref sig .tc := ⟨.hbm, 191, rfl⟩
abbrev main_v89 : Ref sig .tc := ⟨.hbm, 192, rfl⟩
abbrev main_v90 : Ref sig .tc := ⟨.hbm, 193, rfl⟩
abbrev main_v91 : Ref sig .tc := ⟨.hbm, 194, rfl⟩
abbrev main_v92 : Ref sig .tc := ⟨.hbm, 195, rfl⟩
abbrev main_v93 : Ref sig .tc := ⟨.hbm, 196, rfl⟩
abbrev main_v94 : Ref sig .tc := ⟨.hbm, 197, rfl⟩
abbrev main_v95 : Ref sig .tc := ⟨.hbm, 198, rfl⟩
abbrev main_cst_20 : Ref sig .tc := ⟨.hbm, 199, rfl⟩
abbrev main_v96 : Ref sig .tc := ⟨.hbm, 200, rfl⟩
abbrev main_v97 : Ref sig .tc := ⟨.hbm, 201, rfl⟩
abbrev main_v98 : Ref sig .tc := ⟨.hbm, 202, rfl⟩
abbrev main_v99 : Ref sig .tc := ⟨.hbm, 203, rfl⟩
abbrev main_v100_0 : Ref sig .tc := ⟨.hbm, 204, rfl⟩
abbrev main_v100_1 : Ref sig .tc := ⟨.hbm, 205, rfl⟩
abbrev main_v100_2 : Ref sig .tc := ⟨.hbm, 206, rfl⟩
abbrev main_v100_3 : Ref sig .tc := ⟨.hbm, 207, rfl⟩
abbrev main_v100_4 : Ref sig .tc := ⟨.hbm, 208, rfl⟩
abbrev main_v100_5 : Ref sig .tc := ⟨.hbm, 209, rfl⟩
abbrev main_v100_6 : Ref sig .tc := ⟨.hbm, 210, rfl⟩
abbrev main_v100_7 : Ref sig .tc := ⟨.hbm, 211, rfl⟩
abbrev main_v100_8 : Ref sig .tc := ⟨.hbm, 212, rfl⟩
abbrev main_v100_9 : Ref sig .tc := ⟨.hbm, 213, rfl⟩
abbrev main_v100_10 : Ref sig .tc := ⟨.hbm, 214, rfl⟩
abbrev main_v100_11 : Ref sig .tc := ⟨.hbm, 215, rfl⟩
abbrev main_v100_12 : Ref sig .tc := ⟨.hbm, 216, rfl⟩
abbrev main_v100_13 : Ref sig .tc := ⟨.hbm, 217, rfl⟩
abbrev main_v100_14 : Ref sig .tc := ⟨.hbm, 218, rfl⟩
abbrev main_v100_15 : Ref sig .tc := ⟨.hbm, 219, rfl⟩
abbrev main_v100_16 : Ref sig .tc := ⟨.hbm, 220, rfl⟩
abbrev main_v100_17 : Ref sig .tc := ⟨.hbm, 221, rfl⟩
abbrev main_v100_18 : Ref sig .tc := ⟨.hbm, 222, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_stg21_0 : Ref sig .tc := ⟨.vmem, 35, rfl⟩
abbrev cc0_stg21_1 : Ref sig .tc := ⟨.vmem, 36, rfl⟩
abbrev cc0_stg22_0 : Ref sig .tc := ⟨.vmem, 37, rfl⟩
abbrev cc0_stg22_1 : Ref sig .tc := ⟨.vmem, 38, rfl⟩
abbrev cc0_stg23_0 : Ref sig .tc := ⟨.vmem, 39, rfl⟩
abbrev cc0_stg23_1 : Ref sig .tc := ⟨.vmem, 40, rfl⟩
abbrev cc0_stg24_0 : Ref sig .tc := ⟨.vmem, 41, rfl⟩
abbrev cc0_stg24_1 : Ref sig .tc := ⟨.vmem, 42, rfl⟩
abbrev cc0_stg25_0 : Ref sig .tc := ⟨.vmem, 43, rfl⟩
abbrev cc0_stg25_1 : Ref sig .tc := ⟨.vmem, 44, rfl⟩
abbrev cc0_stg26_0 : Ref sig .tc := ⟨.vmem, 45, rfl⟩
abbrev cc0_stg26_1 : Ref sig .tc := ⟨.vmem, 46, rfl⟩
abbrev cc0_scratch0 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34
abbrev cc0_sem21_0 : DmaSem sig := 35
abbrev cc0_sem21_1 : DmaSem sig := 36
abbrev cc0_sem22_0 : DmaSem sig := 37
abbrev cc0_sem22_1 : DmaSem sig := 38
abbrev cc0_sem23_0 : DmaSem sig := 39
abbrev cc0_sem23_1 : DmaSem sig := 40
abbrev cc0_sem24_0 : DmaSem sig := 41
abbrev cc0_sem24_1 : DmaSem sig := 42
abbrev cc0_sem25_0 : DmaSem sig := 43
abbrev cc0_sem25_1 : DmaSem sig := 44
abbrev cc0_sem26_0 : DmaSem sig := 45
abbrev cc0_sem26_1 : DmaSem sig := 46

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6400 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x128 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S512x64 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S512x128 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S512x128 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S512x128 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]
-- ==== ProjRefIdeal.lean ====
abbrev S65536x1024 : Shape := ⟨2, ![65536, 1024]⟩
abbrev S1024 : Shape := ⟨1, ![1024]⟩
abbrev S1024x4704 : Shape := ⟨2, ![1024, 4704]⟩
abbrev S64 : Shape := ⟨1, ![64]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x4704 : Shape := ⟨2, ![65536, 4704]⟩
abbrev S65536x512 : Shape := ⟨2, ![65536, 512]⟩
abbrev S65536x256 : Shape := ⟨2, ![65536, 256]⟩
abbrev S65536x8 : Shape := ⟨2, ![65536, 8]⟩
abbrev S65536x64 : Shape := ⟨2, ![65536, 64]⟩
abbrev S65536x24 : Shape := ⟨2, ![65536, 24]⟩
abbrev S65536x8x64 : Shape := ⟨3, ![65536, 8, 64]⟩
abbrev S65536x8x128 : Shape := ⟨3, ![65536, 8, 128]⟩
abbrev S1x64 : Shape := ⟨2, ![1, 64]⟩
abbrev S65536x128 : Shape := ⟨2, ![65536, 128]⟩
abbrev S65536x96 : Shape := ⟨2, ![65536, 96]⟩
abbrev S65536x8x1 : Shape := ⟨3, ![65536, 8, 1]⟩
abbrev S1x1x64 : Shape := ⟨3, ![1, 1, 64]⟩
abbrev S65536x2x4x64 : Shape := ⟨4, ![65536, 2, 4, 64]⟩
abbrev S65536x4x64 : Shape := ⟨3, ![65536, 4, 64]⟩
abbrev S65536x1x4x64 : Shape := ⟨4, ![65536, 1, 4, 64]⟩
abbrev S65536x4x128 : Shape := ⟨3, ![65536, 4, 128]⟩
abbrev S65536x2x64 : Shape := ⟨3, ![65536, 2, 64]⟩
abbrev S65536x2 : Shape := ⟨2, ![65536, 2]⟩
abbrev S65536x2x1 : Shape := ⟨3, ![65536, 2, 1]⟩

abbrev nBuf : Space → Nat
  | .hbm => 230
  | .vmem => 0
  | .smem => 0
  | _ => 0

abbrev hbmTy0_0 (i : Nat) : BufTy := match i % 128 with
  | 0 => ⟨S65536x1024, .f32⟩
  | 1 => ⟨S1024, .f32⟩
  | 2 => ⟨S1024x4704, .f32⟩
  | 3 => ⟨S64, .f32⟩
  | 4 => ⟨S64, .f32⟩
  | 5 => ⟨S64, .f32⟩
  | 6 => ⟨S64, .f32⟩
  | 7 => ⟨S64, .f32⟩
  | 8 => ⟨S64, .f32⟩
  | 9 => ⟨S65536x1024, .f32⟩
  | 10 => ⟨S_, .f32⟩
  | 11 => ⟨S65536, .f32⟩
  | 12 => ⟨S65536x1, .f32⟩
  | 13 => ⟨S_, .f32⟩
  | 14 => ⟨S65536x1, .f32⟩
  | 15 => ⟨S65536x1, .f32⟩
  | 16 => ⟨S_, .f32⟩
  | 17 => ⟨S65536x1, .f32⟩
  | 18 => ⟨S65536x1, .f32⟩
  | 19 => ⟨S65536x1, .f32⟩
  | 20 => ⟨S65536x1024, .f32⟩
  | 21 => ⟨S65536x1024, .f32⟩
  | 22 => ⟨S1x1024, .f32⟩
  | 23 => ⟨S65536x1024, .f32⟩
  | 24 => ⟨S65536x1024, .f32⟩
  | 25 => ⟨S65536x4704, .f32⟩
  | 26 => ⟨S65536x512, .f32⟩
  | 27 => ⟨S65536x256, .f32⟩
  | 28 => ⟨S65536x512, .f32⟩
  | 29 => ⟨S65536x8, .f32⟩
  | 30 => ⟨S65536x64, .f32⟩
  | 31 => ⟨S65536x512, .f32⟩
  | 32 => ⟨S65536x256, .f32⟩
  | 33 => ⟨S65536x256, .f32⟩
  | 34 => ⟨S65536x256, .f32⟩
  | 35 => ⟨S65536x24, .f32⟩
  | 36 => ⟨S65536x1024, .f32⟩
  | 37 => ⟨S65536x1024, .f32⟩
  | 38 => ⟨S_, .f32⟩
  | 39 => ⟨S65536x512, .f32⟩
  | 40 => ⟨S65536x512, .f32⟩
  | 41 => ⟨S65536x8x64, .f32⟩
  | 42 => ⟨S_, .f32⟩
  | 43 => ⟨S65536x8x64, .f32⟩
  | 44 => ⟨S65536x8x128, .f32⟩
  | 45 => ⟨S65536x1024, .f32⟩
  | 46 => ⟨S65536x1024, .bf16⟩
  | 47 => ⟨S65536x64, .f32⟩
  | 48 => ⟨S_, .f32⟩
  | 49 => ⟨S65536, .f32⟩
  | 50 => ⟨S65536x1, .f32⟩
  | 51 => ⟨S_, .f32⟩
  | 52 => ⟨S65536x1, .f32⟩
  | 53 => ⟨S65536x1, .f32⟩
  | 54 => ⟨S_, .f32⟩
  | 55 => ⟨S65536x1, .f32⟩
  | 56 => ⟨S65536x1, .f32⟩
  | 57 => ⟨S65536x1, .f32⟩
  | 58 => ⟨S65536x64, .f32⟩
  | 59 => ⟨S65536x64, .f32⟩
  | 60 => ⟨S1x64, .f32⟩
  | 61 => ⟨S65536x64, .f32⟩
  | 62 => ⟨S65536x64, .f32⟩
  | 63 => ⟨S_, .f32⟩
  | 64 => ⟨S65536x64, .f32⟩
  | 65 => ⟨S65536x128, .f32⟩
  | 66 => ⟨S65536x128, .bf16⟩
  | 67 => ⟨S_, .f32⟩
  | 68 => ⟨S65536x96, .f32⟩
  | 69 => ⟨S65536x128, .f32⟩
  | 70 => ⟨S65536x8x64, .f32⟩
  | 71 => ⟨S65536x8x64, .f32⟩
  | 72 => ⟨S_, .f32⟩
  | 73 => ⟨S65536x8, .f32⟩
  | 74 => ⟨S65536x8x1, .f32⟩
  | 75 => ⟨S_, .f32⟩
  | 76 => ⟨S65536x8x1, .f32⟩
  | 77 => ⟨S65536x8x1, .f32⟩
  | 78 => ⟨S_, .f32⟩
  | 79 => ⟨S65536x8x1, .f32⟩
  | 80 => ⟨S65536x8x1, .f32⟩
  | 81 => ⟨S65536x8x1, .f32⟩
  | 82 => ⟨S65536x8x64, .f32⟩
  | 83 => ⟨S65536x8x64, .f32⟩
  | 84 => ⟨S1x1x64, .f32⟩
  | 85 => ⟨S65536x8x64, .f32⟩
  | 86 => ⟨S65536x8x64, .f32⟩
  | 87 => ⟨S_, .f32⟩
  | 88 => ⟨S65536x8x64, .f32⟩
  | 89 => ⟨S65536x8x64, .f32⟩
  | 90 => ⟨S65536x2x4x64, .f32⟩
  | 91 => ⟨S_, .f32⟩
  | 92 => ⟨S65536x4x64, .f32⟩
  | 93 => ⟨S65536x1x4x64, .f32⟩
  | 94 => ⟨S65536x4x64, .f32⟩
  | 95 => ⟨S65536x4x128, .f32⟩
  | 96 => ⟨S65536x1x4x64, .f32⟩
  | 97 => ⟨S65536x4x64, .f32⟩
  | 98 => ⟨S65536x4x128, .f32⟩
  | 99 => ⟨S65536x8x128, .f32⟩
  | 100 => ⟨S65536x1024, .f32⟩
  | 101 => ⟨S65536x1024, .bf16⟩
  | 102 => ⟨S65536x8x64, .f32⟩
  | 103 => ⟨S65536x8x64, .f32⟩
  | 104 => ⟨S_, .f32⟩
  | 105 => ⟨S65536x8, .f32⟩
  | 106 => ⟨S65536x8x1, .f32⟩
  | 107 => ⟨S_, .f32⟩
  | 108 => ⟨S65536x8x1, .f32⟩
  | 109 => ⟨S65536x8x1, .f32⟩
  | 110 => ⟨S_, .f32⟩
  | 111 => ⟨S65536x8x1, .f32⟩
  | 112 => ⟨S65536x8x1, .f32⟩
  | 113 => ⟨S65536x8x1, .f32⟩
  | 114 => ⟨S65536x8x64, .f32⟩
  | 115 => ⟨S65536x8x64, .f32⟩
  | 116 => ⟨S1x1x64, .f32⟩
  | 117 => ⟨S65536x8x64, .f32⟩
  | 118 => ⟨S65536x8x64, .f32⟩
  | 119 => ⟨S_, .f32⟩
  | 120 => ⟨S65536x8x64, .f32⟩
  | 121 => ⟨S65536x8x64, .f32⟩
  | 122 => ⟨S65536x2x4x64, .f32⟩
  | 123 => ⟨S_, .f32⟩
  | 124 => ⟨S65536x4x64, .f32⟩
  | 125 => ⟨S65536x1x4x64, .f32⟩
  | 126 => ⟨S65536x4x64, .f32⟩
  | 127 => ⟨S65536x4x128, .f32⟩
  | _ => ⟨S65536x1024, .f32⟩

abbrev hbmTy0_1 (i : Nat) : BufTy := match i % 128 with
  | 0 => ⟨S65536x1x4x64, .f32⟩
  | 1 => ⟨S65536x4x64, .f32⟩
  | 2 => ⟨S65536x4x128, .f32⟩
  | 3 => ⟨S65536x8x128, .f32⟩
  | 4 => ⟨S65536x1024, .f32⟩
  | 5 => ⟨S65536x1024, .bf16⟩
  | 6 => ⟨S65536x128, .f32⟩
  | 7 => ⟨S65536x2x64, .f32⟩
  | 8 => ⟨S65536x2x64, .f32⟩
  | 9 => ⟨S_, .f32⟩
  | 10 => ⟨S65536x2, .f32⟩
  | 11 => ⟨S65536x2x1, .f32⟩
  | 12 => ⟨S_, .f32⟩
  | 13 => ⟨S65536x2x1, .f32⟩
  | 14 => ⟨S65536x2x1, .f32⟩
  | 15 => ⟨S_, .f32⟩
  | 16 => ⟨S65536x2x1, .f32⟩
  | 17 => ⟨S65536x2x1, .f32⟩
  | 18 => ⟨S65536x2x1, .f32⟩
  | 19 => ⟨S65536x2x64, .f32⟩
  | 20 => ⟨S65536x2x64, .f32⟩
  | 21 => ⟨S1x1x64, .f32⟩
  | 22 => ⟨S65536x2x64, .f32⟩
  | 23 => ⟨S65536x2x64, .f32⟩
  | 24 => ⟨S65536x128, .f32⟩
  | 25 => ⟨S65536x128, .f32⟩
  | 26 => ⟨S65536x256, .f32⟩
  | 27 => ⟨S65536x128, .bf16⟩
  | 28 => ⟨S65536x128, .bf16⟩
  | 29 => ⟨S65536x128, .f32⟩
  | 30 => ⟨S65536x2x64, .f32⟩
  | 31 => ⟨S65536x2x64, .f32⟩
  | 32 => ⟨S_, .f32⟩
  | 33 => ⟨S65536x2, .f32⟩
  | 34 => ⟨S65536x2x1, .f32⟩
  | 35 => ⟨S_, .f32⟩
  | 36 => ⟨S65536x2x1, .f32⟩
  | 37 => ⟨S65536x2x1, .f32⟩
  | 38 => ⟨S_, .f32⟩
  | 39 => ⟨S65536x2x1, .f32⟩
  | 40 => ⟨S65536x2x1, .f32⟩
  | 41 => ⟨S65536x2x1, .f32⟩
  | 42 => ⟨S65536x2x64, .f32⟩
  | 43 => ⟨S65536x2x64, .f32⟩
  | 44 => ⟨S1x1x64, .f32⟩
  | 45 => ⟨S65536x2x64, .f32⟩
  | 46 => ⟨S65536x2x64, .f32⟩
  | 47 => ⟨S65536x128, .f32⟩
  | 48 => ⟨S65536x128, .f32⟩
  | 49 => ⟨S65536x256, .f32⟩
  | 50 => ⟨S65536x128, .bf16⟩
  | 51 => ⟨S65536x128, .bf16⟩
  | 52 => ⟨S65536x128, .f32⟩
  | 53 => ⟨S65536x2x64, .f32⟩
  | 54 => ⟨S65536x2x64, .f32⟩
  | 55 => ⟨S_, .f32⟩
  | 56 => ⟨S65536x2, .f32⟩
  | 57 => ⟨S65536x2x1, .f32⟩
  | 58 => ⟨S_, .f32⟩
  | 59 => ⟨S65536x2x1, .f32⟩
  | 60 => ⟨S65536x2x1, .f32⟩
  | 61 => ⟨S_, .f32⟩
  | 62 => ⟨S65536x2x1, .f32⟩
  | 63 => ⟨S65536x2x1, .f32⟩
  | 64 => ⟨S65536x2x1, .f32⟩
  | 65 => ⟨S65536x2x64, .f32⟩
  | 66 => ⟨S65536x2x64, .f32⟩
  | 67 => ⟨S1x1x64, .f32⟩
  | 68 => ⟨S65536x2x64, .f32⟩
  | 69 => ⟨S65536x2x64, .f32⟩
  | 70 => ⟨S65536x128, .f32⟩
  | 71 => ⟨S65536x128, .f32⟩
  | 72 => ⟨S65536x256, .f32⟩
  | 73 => ⟨S65536x128, .bf16⟩
  | 74 => ⟨S65536x128, .bf16⟩
  | 75 => ⟨S65536x1024, .f32⟩
  | 76 => ⟨S65536x1024, .f32⟩
  | 77 => ⟨S_, .f32⟩
  | 78 => ⟨S65536x1024, .f32⟩
  | 79 => ⟨S65536x1024, .f32⟩
  | 80 => ⟨S_, .f32⟩
  | 81 => ⟨S65536x1024, .f32⟩
  | 82 => ⟨S65536x1024, .f32⟩
  | 83 => ⟨S65536x1024, .f32⟩
  | 84 => ⟨S65536x1024, .f32⟩
  | 85 => ⟨S_, .f32⟩
  | 86 => ⟨S65536x1024, .f32⟩
  | 87 => ⟨S65536x1024, .f32⟩
  | 88 => ⟨S_, .f32⟩
  | 89 => ⟨S65536x1024, .f32⟩
  | 90 => ⟨S65536x1024, .f32⟩
  | 91 => ⟨S_, .f32⟩
  | 92 => ⟨S65536x128, .f32⟩
  | 93 => ⟨S65536x128, .f32⟩
  | 94 => ⟨S65536x128, .f32⟩
  | 95 => ⟨S65536x128, .f32⟩
  | 96 => ⟨S_, .f32⟩
  | 97 => ⟨S65536x128, .f32⟩
  | 98 => ⟨S65536x128, .f32⟩
  | 99 => ⟨S_, .f32⟩
  | 100 => ⟨S65536x128, .f32⟩
  | 101 => ⟨S65536x128, .f32⟩
  | _ => ⟨S65536x1024, .f32⟩

abbrev hbmTy (i : Nat) : BufTy := match i / 128 with
  | 0 => hbmTy0_0 i
  | 1 => hbmTy0_1 i
  | _ => ⟨S65536x1024, .f32⟩

abbrev bufTy : (tb : Table) → Fin (tcTables nBuf tb) → BufTy
  | .hbm, ⟨i, _⟩ => hbmTy i
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_7 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_8 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_9 : Ref sig .tc := ⟨.hbm, 72, rfl⟩
abbrev main_v53 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_12 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_13 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_14 : Ref sig .tc := ⟨.hbm, 104, rfl⟩
abbrev main_v80 : Ref sig .tc := ⟨.hbm, 105, rfl⟩
abbrev main_v81 : Ref sig .tc := ⟨.hbm, 106, rfl⟩
abbrev main_cst_15 : Ref sig .tc := ⟨.hbm, 107, rfl⟩
abbrev main_v82 : Ref sig .tc := ⟨.hbm, 108, rfl⟩
abbrev main_v83 : Ref sig .tc := ⟨.hbm, 109, rfl⟩
abbrev main_cst_16 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_cst_17 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_cst_18 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_cst_19 : Ref sig .tc := ⟨.hbm, 137, rfl⟩
abbrev main_v108 : Ref sig .tc := ⟨.hbm, 138, rfl⟩
abbrev main_v109 : Ref sig .tc := ⟨.hbm, 139, rfl⟩
abbrev main_cst_20 : Ref sig .tc := ⟨.hbm, 140, rfl⟩
abbrev main_v110 : Ref sig .tc := ⟨.hbm, 141, rfl⟩
abbrev main_v111 : Ref sig .tc := ⟨.hbm, 142, rfl⟩
abbrev main_cst_21 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_cst_22 : Ref sig .tc := ⟨.hbm, 160, rfl⟩
abbrev main_v128 : Ref sig .tc := ⟨.hbm, 161, rfl⟩
abbrev main_v129 : Ref sig .tc := ⟨.hbm, 162, rfl⟩
abbrev main_cst_23 : Ref sig .tc := ⟨.hbm, 163, rfl⟩
abbrev main_v130 : Ref sig .tc := ⟨.hbm, 164, rfl⟩
abbrev main_v131 : Ref sig .tc := ⟨.hbm, 165, rfl⟩
abbrev main_cst_24 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_cst_25 : Ref sig .tc := ⟨.hbm, 183, rfl⟩
abbrev main_v148 : Ref sig .tc := ⟨.hbm, 184, rfl⟩
abbrev main_v149 : Ref sig .tc := ⟨.hbm, 185, rfl⟩
abbrev main_cst_26 : Ref sig .tc := ⟨.hbm, 186, rfl⟩
abbrev main_v150 : Ref sig .tc := ⟨.hbm, 187, rfl⟩
abbrev main_v151 : Ref sig .tc := ⟨.hbm, 188, rfl⟩
abbrev main_cst_27 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩
abbrev main_cst_28 : Ref sig .tc := ⟨.hbm, 205, rfl⟩
abbrev main_v167 : Ref sig .tc := ⟨.hbm, 206, rfl⟩
abbrev main_v168 : Ref sig .tc := ⟨.hbm, 207, rfl⟩
abbrev main_cst_29 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩
abbrev main_cst_30 : Ref sig .tc := ⟨.hbm, 213, rfl⟩
abbrev main_v173 : Ref sig .tc := ⟨.hbm, 214, rfl⟩
abbrev main_v174 : Ref sig .tc := ⟨.hbm, 215, rfl⟩
abbrev main_cst_31 : Ref sig .tc := ⟨.hbm, 216, rfl⟩
abbrev main_v175 : Ref sig .tc := ⟨.hbm, 217, rfl⟩
abbrev main_v176 : Ref sig .tc := ⟨.hbm, 218, rfl⟩
abbrev main_cst_32 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_v180 : Ref sig .tc := ⟨.hbm, 223, rfl⟩
abbrev main_cst_33 : Ref sig .tc := ⟨.hbm, 224, rfl⟩
abbrev main_v181 : Ref sig .tc := ⟨.hbm, 225, rfl⟩
abbrev main_v182 : Ref sig .tc := ⟨.hbm, 226, rfl⟩
abbrev main_cst_34 : Ref sig .tc := ⟨.hbm, 227, rfl⟩
abbrev main_v183 : Ref sig .tc := ⟨.hbm, 228, rfl⟩
abbrev main_v184 : Ref sig .tc := ⟨.hbm, 229, rfl⟩

abbrev nD : Nat := 1
abbrev τ : Topo := Topo.v7x

variable {F : FTy → Type} [FloatOps F]
-- ==== Proof.HeadNorm.lean ====
/- The mean square of a head's 64 lanes, as the calls compute it: the squares of a row of 128 lanes, split in two parts that
   round trip through bf16, each multiplied by the matrix that is one where two lanes lie in the same half. Over the reals the
   second part vanishes, if the squares are finite, and the sum over the 128 lanes is the sum over the lane's own head. -/
module

public import Idealize.ShloMosaic.Lib.Pipeline.ValueKit
public import Idealize.ShloMosaic.Lib.ReduceAll

@[expose] public section

noncomputable section

open Idealize.ShloMosaic

namespace Cert.HeadNorm

/-- A finite value. -/
def Real' (x : EReal) : Prop := ∃ r : ℝ, x = (r : EReal)

theorem Real'.mul {x y : EReal} : Real' x → Real' y → Real' (x * y) := by
  rintro ⟨a, rfl⟩ ⟨b, rfl⟩; exact ⟨a * b, (EReal.coe_mul a b).symm⟩

theorem Real'.add {x y : EReal} : Real' x → Real' y → Real' (x + y) := by
  rintro ⟨a, rfl⟩ ⟨b, rfl⟩; exact ⟨a + b, (EReal.coe_add a b).symm⟩

theorem Real'.zero : Real' 0 := ⟨0, rfl⟩

theorem Real'.sum {ι : Type} (s : Finset ι) (f : ι → EReal) (h : ∀ i ∈ s, Real' (f i)) : Real' (∑ i ∈ s, f i) := by
  classical
  induction s using Finset.induction_on with
  | empty => exact Real'.zero
  | insert a s ha ih =>
    rw [Finset.sum_insert ha]
    exact (h a (Finset.mem_insert_self _ _)).add (ih fun i hi => h i (Finset.mem_insert_of_mem hi))

theorem Real'.sub_self {x : EReal} : Real' x → x - x = 0 := by
  rintro ⟨a, rfl⟩; rw [← EReal.coe_sub]; simp

/-- A value whose absolute value is below infinity is finite. -/
theorem real_of_lt (x : EReal) (h : Ideal.cmp .olt (max x (-x)) (Ideal.ofBits .f32 0x7F800000#32) = 1#1) : Real' x := by
  have hi : Ideal.ofBits .f32 0x7F800000#32 = ⊤ := by simp [Ideal.ofBits, Ideal.ieee]
  rw [hi] at h
  induction x using EReal.rec with
  | bot => exfalso; revert h; simp [Ideal.cmp]
  | top => exfalso; revert h; simp [Ideal.cmp]
  | coe r => exact ⟨r, rfl⟩

/-- The word of one sixty-fourth, -/
theorem ofBits_inv64 : Ideal.ofBits .f32 0x3C800000#32 = (((1 : ℝ) / 64 : ℝ) : EReal) := by
  simp [Ideal.ofBits, Ideal.ieee, -EReal.coe_mul]; norm_num

/-- and that of sixty-four. -/
theorem ofBits_64 : Ideal.ofBits .f32 0x42800000#32 = ((64 : ℝ) : EReal) := by
  simp [Ideal.ofBits, Ideal.ieee, -EReal.coe_mul]; norm_num

/-- A lane of head `h`. -/
def lane (h : Fin 2) (d : Fin 64) : Fin 128 := ⟨h.val * 64 + d.val, by omega⟩

/-- A sum over 128 lanes that keeps those of one head is the sum over that head's lanes. -/
theorem sum_half (f : Fin 128 → EReal) (h : Fin 2) :
    ∑ x : Fin 128, f x * (if x.val / 64 = h.val then 1 else 0) = ∑ d : Fin 64, f (lane h d) := by
  refine (Fintype.sum_of_injective (lane h) (fun a b e => ?_) _ _ (fun x hx => ?_) fun d => ?_).symm
  · have := congrArg Fin.val e; simp only [lane] at this; exact Fin.ext (by omega)
  · rw [if_neg, mul_zero]
    intro e
    exact hx ⟨⟨x.val % 64, by omega⟩, Fin.ext (by simp only [lane]; omega)⟩
  · rw [if_pos, mul_one]
    simp only [lane]; omega

/-- The calls' mean square of a head of a row `z` is the sum of the head's squares divided by 64. -/
theorem mean_square (z : Fin 128 → EReal) (hz : ∀ l, Real' (z l)) (h : Fin 2) :
    (∑ x : Fin 128, z x * z x * (if x.val / 64 = h.val then 1 else 0)
      + ∑ x : Fin 128, (z x * z x - z x * z x) * (if x.val / 64 = h.val then 1 else 0)) * Ideal.ofBits .f32 0x3C800000#32
      = Ideal.div (∑ d : Fin 64, z (lane h d) * z (lane h d)) (Ideal.ofBits .f32 0x42800000#32) := by
  have e : ∀ x, z x * z x - z x * z x = 0 := fun x => ((hz x).mul (hz x)).sub_self
  simp only [e, zero_mul, Finset.sum_const_zero, add_zero]
  rw [sum_half (fun x => z x * z x), ofBits_inv64, ofBits_64, Ideal.div_coe (by norm_num)]

end Cert.HeadNorm

end
-- ==== Proof.CmpRef.lean ====
/- The block compression's reference at one element: a block's key or value row is the sum over its 32 rows and 64 channels, and
   a key row is normalised over its 64 channels. -/
module

public import proofs.«01_k».proof.Proof.Gen.CmpRefIdeal
public import proofs.«01_k».proof.Proof.HeadNorm

@[expose] public section

set_option maxRecDepth 16384

noncomputable section

open Idealize.ShloMosaic Idealize.ShloMosaic.TcCoe Idealize.SL.Sem

namespace Cert.CmpRefIdeal.Res

open Cert.CmpRefIdeal Cert.CmpRefIdeal.Gen

/-- The reference's key summaries over its arguments, -/
def REFK (a0 : FVec Ideal S65536x256 .f32) (a1 : FVec Ideal S2x32x64x64 .f32) (a2 : FVec Ideal S64 .f32) : FVec Ideal S8x256x128 .bf16 :=
  truncf .bf16 (shapeCast _ (concatenate S8x256x2x64 1 [⟨S8x128x2x64, (Host.slice S8x128x2x64 ![0, 0, 0, 0] ![1, 2, 1, 1] (mulf (mulf (shapeCast _ (extractStridedSlice S8x256x1x2x64 ![0, 0, 0, 0, 0] (transpose S8x256x2x2x64 [2, 3, 0, 4, 1] (Host.dotGeneral dot_S2x32x64x64_S8x256x32x2x2x64_S2x64x8x256x2_21_52_3_014_0_3 none a1 (shapeCast _ a0 shapeCasts_S65536x256_S8x256x32x2x2x64)) transposes_S2x64x8x256x2_S8x256x2x2x64_2_3_0_4_1) slices_S8x256x2x2x64_S8x256x1x2x64_0_0_0_0_0) shapeCasts_S8x256x1x2x64_S8x256x2x64) (broadcastInDim S8x256x2x64 ![0, 1, 2, 3] bcast_S8x256x2x1_S8x256x2x64_0_1_2_3 (Host.rsqrt (addf (Host.divf (broadcastInDim S8x256x2x1 ![0, 1, 2] bcast_S8x256x2_S8x256x2x1_0_1_2 (Host.reduceAdd (mulf (shapeCast _ (extractStridedSlice S8x256x1x2x64 ![0, 0, 0, 0, 0] (transpose S8x256x2x2x64 [2, 3, 0, 4, 1] (Host.dotGeneral dot_S2x32x64x64_S8x256x32x2x2x64_S2x64x8x256x2_21_52_3_014_0_3 none a1 (shapeCast _ a0 shapeCasts_S65536x256_S8x256x32x2x2x64)) transposes_S2x64x8x256x2_S8x256x2x2x64_2_3_0_4_1) slices_S8x256x2x2x64_S8x256x1x2x64_0_0_0_0_0) shapeCasts_S8x256x1x2x64_S8x256x2x64) (shapeCast _ (extractStridedSlice S8x256x1x2x64 ![0, 0, 0, 0, 0] (transpose S8x256x2x2x64 [2, 3, 0, 4, 1] (Host.dotGeneral dot_S2x32x64x64_S8x256x32x2x2x64_S2x64x8x256x2_21_52_3_014_0_3 none a1 (shapeCast _ a0 shapeCasts_S65536x256_S8x256x32x2x2x64)) transposes_S2x64x8x256x2_S8x256x2x2x64_2_3_0_4_1) slices_S8x256x2x2x64_S8x256x1x2x64_0_0_0_0_0) shapeCasts_S8x256x1x2x64_S8x256x2x64)) (constant S_ .f32 0x00000000#32) reducesTo_S8x256x2x64_S8x256x2_d3 h_S_)) (broadcastInDim S8x256x2x1 ![] bcast_S_S8x256x2x1 (constant S_ .f32 0x42800000#32))) (broadcastInDim S8x256x2x1 ![] bcast_S_S8x256x2x1 (constant S_ .f32 0x358637BD#32)))))) (broadcastInDim S8x256x2x64 ![0, 1, 2, 3] bcast_S1x1x1x64_S8x256x2x64_0_1_2_3 (broadcastInDim S1x1x1x64 ![3] bcast_S64_S1x1x1x64_3 a2))) slicesBy_S8x256x2x64_S8x128x2x64_0s1_0s2_0s1_0s1)⟩, ⟨S8x128x2x64, (Host.slice S8x128x2x64 ![0, 1, 0, 0] ![1, 2, 1, 1] (mulf (mulf (shapeCast _ (extractStridedSlice S8x256x1x2x64 ![0, 0, 0, 0, 0] (transpose S8x256x2x2x64 [2, 3, 0, 4, 1] (Host.dotGeneral dot_S2x32x64x64_S8x256x32x2x2x64_S2x64x8x256x2_21_52_3_014_0_3 none a1 (shapeCast _ a0 shapeCasts_S65536x256_S8x256x32x2x2x64)) transposes_S2x64x8x256x2_S8x256x2x2x64_2_3_0_4_1) slices_S8x256x2x2x64_S8x256x1x2x64_0_0_0_0_0) shapeCasts_S8x256x1x2x64_S8x256x2x64) (broadcastInDim S8x256x2x64 ![0, 1, 2, 3] bcast_S8x256x2x1_S8x256x2x64_0_1_2_3 (Host.rsqrt (addf (Host.divf (broadcastInDim S8x256x2x1 ![0, 1, 2] bcast_S8x256x2_S8x256x2x1_0_1_2 (Host.reduceAdd (mulf (shapeCast _ (extractStridedSlice S8x256x1x2x64 ![0, 0, 0, 0, 0] (transpose S8x256x2x2x64 [2, 3, 0, 4, 1] (Host.dotGeneral dot_S2x32x64x64_S8x256x32x2x2x64_S2x64x8x256x2_21_52_3_014_0_3 none a1 (shapeCast _ a0 shapeCasts_S65536x256_S8x256x32x2x2x64)) transposes_S2x64x8x256x2_S8x256x2x2x64_2_3_0_4_1) slices_S8x256x2x2x64_S8x256x1x2x64_0_0_0_0_0) shapeCasts_S8x256x1x2x64_S8x256x2x64) (shapeCast _ (extractStridedSlice S8x256x1x2x64 ![0, 0, 0, 0, 0] (transpose S8x256x2x2x64 [2, 3, 0, 4, 1] (Host.dotGeneral dot_S2x32x64x64_S8x256x32x2x2x64_S2x64x8x256x2_21_52_3_014_0_3 none a1 (shapeCast _ a0 shapeCasts_S65536x256_S8x256x32x2x2x64)) transposes_S2x64x8x256x2_S8x256x2x2x64_2_3_0_4_1) slices_S8x256x2x2x64_S8x256x1x2x64_0_0_0_0_0) shapeCasts_S8x256x1x2x64_S8x256x2x64)) (constant S_ .f32 0x00000000#32) reducesTo_S8x256x2x64_S8x256x2_d3 h_S_)) (broadcastInDim S8x256x2x1 ![] bcast_S_S8x256x2x1 (constant S_ .f32 0x42800000#32))) (broadcastInDim S8x256x2x1 ![] bcast_S_S8x256x2x1 (constant S_ .f32 0x358637BD#32)))))) (broadcastInDim S8x256x2x64 ![0, 1, 2, 3] bcast_S1x1x1x64_S8x256x2x64_0_1_2_3 (broadcastInDim S1x1x1x64 ![3] bcast_S64_S1x1x1x64_3 a2))) slicesBy_S8x256x2x64_S8x128x2x64_0s1_1s2_0s1_0s1)⟩] concatenates_S8x128x2x64_S8x128x2x64_S8x256x2x64_d1) shapeCasts_S8x256x2x64_S8x256x128) bitsLt_bf16_f32

/-- and its value summaries. -/
def REFV (a0 : FVec Ideal S65536x256 .f32) (a1 : FVec Ideal S2x32x64x64 .f32) : FVec Ideal S8x256x128 .bf16 :=
  truncf .bf16 (shapeCast _ (concatenate S8x256x2x64 1 [⟨S8x128x2x64, (Host.slice S8x128x2x64 ![0, 0, 0, 0] ![1, 2, 1, 1] (shapeCast _ (extractStridedSlice S8x256x1x2x64 ![0, 0, 1, 0, 0] (transpose S8x256x2x2x64 [2, 3, 0, 4, 1] (Host.dotGeneral dot_S2x32x64x64_S8x256x32x2x2x64_S2x64x8x256x2_21_52_3_014_0_3 none a1 (shapeCast _ a0 shapeCasts_S65536x256_S8x256x32x2x2x64)) transposes_S2x64x8x256x2_S8x256x2x2x64_2_3_0_4_1) slices_S8x256x2x2x64_S8x256x1x2x64_0_0_1_0_0) shapeCasts_S8x256x1x2x64_S8x256x2x64) slicesBy_S8x256x2x64_S8x128x2x64_0s1_0s2_0s1_0s1)⟩, ⟨S8x128x2x64, (Host.slice S8x128x2x64 ![0, 1, 0, 0] ![1, 2, 1, 1] (shapeCast _ (extractStridedSlice S8x256x1x2x64 ![0, 0, 1, 0, 0] (transpose S8x256x2x2x64 [2, 3, 0, 4, 1] (Host.dotGeneral dot_S2x32x64x64_S8x256x32x2x2x64_S2x64x8x256x2_21_52_3_014_0_3 none a1 (shapeCast _ a0 shapeCasts_S65536x256_S8x256x32x2x2x64)) transposes_S2x64x8x256x2_S8x256x2x2x64_2_3_0_4_1) slices_S8x256x2x2x64_S8x256x1x2x64_0_0_1_0_0) shapeCasts_S8x256x1x2x64_S8x256x2x64) slicesBy_S8x256x2x64_S8x128x2x64_0s1_1s2_0s1_0s1)⟩] concatenates_S8x128x2x64_S8x128x2x64_S8x256x2x64_d1) shapeCasts_S8x256x2x64_S8x256x128) bitsLt_bf16_f32

/-- One coordinate of a block's summary before any normalisation: `b` the sequence, `k` the block, `s` keys or values, `g` the head. -/
def summ (a0 : FVec Ideal S65536x256 .f32) (a1 : FVec Ideal S2x32x64x64 .f32) (b : Fin 8) (k : Fin 256) (s g : Fin 2) (e : Fin 64) : EReal :=
  ∑ d : Fin 64, ∑ l : Fin 32, (a1 (ix4 s l d e) : EReal) * (a0 (ix2 ⟨b.val * 8192 + k.val * 32 + l.val, by omega⟩ ⟨s.val * 128 + g.val * 64 + d.val, by omega⟩) : EReal)

/-- The block that stands in row `n`: the even blocks first, then the odd ones. -/
def blkOf (n : Fin 256) : Fin 256 := if h : n.val < 128 then ⟨2 * n.val, by omega⟩ else ⟨1 + 2 * (n.val - 128), by omega⟩

theorem blkOf_lt (n : Fin 256) (h : n.val < 128) : blkOf n = ⟨2 * n.val, by omega⟩ := by simp [blkOf, h]

theorem blkOf_ge (n : Fin 256) (h : ¬ n.val < 128) : blkOf n = ⟨1 + 2 * (n.val - 128), by omega⟩ := by simp [blkOf, h]

theorem sumk (a0 : FVec Ideal S65536x256 .f32) (a1 : FVec Ideal S2x32x64x64 .f32) (b : Fin 8) (k : ℕ) (hk : k < 256) (j : ℕ) (hj : j < 2) (e : Fin 64) :
    (∑ x : Fin 64, ∑ y : Fin 32, (a1 (ix4 0 y x e) : EReal) * (a0 (ix2 ⟨b.val * 8192 + k * 32 + y.val, by omega⟩ ⟨j * 64 + x.val, by omega⟩) : EReal))
      = summ a0 a1 b ⟨k, hk⟩ 0 ⟨j, hj⟩ e := by
  refine Finset.sum_congr rfl fun x _ => Finset.sum_congr rfl fun y _ => ?_
  refine congrArg (fun z => (a1 (ix4 _ y x e) : EReal) * (a0 z : EReal)) ?_
  congr 1; exact Fin.ext (by simp)

theorem sumv (a0 : FVec Ideal S65536x256 .f32) (a1 : FVec Ideal S2x32x64x64 .f32) (b : Fin 8) (k : ℕ) (hk : k < 256) (j : ℕ) (hj : j < 2) (e : Fin 64) :
    (∑ x : Fin 64, ∑ y : Fin 32, (a1 (ix4 1 y x e) : EReal) * (a0 (ix2 ⟨b.val * 8192 + k * 32 + y.val, by omega⟩ ⟨128 + j * 64 + x.val, by omega⟩) : EReal))
      = summ a0 a1 b ⟨k, hk⟩ 1 ⟨j, hj⟩ e := by
  refine Finset.sum_congr rfl fun x _ => Finset.sum_congr rfl fun y _ => ?_
  refine congrArg (fun z => (a1 (ix4 _ y x e) : EReal) * (a0 z : EReal)) ?_
  congr 1

theorem refv_at (a0 : FVec Ideal S65536x256 .f32) (a1 : FVec Ideal S2x32x64x64 .f32) (b : Fin 8) (n : Fin 256) (j : Fin 128) :
    REFV a0 a1 (ix3 b n j) = summ a0 a1 b (blkOf n) 1 ⟨j.val / 64, by omega⟩ ⟨j.val % 64, by omega⟩ := by
  pointwise [REFV]
  unfold blkOf
  split
  · exact sumv a0 a1 b _ _ _ _ _
  · exact sumv a0 a1 b _ _ _ _ _

theorem refk_at (a0 : FVec Ideal S65536x256 .f32) (a1 : FVec Ideal S2x32x64x64 .f32) (a2 : FVec Ideal S64 .f32) (b : Fin 8) (n : Fin 256) (j : Fin 128) :
    REFK a0 a1 a2 (ix3 b n j) = summ a0 a1 b (blkOf n) 0 ⟨j.val / 64, by omega⟩ ⟨j.val % 64, by omega⟩
      * Ideal.rsqrt (Ideal.div (∑ x : Fin 64, summ a0 a1 b (blkOf n) 0 ⟨j.val / 64, by omega⟩ x * summ a0 a1 b (blkOf n) 0 ⟨j.val / 64, by omega⟩ x)
          (Ideal.ofBits .f32 0x42800000#32) + Ideal.ofBits .f32 0x358637BD#32)
      * (a2 (ix1 ⟨j.val % 64, by omega⟩) : EReal) := by
  pointwise [REFK]
  unfold blkOf
  split
  · exact congrArg (fun s : Fin 64 → EReal => s ⟨j.val % 64, by omega⟩ * Ideal.rsqrt (Ideal.div (∑ x : Fin 64, s x * s x)
        (Ideal.ofBits .f32 0x42800000#32) + Ideal.ofBits .f32 0x358637BD#32) * (a2 (ix1 ⟨j.val % 64, by omega⟩) : EReal))
      (funext (sumk a0 a1 b (2 * n.val) (by omega) (j.val / 64) (by omega)))
  · exact congrArg (fun s : Fin 64 → EReal => s ⟨j.val % 64, by omega⟩ * Ideal.rsqrt (Ideal.div (∑ x : Fin 64, s x * s x)
        (Ideal.ofBits .f32 0x42800000#32) + Ideal.ofBits .f32 0x358637BD#32) * (a2 (ix1 ⟨j.val % 64, by omega⟩) : EReal))
      (funext (sumk a0 a1 b (1 + 2 * (n.val - 128)) (by omega) (j.val / 64) (by omega)))

end Cert.CmpRefIdeal.Res

end
-- ==== Proof.CmpVal.lean ====
/- The block compression: what the call leaves in its results is the reference's results, index by index. -/
module

public import proofs.«01_k».proof.Proof.Gen.CmpIdeal.Frame
public import proofs.«01_k».proof.Proof.CmpRef
public import proofs.«01_k».proof.Proof.HeadNorm
public import Idealize.ShloMosaic.Lib.StableHlo.ReadAt
public import Idealize.ShloMosaic.Lib.Pipeline.ValueKit

@[expose] public section

set_option maxRecDepth 16384

noncomputable section

open Idealize.ShloMosaic Idealize.ShloMosaic.TcCoe Idealize.SL.Sem

namespace Cert.CmpIdeal.Rows

open Cert.CmpIdeal Cert.CmpIdeal.Gen

variable (m : (ℓ : Loc nD τ sig) → Buf (Elt Ideal) ℓ)

theorem x_at (c : Dev nD) (b : Fin 8) (i : Fin 128) (q : Fin 16384) : (V m c main_v28 : FVec Ideal S8x128x16384 .f32) (ix3 b i q)
    = (m ((c : Thread nD τ).loc main_arg0) : FVec Ideal S65536x256 .f32)
        (ix2 ⟨b.val * 8192 + i.val * 64 + q.val / 256, by omega⟩ ⟨q.val % 256, by omega⟩) := by
  simp only [V, List.flatten_cons, List.flatten_nil, List.append_nil]
  after_reads_at

theorem eq_word (a b : ℕ) (ha : a < 2) (hb : b < 2) :
    (FloatOps.uitofp (F := Ideal) .f32 (IntOp.cmpi .eq (IntOp.addi (BitVec.ofNat 32 a) 0#32) (BitVec.ofNat 32 b)) : EReal) = if a = b then (1 : EReal) else (0 : EReal) := by
  interval_cases a <;> interval_cases b <;> simp [IntOp.cmpi, IntOp.addi, FloatOps.uitofp]

theorem weight_word (x : EReal) (a b a' b' : ℕ) (ha : a < 2) (hb : b < 2) (ha' : a' < 2) (hb' : b' < 2) :
    x * (FloatOps.uitofp (F := Ideal) .f32 (IntOp.cmpi .eq (IntOp.addi (BitVec.ofNat 32 a) 0#32) (BitVec.ofNat 32 b)) : EReal)
      * (FloatOps.uitofp (F := Ideal) .f32 (IntOp.cmpi .eq (IntOp.addi (BitVec.ofNat 32 a') 0#32) (BitVec.ofNat 32 b')) : EReal)
      = if a = b ∧ a' = b' then x else 0 := by
  rw [eq_word a b ha hb, eq_word a' b' ha' hb']
  by_cases h : a = b <;> by_cases h' : a' = b' <;> simp [h, h']

theorem half_bits : ∀ k l : Fin 128, lit0t (k.val * 128 + l.val) = if k.val / 64 = l.val / 64 then 0x3F80#16 else 0#16 := by decide +kernel

theorem one_bits : (FloatOps.ofBits (F := Ideal) .bf16 0x3F80#16 : EReal) = 1 := by
  simp [FloatOps.ofBits, Ideal.ofBits, Ideal.ieee, -EReal.coe_mul]; norm_num

theorem zero_bits : (FloatOps.ofBits (F := Ideal) .bf16 0#16 : EReal) = 0 := by
  simp [FloatOps.ofBits, Ideal.ofBits, Ideal.ieee]

theorem half_word (k l : Fin 128) :
    (FloatOps.ofBits (F := Ideal) .bf16 (lit0 (S128x128.rowMajor (ix2 k l))) : EReal) = if k.val / 64 = l.val / 64 then (1 : EReal) else (0 : EReal) := by
  have h : lit0 (S128x128.rowMajor (ix2 k l)) = lit0t (k.val * 128 + l.val) := congrArg lit0t (Shape.rowMajor_val_two (d := ![128, 128]) (ix2 k l))
  rw [h, half_bits]
  by_cases e : k.val / 64 = l.val / 64
  · rw [if_pos e, if_pos e, one_bits]
  · rw [if_neg e, if_neg e, zero_bits]

theorem w_at (c : Dev nD) (q : Fin 8192) (k : Fin 256) : (V m c main_v23 : FVec Ideal S8192x256 .bf16) (ix2 q k)
    = if q.val / 64 % 4 = k.val / 64 then ((m ((c : Thread nD τ).loc main_arg1) : FVec Ideal S2x32x64x64 .f32)
        (ix4 ⟨q.val / 128 % 2, by omega⟩ ⟨q.val / 256, by omega⟩ ⟨q.val % 64, by omega⟩ ⟨k.val % 64, by omega⟩) : EReal) else (0 : EReal) := by
  simp only [V, List.flatten_cons, List.flatten_nil, List.append_nil]
  after_reads_at
  refine (weight_word _ _ _ _ _ (by omega) (by omega) (by omega) (by omega)).trans ?_
  exact if_congr (by omega) rfl rfl

theorem g_at (c : Dev nD) (l : Fin 128) : (V m c main_v27 : FVec Ideal S1x128 .f32) (ix2 0 l)
    = (m ((c : Thread nD τ).loc main_arg2) : FVec Ideal S64 .f32) (ix1 ⟨l.val % 64, by omega⟩) := by
  simp only [V, List.flatten_cons, List.flatten_nil, List.append_nil]
  after_reads_at

theorem s_at (c : Dev nD) (k l : Fin 128) : (V m c main_cst : FVec Ideal S128x128 .bf16) (ix2 k l)
    = if k.val / 64 = l.val / 64 then (1 : EReal) else (0 : EReal) := by
  simp only [V, List.flatten_cons, List.flatten_nil, List.append_nil]
  after_reads_at
  exact half_word k l

/-- Of the 8192 lanes of a block of 32 rows, those of one head of the keys or of the values. -/
def at' (u : Fin 4) (d : Fin 64) (l : Fin 32) : Fin 8192 := ⟨l.val * 256 + u.val * 64 + d.val, by omega⟩

theorem sum_pick (f w : Fin 8192 → EReal) (u : Fin 4) :
    (∑ q : Fin 8192, f q * (if q.val / 64 % 4 = u.val then w q else (0 : EReal))) = ∑ d : Fin 64, ∑ l : Fin 32, w (at' u d l) * f (at' u d l) := by
  rw [← Fintype.sum_prod_type' (fun (d : Fin 64) (l : Fin 32) => w (at' u d l) * f (at' u d l))]
  refine (Fintype.sum_of_injective (fun p : Fin 64 × Fin 32 => at' u p.1 p.2) (fun a b e => ?_) _ _ (fun x hx => ?_) fun p => ?_).symm
  · have := congrArg Fin.val e; simp only [at'] at this
    exact Prod.ext (Fin.ext (by omega)) (Fin.ext (by omega))
  · rw [if_neg, mul_zero]
    intro e
    exact hx ⟨(⟨x.val % 64, by omega⟩, ⟨x.val / 256, by omega⟩), Fin.ext (by simp only [at']; omega)⟩
  · rw [if_pos, mul_comm]
    simp only [at']; omega

/-- What the call's product gives before any normalisation: row `i` of half `h` of the blocks, lane `y`. -/
theorem csum (a0 : FVec Ideal S65536x256 .f32) (a1 : FVec Ideal S2x32x64x64 .f32) (b : Fin 8) (i : Fin 128) (h : Fin 2) (y : Fin 256) (X W : Fin 8192 → EReal)
    (hX : ∀ q, X q = a0 (ix2 ⟨b.val * 8192 + i.val * 64 + (h.val * 8192 + q.val) / 256, by omega⟩ ⟨(h.val * 8192 + q.val) % 256, by omega⟩))
    (hW : ∀ q, W q = if q.val / 64 % 4 = y.val / 64 then (a1 (ix4 ⟨q.val / 128 % 2, by omega⟩ ⟨q.val / 256, by omega⟩ ⟨q.val % 64, by omega⟩ ⟨y.val % 64, by omega⟩) : EReal) else (0 : EReal)) :
    (∑ q : Fin 8192, X q * W q)
      = CmpRefIdeal.Res.summ a0 a1 b ⟨h.val + 2 * i.val, by omega⟩ ⟨y.val / 128, by omega⟩ ⟨y.val / 64 % 2, by omega⟩ ⟨y.val % 64, by omega⟩ := by
  simp only [hX, hW]
  refine (sum_pick _ _ ⟨y.val / 64, by omega⟩).trans ?_
  refine Finset.sum_congr rfl fun d _ => Finset.sum_congr rfl fun l _ => ?_
  refine congrArg₂ (fun z w => (a1 z : EReal) * (a0 w : EReal)) ?_ ?_
  · funext a; fin_cases a <;> refine Fin.ext ?_ <;> simp [at', ix4] <;> omega
  · funext a; fin_cases a <;> refine Fin.ext ?_ <;> simp [at', ix2] <;> omega

/-- A row of 128 lanes normalised head by head, as the call computes it. -/
def nrm (c : Fin 256 → EReal) (s : Fin 128 → Fin 128 → EReal) (g : Fin 128 → EReal) (j : Fin 128) : EReal :=
  c ⟨j.val, by omega⟩ * Ideal.rsqrt ((∑ x : Fin 128, c ⟨x.val, by omega⟩ * c ⟨x.val, by omega⟩ * s x j
    + ∑ x : Fin 128, (c ⟨x.val, by omega⟩ * c ⟨x.val, by omega⟩ - c ⟨x.val, by omega⟩ * c ⟨x.val, by omega⟩) * s x j) * Ideal.ofBits .f32 0x3C800000#32
    + Ideal.ofBits .f32 0x358637BD#32) * g j

theorem pay4_at (v2 : FVec Ideal S1x128x8192 .f32) (v39 : FVec Ideal S8192x256 .bf16) (i j : Fin 128) :
    k0_pay4 (F := Ideal) (k0_pay5 v2) v39 (ix3 0 i j) = ∑ x : Fin 8192, (v2 (ix3 0 i x) : EReal) * (v39 (ix2 x ⟨128 + j.val, by omega⟩) : EReal) := by
  pointwise [k0_pay4, k0_pay2, k0_pay5]

theorem pay9_at (v0 : FVec Ideal S1x128x8192 .f32) (v39 : FVec Ideal S8192x256 .bf16) (i j : Fin 128) :
    k0_pay1 (k0_pay9 (F := Ideal) v0 v39) (ix3 0 i j) = ∑ x : Fin 8192, (v0 (ix3 0 i x) : EReal) * (v39 (ix2 x ⟨128 + j.val, by omega⟩) : EReal) := by
  pointwise [k0_pay1, k0_pay9, k0_pay7]

theorem pay3_at (v2 : FVec Ideal S1x128x8192 .f32) (v4 : FVec Ideal S1x128 .f32) (v6 : FVec Ideal S128x128 .bf16) (v39 : FVec Ideal S8192x256 .bf16) (i j : Fin 128) :
    k0_pay3 (F := Ideal) (k0_pay5 v2) (k0_pay6 v4) v6 v39 (ix3 0 i j)
      = nrm (fun y => ∑ x : Fin 8192, (v2 (ix3 0 i x) : EReal) * (v39 (ix2 x y) : EReal)) (fun k l => v6 (ix2 k l)) (fun l => v4 (ix2 0 l)) j := by
  pointwise [k0_pay3, k0_pay2, k0_pay5, k0_pay6]
  rfl

theorem pay8_at (v0 : FVec Ideal S1x128x8192 .f32) (v4 : FVec Ideal S1x128 .f32) (v6 : FVec Ideal S128x128 .bf16) (v39 : FVec Ideal S8192x256 .bf16) (i j : Fin 128) :
    k0_pay8 (F := Ideal) v0 v4 v6 v39 (ix3 0 i j)
      = nrm (fun y => ∑ x : Fin 8192, (v0 (ix3 0 i x) : EReal) * (v39 (ix2 x y) : EReal)) (fun k l => v6 (ix2 k l)) (fun l => v4 (ix2 0 l)) j := by
  pointwise [k0_pay8, k0_pay7, k0_pay6]
  rfl

open HeadNorm in
/-- Over finite rows that is the row's own normalisation. -/
theorem nrm_eq (c : Fin 256 → EReal) (hc : ∀ y, Real' (c y)) (g : Fin 128 → EReal) (j : Fin 128) :
    nrm c (fun k l => if k.val / 64 = l.val / 64 then (1 : EReal) else (0 : EReal)) g j
      = c ⟨j.val, by omega⟩ * Ideal.rsqrt (Ideal.div (∑ d : Fin 64, c ⟨j.val / 64 * 64 + d.val, by omega⟩ * c ⟨j.val / 64 * 64 + d.val, by omega⟩)
        (Ideal.ofBits .f32 0x42800000#32) + Ideal.ofBits .f32 0x358637BD#32) * g j := by
  have e := mean_square (fun x => c ⟨x.val, by omega⟩) (fun x => hc _) ⟨j.val / 64, by omega⟩
  exact congrArg (fun s => c ⟨j.val, by omega⟩ * Ideal.rsqrt (s + Ideal.ofBits .f32 0x358637BD#32) * g j) e

theorem idx_val : ∀ t : Fin cfg0.N, win0_0.index t = ![t.val, 0, 0]
    ∧ win0_1.index t = ![0, 0]
    ∧ win0_2.index t = ![0, 0]
    ∧ win0_3.index t = ![0, 0]
    ∧ win0_4.index t = ![t.val, 0, 0]
    ∧ win0_5.index t = ![t.val, 0, 0] :=
  (by decide +kernel : ∀ t : Fin grid0.N, _)

/-- The sequence the point `t` works on. -/
def seq (t : Fin cfg0.N) : Fin 8 := ⟨t.val, t.isLt⟩

theorem emb4_at (t : Fin cfg0.N) (n : Fin 256) (j : Fin 128) :
    ((cfg0.win 4).blk t).view.emb (ix3 0 n j : S1x256x128.Idx) = (ix3 (seq t) n j : S8x256x128.Idx) := by
  blk_ext [seq, idx_val t]

theorem emb5_at (t : Fin cfg0.N) (n : Fin 256) (j : Fin 128) :
    ((cfg0.win 5).blk t).view.emb (ix3 0 n j : S1x256x128.Idx) = (ix3 (seq t) n j : S8x256x128.Idx) := by
  blk_ext [seq, idx_val t]

theorem bx_at (c : Dev nD) (t : Fin cfg0.N) (i : Fin 128) (q : Fin 16384) : (iblk m c 0 t : FVec Ideal S1x128x16384 .f32) (ix3 0 i q)
    = (m ((c : Thread nD τ).loc main_arg0) : FVec Ideal S65536x256 .f32)
        (ix2 ⟨(seq t).val * 8192 + i.val * 64 + q.val / 256, by omega⟩ ⟨q.val % 256, by omega⟩) := by
  rw [← x_at m c]
  blk_ext [iblk, seq, idx_val t]

theorem bw_at (c : Dev nD) (t : Fin cfg0.N) (q : Fin 8192) (k : Fin 256) : (iblk m c 1 t : FVec Ideal S8192x256 .bf16) (ix2 q k)
    = if q.val / 64 % 4 = k.val / 64 then ((m ((c : Thread nD τ).loc main_arg1) : FVec Ideal S2x32x64x64 .f32)
        (ix4 ⟨q.val / 128 % 2, by omega⟩ ⟨q.val / 256, by omega⟩ ⟨q.val % 64, by omega⟩ ⟨k.val % 64, by omega⟩) : EReal) else (0 : EReal) := by
  rw [← w_at m c]
  blk_ext [iblk, idx_val t]

theorem bg_at (c : Dev nD) (t : Fin cfg0.N) (l : Fin 128) : (iblk m c 2 t : FVec Ideal S1x128 .f32) (ix2 0 l)
    = (m ((c : Thread nD τ).loc main_arg2) : FVec Ideal S64 .f32) (ix1 ⟨l.val % 64, by omega⟩) := by
  rw [← g_at m c]
  blk_ext [iblk, idx_val t]

theorem bs_at (c : Dev nD) (t : Fin cfg0.N) (k l : Fin 128) : (iblk m c 3 t : FVec Ideal S128x128 .bf16) (ix2 k l)
    = if k.val / 64 = l.val / 64 then (1 : EReal) else (0 : EReal) := by
  rw [← s_at m c]
  blk_ext [iblk, idx_val t]

/-- Row `i` of half `h` of the results. -/
def half (h : Fin 2) (i : Fin 128) : Fin 256 := ⟨h.val * 128 + i.val, by omega⟩

theorem blkOf_half (h : Fin 2) (i : Fin 128) : CmpRefIdeal.Res.blkOf (half h i) = ⟨h.val + 2 * i.val, by omega⟩ := by
  revert h i; decide +kernel

theorem val_at (a0 : FVec Ideal S65536x256 .f32) (a1 : FVec Ideal S2x32x64x64 .f32) (b : Fin 8) (i : Fin 128) (h : Fin 2) (j : Fin 128) (X W : Fin 8192 → EReal)
    (hX : ∀ q, X q = a0 (ix2 ⟨b.val * 8192 + i.val * 64 + (h.val * 8192 + q.val) / 256, by omega⟩ ⟨(h.val * 8192 + q.val) % 256, by omega⟩))
    (hW : ∀ q, W q = if q.val / 64 % 4 = (128 + j.val) / 64 then (a1 (ix4 ⟨q.val / 128 % 2, by omega⟩ ⟨q.val / 256, by omega⟩ ⟨q.val % 64, by omega⟩ ⟨(128 + j.val) % 64, by omega⟩) : EReal) else (0 : EReal)) :
    (∑ q : Fin 8192, X q * W q) = CmpRefIdeal.Res.REFV a0 a1 (ix3 b (half h i) j) := by
  refine (csum a0 a1 b i h ⟨128 + j.val, by omega⟩ X W hX hW).trans ?_
  refine Eq.trans ?_ (CmpRefIdeal.Res.refv_at _ _ b _ j).symm
  rw [blkOf_half]
  have e1 : (⟨(128 + j.val) / 128, by omega⟩ : Fin 2) = 1 := Fin.ext (by simp only [Fin.val_one]; omega)
  have e2 : (⟨(128 + j.val) / 64 % 2, by omega⟩ : Fin 2) = ⟨j.val / 64, by omega⟩ := Fin.ext (by simp only []; omega)
  have e3 : (⟨(128 + j.val) % 64, by omega⟩ : Fin 64) = ⟨j.val % 64, by omega⟩ := Fin.ext (by simp only []; omega)
  simp only [e1, e2, e3]

theorem nrm_congr {c c' : Fin 256 → EReal} {s s' : Fin 128 → Fin 128 → EReal} {g g' : Fin 128 → EReal} (hc : ∀ y, c y = c' y) (hs : ∀ k l, s k l = s' k l)
    (hg : ∀ l, g l = g' l) (j : Fin 128) : nrm c s g j = nrm c' s' g' j := by
  rw [funext hc, funext fun k => funext (hs k), funext hg]

theorem summ_real (a0 : FVec Ideal S65536x256 .f32) (a1 : FVec Ideal S2x32x64x64 .f32) (h0 : ∀ z, HeadNorm.Real' (a0 z)) (h1 : ∀ z, HeadNorm.Real' (a1 z))
    (b : Fin 8) (k : Fin 256) (s g : Fin 2) (e : Fin 64) : HeadNorm.Real' (CmpRefIdeal.Res.summ a0 a1 b k s g e) :=
  HeadNorm.Real'.sum _ _ fun d _ => HeadNorm.Real'.sum _ _ fun l _ => (h1 _).mul (h0 _)

theorem key_at (a0 : FVec Ideal S65536x256 .f32) (a1 : FVec Ideal S2x32x64x64 .f32) (a2 : FVec Ideal S64 .f32)
    (h0 : ∀ z, HeadNorm.Real' (a0 z)) (h1 : ∀ z, HeadNorm.Real' (a1 z)) (b : Fin 8) (i : Fin 128) (h : Fin 2) (j : Fin 128)
    (X : Fin 8192 → EReal) (W : Fin 8192 → Fin 256 → EReal) (S : Fin 128 → Fin 128 → EReal) (G : Fin 128 → EReal)
    (hX : ∀ q, X q = a0 (ix2 ⟨b.val * 8192 + i.val * 64 + (h.val * 8192 + q.val) / 256, by omega⟩ ⟨(h.val * 8192 + q.val) % 256, by omega⟩))
    (hW : ∀ q y, W q y = if q.val / 64 % 4 = y.val / 64 then (a1 (ix4 ⟨q.val / 128 % 2, by omega⟩ ⟨q.val / 256, by omega⟩ ⟨q.val % 64, by omega⟩ ⟨y.val % 64, by omega⟩) : EReal) else (0 : EReal))
    (hS : ∀ k l, S k l = if k.val / 64 = l.val / 64 then (1 : EReal) else (0 : EReal))
    (hG : ∀ l, G l = a2 (ix1 ⟨l.val % 64, by omega⟩)) :
    nrm (fun y => ∑ q : Fin 8192, X q * W q y) S G j = CmpRefIdeal.Res.REFK a0 a1 a2 (ix3 b (half h i) j) := by
  refine Eq.trans ?_ (CmpRefIdeal.Res.refk_at _ _ _ b _ j).symm
  rw [blkOf_half]
  have hc : ∀ y : Fin 256, (∑ q : Fin 8192, X q * W q y) = CmpRefIdeal.Res.summ a0 a1 b ⟨h.val + 2 * i.val, by omega⟩ ⟨y.val / 128, by omega⟩ ⟨y.val / 64 % 2, by omega⟩ ⟨y.val % 64, by omega⟩ :=
    fun y => csum a0 a1 b i h y X (fun q => W q y) hX (fun q => hW q y)
  refine (nrm_congr hc hS hG j).trans ((nrm_eq _ (fun y => summ_real a0 a1 h0 h1 _ _ _ _ _) _ j).trans ?_)
  have e1 : ∀ d : Fin 64, (⟨(j.val / 64 * 64 + d.val) / 128, by omega⟩ : Fin 2) = 0 := fun d => Fin.ext (by simp only []; omega)
  have e2 : ∀ d : Fin 64, (⟨(j.val / 64 * 64 + d.val) / 64 % 2, by omega⟩ : Fin 2) = ⟨j.val / 64, by omega⟩ := fun d => Fin.ext (by simp only []; omega)
  have e3 : ∀ d : Fin 64, (⟨(j.val / 64 * 64 + d.val) % 64, by omega⟩ : Fin 64) = d := fun d => Fin.ext (by simp only []; omega)
  have e4 : (⟨j.val / 128, by omega⟩ : Fin 2) = 0 := Fin.ext (by simp only []; omega)
  have e5 : (⟨j.val / 64 % 2, by omega⟩ : Fin 2) = ⟨j.val / 64, by omega⟩ := Fin.ext (by simp only []; omega)
  simp only [e1, e2, e3, e4, e5]

theorem final5 (c : Dev nD) : (dats m 0 c).arrAt 5 (cfgs 0).N = CmpRefIdeal.Res.REFV (m ((c : Thread nD τ).loc main_arg0)) (m ((c : Thread nD τ).loc main_arg1)) := by
  refine (dats m 0 c).arrAt_eq_of_covers 5 _ (by decide +kernel) fun t hf y => ?_
  blk_simp; rw [after0_5]
  obtain ⟨n, j, rfl⟩ : ∃ (n : Fin 256) (j : Fin 128), y = (ix3 0 n j : S1x256x128.Idx) := ⟨y 1, y 2,
    (eq_ix3 y).trans (congrArg (fun z : Fin 1 => (ix3 z (y 1) (y 2) : S1x256x128.Idx)) (Fin.fin_one_eq_zero (y 0)))⟩
  rw [emb5_at]
  unfold_out out0_5
  canon_tiles x h
  case piece0 =>
    obtain ⟨i, l, rfl⟩ : ∃ (i l : Fin 128), x = (ix3 0 i l : S1x128x128.Idx) := ⟨x 1, x 2,
      (eq_ix3 x).trans (congrArg (fun z : Fin 1 => (ix3 z (x 1) (x 2) : S1x128x128.Idx)) (Fin.fin_one_eq_zero (x 0)))⟩
    obtain rfl : j = l := Fin.ext h2
    obtain rfl : n = half 1 i := Fin.ext (h1.trans (by simp [half]))
    refine (pay4_at _ _ i j).trans ?_
    refine Eq.trans ?_ (val_at (m ((c : Thread nD τ).loc main_arg0)) (m ((c : Thread nD τ).loc main_arg1)) (seq t) i 1 j _ _ (fun q => bx_at m c t i ⟨(1 : Fin 2).val * 8192 + q.val, by omega⟩) (fun q => bw_at m c t q ⟨128 + j.val, by omega⟩))
    pointwise
  case piece1 =>
    obtain ⟨i, l, rfl⟩ : ∃ (i l : Fin 128), x = (ix3 0 i l : S1x128x128.Idx) := ⟨x 1, x 2,
      (eq_ix3 x).trans (congrArg (fun z : Fin 1 => (ix3 z (x 1) (x 2) : S1x128x128.Idx)) (Fin.fin_one_eq_zero (x 0)))⟩
    obtain rfl : j = l := Fin.ext h2
    obtain rfl : n = half 0 i := Fin.ext (h1.trans (by simp [half]))
    refine (pay9_at _ _ i j).trans ?_
    refine Eq.trans ?_ (val_at (m ((c : Thread nD τ).loc main_arg0)) (m ((c : Thread nD τ).loc main_arg1)) (seq t) i 0 j _ _ (fun q => bx_at m c t i ⟨(0 : Fin 2).val * 8192 + q.val, by omega⟩) (fun q => bw_at m c t q ⟨128 + j.val, by omega⟩))
    pointwise
theorem final4 (c : Dev nD) (h0 : ∀ z, HeadNorm.Real' ((m ((c : Thread nD τ).loc main_arg0) : FVec Ideal S65536x256 .f32) z))
    (h1 : ∀ z, HeadNorm.Real' ((m ((c : Thread nD τ).loc main_arg1) : FVec Ideal S2x32x64x64 .f32) z)) : (dats m 0 c).arrAt 4 (cfgs 0).N = CmpRefIdeal.Res.REFK (m ((c : Thread nD τ).loc main_arg0)) (m ((c : Thread nD τ).loc main_arg1)) (m ((c : Thread nD τ).loc main_arg2)) := by
  refine (dats m 0 c).arrAt_eq_of_covers 4 _ (by decide +kernel) fun t hf y => ?_
  rename' h0 => r0, h1 => r1
  blk_simp; rw [after0_4]
  obtain ⟨n, j, rfl⟩ : ∃ (n : Fin 256) (j : Fin 128), y = (ix3 0 n j : S1x256x128.Idx) := ⟨y 1, y 2,
    (eq_ix3 y).trans (congrArg (fun z : Fin 1 => (ix3 z (y 1) (y 2) : S1x256x128.Idx)) (Fin.fin_one_eq_zero (y 0)))⟩
  rw [emb4_at]
  unfold_out out0_4
  canon_tiles x h
  case piece0 =>
    obtain ⟨i, l, rfl⟩ : ∃ (i l : Fin 128), x = (ix3 0 i l : S1x128x128.Idx) := ⟨x 1, x 2,
      (eq_ix3 x).trans (congrArg (fun z : Fin 1 => (ix3 z (x 1) (x 2) : S1x128x128.Idx)) (Fin.fin_one_eq_zero (x 0)))⟩
    obtain rfl : j = l := Fin.ext h2
    obtain rfl : n = half 1 i := Fin.ext (h1.trans (by simp [half]))
    refine (pay3_at _ _ _ _ i j).trans ?_
    refine Eq.trans ?_ (key_at (m ((c : Thread nD τ).loc main_arg0)) (m ((c : Thread nD τ).loc main_arg1)) (m ((c : Thread nD τ).loc main_arg2)) r0 r1 (seq t) i 1 j _ _ _ _ (fun q => bx_at m c t i ⟨(1 : Fin 2).val * 8192 + q.val, by omega⟩) (fun q y => bw_at m c t q y) (fun k l => bs_at m c t k l) (fun l => bg_at m c t l))
    refine nrm_congr (fun y => Finset.sum_congr rfl fun q _ => congrArg₂ (fun p r : EReal => p * r) ?_ ?_) (fun k l => ?_) (fun l => ?_) j
    all_goals pointwise
  case piece1 =>
    obtain ⟨i, l, rfl⟩ : ∃ (i l : Fin 128), x = (ix3 0 i l : S1x128x128.Idx) := ⟨x 1, x 2,
      (eq_ix3 x).trans (congrArg (fun z : Fin 1 => (ix3 z (x 1) (x 2) : S1x128x128.Idx)) (Fin.fin_one_eq_zero (x 0)))⟩
    obtain rfl : j = l := Fin.ext h2
    obtain rfl : n = half 0 i := Fin.ext (h1.trans (by simp [half]))
    refine (pay8_at _ _ _ _ i j).trans ?_
    refine Eq.trans ?_ (key_at (m ((c : Thread nD τ).loc main_arg0)) (m ((c : Thread nD τ).loc main_arg1)) (m ((c : Thread nD τ).loc main_arg2)) r0 r1 (seq t) i 0 j _ _ _ _ (fun q => bx_at m c t i ⟨(0 : Fin 2).val * 8192 + q.val, by omega⟩) (fun q y => bw_at m c t q y) (fun k l => bs_at m c t k l) (fun l => bg_at m c t l))
    refine nrm_congr (fun y => Finset.sum_congr rfl fun q _ => congrArg₂ (fun p r : EReal => p * r) ?_ ?_) (fun k l => ?_) (fun l => ?_) j
    all_goals pointwise

end Cert.CmpIdeal.Rows

end
-- ==== Proof.CmpClaim.lean ====
/- The claims about the block compression: the three frames, and that the idealized call is the call over the extended reals. -/
module

public import proofs.«01_k».proof.Defs
public import proofs.«01_k».proof.Proof.Gen.Cmp.Frame
public import proofs.«01_k».proof.Proof.Gen.CmpIdeal.Frame
public import proofs.«01_k».proof.Proof.Gen.CmpRefIdeal.Run
public import Idealize.ShloMosaic.Lib.Claim
public import Idealize.ShloMosaic.Lib.ReduceAll
public import proofs.«01_k».proof.Proof.Gen.CmpIdeal.Value
public import proofs.«01_k».proof.Proof.Gen.Pre_finite_rows
public import proofs.«01_k».proof.Proof.CmpVal

@[expose] public section

set_option maxRecDepth 16384

noncomputable section

open Idealize.ShloMosaic Idealize.ShloMosaic.TcCoe Idealize.SL.Sem

namespace Cert.CmpClaim

theorem frame : Cert.quiescent_Cmp := fun m ρ _ => Cert.Cmp.Gen.frame m ρ

theorem frame_ideal : Cert.quiescent_CmpIdeal := fun m ρ _ => Cert.CmpIdeal.Gen.frame m ρ

theorem frame_ref : Cert.quiescent_CmpRefIdeal := fun m g _ =>
  (θ_run _ _ _).mono (fun r h => ⟨fun c => (h c).2.2, sem_eq_zero_of_no_sems (by decide) r.2⟩) (Cert.CmpRefIdeal.Value.run m g)

theorem frame_ideal_pre : Cert.quiescent_CmpIdeal_pre_finite_rows := fun m ρ _ => Cert.CmpIdeal.Gen.frame m ρ

theorem frame_ref_pre : Cert.quiescent_CmpRefIdeal_pre_finite_rows := fun m g _ =>
  (θ_run _ _ _).mono (fun r h => ⟨fun c => (h c).2.2, sem_eq_zero_of_no_sems (by decide) r.2⟩) (Cert.CmpRefIdeal.Value.run m g)

/-- Where the precondition holds the rows and the weights are finite. -/
theorem finite (a0 : FVec Ideal Pre_finite_rows.S65536x256 .f32) (a1 : FVec Ideal Pre_finite_rows.S2x32x64x64 .f32) (a2 : FVec Ideal Pre_finite_rows.S64 .f32)
    (h : Cert.Pre_finite_rows.fn (F := Ideal) a0 a1 a2 = fun _ => 1#1) :
    (∀ z, HeadNorm.Real' (a0 z)) ∧ ∀ z, HeadNorm.Real' (a1 z) := by
  have e := congrFun h ix0
  have e' := IntOp.andi_eq_one.1 e
  refine ⟨fun z => ?_, fun z => ?_⟩
  · exact HeadNorm.real_of_lt _ (Host.reduce_andi_all _ _ _ _ _ e'.1 z)
  · exact HeadNorm.real_of_lt _ (Host.reduce_andi_all _ _ _ _ _ e'.2 z)

theorem preserves : Cert.preserves_Cmp_CmpIdeal := trivial

theorem algebraic : Cert.algebraic_CmpIdeal_CmpRefIdeal_pre_finite_rows := by
  intro m g m' g' hp hag
  refine ⟨fun c => CmpRefIdeal.Res.REFK (m ((c.tc : Thread Cert.CmpIdeal.nD Cert.CmpIdeal.τ).loc Cert.CmpIdeal.main_arg0)) (m ((c.tc : Thread Cert.CmpIdeal.nD Cert.CmpIdeal.τ).loc Cert.CmpIdeal.main_arg1)) (m ((c.tc : Thread Cert.CmpIdeal.nD Cert.CmpIdeal.τ).loc Cert.CmpIdeal.main_arg2)),
    fun c => CmpRefIdeal.Res.REFV (m ((c.tc : Thread Cert.CmpIdeal.nD Cert.CmpIdeal.τ).loc Cert.CmpIdeal.main_arg0)) (m ((c.tc : Thread Cert.CmpIdeal.nD Cert.CmpIdeal.τ).loc Cert.CmpIdeal.main_arg1)), ?_, ?_⟩
  · refine (θ_run _ _ _).mono (fun r h c => ?_) (Cert.CmpIdeal.Value.run_blocks m g)
    obtain ⟨f0, f1⟩ := finite _ _ _ (hp c)
    exact ⟨(h c).1.trans (Cert.CmpIdeal.Rows.final4 m c f0 f1), (h c).2.1.trans (Cert.CmpIdeal.Rows.final5 m c), (h c).2.2⟩
  · refine (θ_run _ _ _).mono (fun r h c => ⟨(h c).1.trans ?_, (h c).2.1.trans ?_, (h c).2.2⟩) (Cert.CmpRefIdeal.Value.run m' g')
    · obtain ⟨e0, e1, e2⟩ := hag c
      unfold Cert.CmpRefIdeal.Value.res_main_v24
      rw [e0, e1, e2]
      rfl
    · obtain ⟨e0, e1, e2⟩ := hag c
      rw [e0, e1]
      rfl

end Cert.CmpClaim

end
-- ==== Proof.FfnRef.lean ====
/- The feed-forward layer's mathematics at one element: what the reference's result is, index by index, and the two parts it is
   made of (a normalised row, one hidden unit's product). -/
module

public import proofs.«01_k».proof.Proof.Gen.FfnRefIdeal
public import Idealize.ShloMosaic.Lib.Pipeline.ValueKit

@[expose] public section

set_option maxRecDepth 16384

noncomputable section

open Idealize.ShloMosaic Idealize.ShloMosaic.TcCoe Idealize.SL.Sem

namespace Cert.FfnRow

/-- A row divided by the root of the mean of its squares and multiplied by the gain, at one place. -/
def nrm (x g : Fin 1024 → EReal) (k : Fin 1024) : EReal :=
  x k * Ideal.rsqrt (Ideal.div (∑ l, x l * x l) (Ideal.ofBits FTy.f32 1149239296#32) + Ideal.ofBits FTy.f32 897988541#32) * g k

/-- The gated unit of a hidden place: `a * logistic a * b`. -/
def gated (a b : EReal) : EReal := a * Ideal.div 1 (1 + Ideal.exp (-a)) * b

end Cert.FfnRow

namespace Cert.FfnRefIdeal.Res

open Cert.FfnRefIdeal Cert.FfnRefIdeal.Gen

/-- The reference's result over its arguments. -/
def REF (a0 : FVec Ideal S65536x1024 .f32) (a1 : FVec Ideal S1024 .f32) (a2 : FVec Ideal S1024x5632 .f32)
    (a3 : FVec Ideal S2816x1024 .f32) : FVec Ideal S65536x1024 .f32 :=
  addf a0 (mulf (broadcastInDim S65536x1024 ![] bcast_S_S65536x1024 (constant S_ .f32 0x3F000000#32)) (Host.dotGeneral dot_S65536x2816_S2816x1024_S65536x1024_1_0_0_1_n_n none (mulf (mulf (extractStridedSlice S65536x2816 ![0, 0] (Host.dotGeneral dot_S65536x1024_S1024x5632_S65536x5632_1_0_0_1_n_n none (mulf (mulf a0 (broadcastInDim S65536x1024 ![0, 1] bcast_S65536x1_S65536x1024_0_1 (Host.rsqrt (addf (Host.divf (broadcastInDim S65536x1 ![0] bcast_S65536_S65536x1_0 (Host.reduceAdd (mulf a0 a0) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 a1))) a2) slices_S65536x5632_S65536x2816_0_0) (Host.divf (broadcastInDim S65536x2816 ![] bcast_S_S65536x2816 (constant S_ .f32 0x3F800000#32)) (addf (broadcastInDim S65536x2816 ![] bcast_S_S65536x2816 (constant S_ .f32 0x3F800000#32)) (Host.exp (Host.negf (extractStridedSlice S65536x2816 ![0, 0] (Host.dotGeneral dot_S65536x1024_S1024x5632_S65536x5632_1_0_0_1_n_n none (mulf (mulf a0 (broadcastInDim S65536x1024 ![0, 1] bcast_S65536x1_S65536x1024_0_1 (Host.rsqrt (addf (Host.divf (broadcastInDim S65536x1 ![0] bcast_S65536_S65536x1_0 (Host.reduceAdd (mulf a0 a0) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 a1))) a2) slices_S65536x5632_S65536x2816_0_0)))))) (extractStridedSlice S65536x2816 ![0, 2816] (Host.dotGeneral dot_S65536x1024_S1024x5632_S65536x5632_1_0_0_1_n_n none (mulf (mulf a0 (broadcastInDim S65536x1024 ![0, 1] bcast_S65536x1_S65536x1024_0_1 (Host.rsqrt (addf (Host.divf (broadcastInDim S65536x1 ![0] bcast_S65536_S65536x1_0 (Host.reduceAdd (mulf a0 a0) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 a1))) a2) slices_S65536x5632_S65536x2816_0_2816)) a3))

theorem ref_at (a0 : FVec Ideal S65536x1024 .f32) (a1 : FVec Ideal S1024 .f32) (a2 : FVec Ideal S1024x5632 .f32)
    (a3 : FVec Ideal S2816x1024 .f32) (r : Fin 65536) (j : Fin 1024) :
    REF a0 a1 a2 a3 (ix2 r j) = a0 (ix2 r j) + Ideal.ofBits FTy.f32 1056964608#32 *
      ∑ n : Fin 2816, FfnRow.gated
          (∑ k : Fin 1024, FfnRow.nrm (fun l => a0 (ix2 r l)) (fun l => a1 (ix1 l)) k * a2 (ix2 k ⟨n.val, by omega⟩))
          (∑ k : Fin 1024, FfnRow.nrm (fun l => a0 (ix2 r l)) (fun l => a1 (ix1 l)) k * a2 (ix2 k ⟨2816 + n.val, by omega⟩))
        * a3 (ix2 n j) := by
  unfold FfnRow.gated FfnRow.nrm
  pointwise [REF]

end Cert.FfnRefIdeal.Res

end
-- ==== Proof.FfnLoop.lean ====
/- The feed-forward call's body: what its stores leave in the result's block, as sums over the block's contents. The counted
   loop adds one eleventh of the hidden units a trip into its accumulator. -/
module

public import proofs.«01_k».proof.Proof.FfnRef
public import proofs.«01_k».proof.Proof.Gen.FfnIdeal.Frame
public import Idealize.ShloMosaic.Lib.VecWindow
public import Idealize.ShloMosaic.Lib.Pipeline.ValueKit

@[expose] public section

set_option maxRecDepth 16384

noncomputable section

open Idealize.ShloMosaic Idealize.ShloMosaic.TcCoe Idealize.SL.Sem

namespace Cert.FfnIdeal.Rows

open Cert.FfnIdeal Cert.FfnIdeal.Gen

theorem pay1_at (x : FVec Ideal S512x1024 .f32) (g : FVec Ideal S1x1024 .f32) (i : Fin 512) (k : Fin 1024) :
    k0_pay1 (F := Ideal) x g (ix2 i k) = FfnRow.nrm (fun l => x (ix2 i l)) (fun l => g (ix2 0 l)) k := by
  unfold FfnRow.nrm
  pointwise [k0_pay1]

theorem pay2_at (y : S512x1024.Idx) : k0_pay2 (F := Ideal) y = 0 := by
  pointwise [k0_pay2]

theorem pay3_at (h : FVec Ideal S512x1024 .bf16) (a b : FVec Ideal S1x1024x256 .bf16) (acc : FVec Ideal S512x1024 .f32)
    (w : FVec Ideal S1x256x1024 .bf16) (i : Fin 512) (j : Fin 1024) :
    k0_pay3 (F := Ideal) h a b acc w (ix2 i j) = acc (ix2 i j) + ∑ n : Fin 256,
      FfnRow.gated (∑ k : Fin 1024, h (ix2 i k) * a (ix3 0 k n)) (∑ k : Fin 1024, h (ix2 i k) * b (ix3 0 k n)) * w (ix3 0 n j) := by
  have e : ∀ a b : EReal, FfnRow.gated a b = a * Ideal.logistic a * b := fun _ _ => rfl
  simp only [e]
  pointwise [k0_pay3]

theorem pay4_at (x a : FVec Ideal S512x1024 .f32) (y : S512x1024.Idx) :
    k0_pay4 (F := Ideal) x a y = x y + Ideal.ofBits FTy.f32 1056964608#32 * a y := by
  pointwise [k0_pay4]

/-- One trip's share of the sum over the hidden units. -/
def part (h : FVec Ideal S512x1024 .bf16) (wg wu : FVec Ideal S11x1024x256 .bf16) (wd : FVec Ideal S11x256x1024 .bf16)
    (i : Fin 512) (j : Fin 1024) (q : Fin 11) : EReal :=
  ∑ n : Fin 256, FfnRow.gated (∑ k : Fin 1024, h (ix2 i k) * wg (ix3 q k n)) (∑ k : Fin 1024, h (ix2 i k) * wu (ix3 q k n))
    * wd (ix3 q n j)

theorem off1_eq : ∀ k : Fin k0_t1_loop.trips, k0_off1 k = ![k.val, 0, 0] := by decide +kernel

theorem off2_eq : ∀ k : Fin k0_t1_loop.trips, k0_off2 k = ![k.val, 0, 0] := by decide +kernel

/-- A load of one of the eleven slabs reads that slab. -/
theorem slab_at {sig : RefSig} {κ : Kind} {sp : Space} {a b : ℕ} {e : EltTy} (v : View sig κ sp ⟨3, ![11, a, b]⟩ e)
    (f : v.ty.Contents (Elt Ideal)) (q : Fin 11) (off : Fin 3 → ℕ) (h : off = ![q.val, 0, 0])
    (inb : ∀ x, off x + (![1, a, b] : Fin 3 → ℕ) x ≤ (⟨3, ![11, a, b]⟩ : Shape).size x) (k : Fin a) (n : Fin b) :
    v.readAt (Elt Ideal) (Rect.unit (s := ⟨3, ![11, a, b]⟩) off ![1, a, b] inb).toLoadRect f (ix3 (0 : Fin 1) k n : (⟨3, ![1, a, b]⟩ : Shape).Idx)
      = v.read (Elt Ideal) f (ix3 q k n) := by
  subst h
  rw [View.readAt_apply]
  refine congrArg (v.read (Elt Ideal) f) (funext fun x => ?_)
  fin_cases x
  · exact Fin.ext (by show q.val + 1 * 0 = q.val; omega)
  · exact Fin.ext (by show 0 + 1 * k.val = k.val; omega)
  · exact Fin.ext (by show 0 + 1 * n.val = n.val; omega)

section Loop

variable (𝒱 : Variants) (c : Dev nD) (bd : Option 𝒱.V) (i : grid0.Coords) (arg1 : Memref sig .tc .vmem S512x1024 .f32) (harg1 : arg1.IsWhole) (arg2 : Memref sig .tc .vmem S1x1024 .f32) (harg2 : arg2.IsWhole) (arg3 : Memref sig .tc .vmem S11x1024x256 .bf16) (harg3 : arg3.IsWhole) (arg4 : Memref sig .tc .vmem S11x1024x256 .bf16) (harg4 : arg4.IsWhole) (arg5 : Memref sig .tc .vmem S11x256x1024 .bf16) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x1024 .f32) (harg8 : arg8.IsWhole) (X3 : BufTy.Contents (Elt Ideal) arg3.view.ty) (X4 : BufTy.Contents (Elt Ideal) arg4.view.ty) (X5 : BufTy.Contents (Elt Ideal) arg5.view.ty) (X7 : BufTy.Contents (Elt Ideal) arg7.view.ty)

/-- One trip: its one store leaves the accumulator it found plus its share. -/
theorem trip_at (k : Fin k0_t1_loop.trips) (f8 : BufTy.Contents (Elt Ideal) arg8.view.ty) (L : List (View.Piece (Elt Ideal) S512x1024 .f32))
    (q : Fin 11) (hq : q.val = k.val) (r : Fin 512) (j : Fin 1024) (f : BufTy.Contents (Elt Ideal) arg8.view.ty) :
    arg8.view.read (Elt Ideal) (arg8.view.writes (Elt Ideal) f
      (tripL_k0_t1 (F := Ideal) 𝒱 c bd i arg1 harg1 arg2 harg2 arg3 harg3 arg4 harg4 arg5 harg5 arg6 harg6 arg7 harg7 arg8 harg8 X3 X4 X5 X7 k f8 ++ L)) (ix2 r j)
      = arg8.view.read (Elt Ideal) f8 (ix2 r j)
        + part (arg7.view.read (Elt Ideal) X7) (arg3.view.read (Elt Ideal) X3) (arg4.view.read (Elt Ideal) X4) (arg5.view.read (Elt Ideal) X5) r j q := by
  unfold tripL_k0_t1 trip_k0_t1
  dsimp only [List.cons_append, List.nil_append]
  have h1 : k0_off1 k = ![q.val, 0, 0] := (off1_eq k).trans (by rw [hq])
  have h2 : k0_off2 k = ![q.val, 0, 0] := (off2_eq k).trans (by rw [hq])
  refine (congrFun (View.read_writes_full arg8.view _ _ _ _) (ix2 r j)).trans ?_
  refine (pay3_at _ _ _ _ _ _ _).trans ?_
  unfold part
  refine congrArg₂ (· + ·) (congrFun (View.readAt_full arg8.view f8 _) _) (Finset.sum_congr rfl fun n _ => ?_)
  refine congrArg₂ (· * ·) (congrArg₂ FfnRow.gated (Finset.sum_congr rfl fun l _ => ?_) (Finset.sum_congr rfl fun l _ => ?_)) ?_
  · exact congrArg₂ (· * ·) (congrFun (View.readAt_full arg7.view X7 _) _) (slab_at arg3.view X3 q _ h1 _ l n)
  · exact congrArg₂ (· * ·) (congrFun (View.readAt_full arg7.view X7 _) _) (slab_at arg4.view X4 q _ h1 _ l n)
  · exact slab_at arg5.view X5 q _ h2 _ n j

/-- The trips before `k` leave the accumulator they found plus their shares. -/
theorem loop_at (G : BufTy.Contents (Elt Ideal) arg8.view.ty) (r : Fin 512) (j : Fin 1024) : ∀ (k : ℕ) (hk : k ≤ 11),
    arg8.view.read (Elt Ideal) (arg8.view.writes (Elt Ideal) G
      (pb_k0_t1 (F := Ideal) 𝒱 c bd i arg1 harg1 arg2 harg2 arg3 harg3 arg4 harg4 arg5 harg5 arg6 harg6 arg7 harg7 arg8 harg8 X3 X4 X5 X7 G k)) (ix2 r j)
      = arg8.view.read (Elt Ideal) G (ix2 r j) + ∑ q : Fin k,
        part (arg7.view.read (Elt Ideal) X7) (arg3.view.read (Elt Ideal) X3) (arg4.view.read (Elt Ideal) X4) (arg5.view.read (Elt Ideal) X5) r j
          ⟨q.val, by omega⟩
  | 0, _ => by
    rw [Finset.univ_eq_empty, Finset.sum_empty, add_zero]
    rfl
  | k + 1, hk => by
    have hT : k0_t1_loop.trips = 11 := by decide +kernel
    have e := pb_k0_t1_succ (F := Ideal) 𝒱 c bd i arg1 harg1 arg2 harg2 arg3 harg3 arg4 harg4 arg5 harg5 arg6 harg6 arg7 harg7 arg8 harg8 X3 X4 X5 X7 G ⟨k, by omega⟩
    rw [Fin.sum_univ_castSucc, ← add_assoc]
    refine (congrArg (fun L => arg8.view.read (Elt Ideal) (arg8.view.writes (Elt Ideal) G L) (ix2 r j)) e).trans ?_
    refine (trip_at 𝒱 c bd i arg1 harg1 arg2 harg2 arg3 harg3 arg4 harg4 arg5 harg5 arg6 harg6 arg7 harg7 arg8 harg8 X3 X4 X5 X7 ⟨k, by omega⟩ _ _ ⟨k, by omega⟩ rfl r j G).trans ?_
    exact congrArg (· + _) (loop_at G r j k (by omega))

end Loop

end Cert.FfnIdeal.Rows

end
-- ==== Proof.FfnVal.lean ====
/- The feed-forward layer: what the call leaves in its result is the reference's result, index by index. -/
module

public import proofs.«01_k».proof.Proof.FfnLoop
public import Idealize.ShloMosaic.Lib.StableHlo.ReadAt

@[expose] public section

set_option maxRecDepth 16384

noncomputable section

open Idealize.ShloMosaic Idealize.ShloMosaic.TcCoe Idealize.SL.Sem

namespace Cert.FfnIdeal.Rows

open Cert.FfnIdeal Cert.FfnIdeal.Gen

variable (m : (ℓ : Loc nD τ sig) → Buf (Elt Ideal) ℓ)

theorem wg_at (c : Dev nD) (q : Fin 11) (k : Fin 1024) (n : Fin 256) : (V m c main_v3 : FVec Ideal S11x1024x256 .bf16) (ix3 q k n)
    = (m ((c : Thread nD τ).loc main_arg2) : FVec Ideal S1024x5632 .f32) (ix2 k ⟨q.val * 256 + n.val, by omega⟩) := by
  simp only [V, List.flatten_cons, List.flatten_nil, List.append_nil]
  after_reads_at

theorem wu_at (c : Dev nD) (q : Fin 11) (k : Fin 1024) (n : Fin 256) : (V m c main_v7 : FVec Ideal S11x1024x256 .bf16) (ix3 q k n)
    = (m ((c : Thread nD τ).loc main_arg2) : FVec Ideal S1024x5632 .f32) (ix2 k ⟨2816 + (q.val * 256 + n.val), by omega⟩) := by
  simp only [V, List.flatten_cons, List.flatten_nil, List.append_nil]
  after_reads_at

theorem wd_at (c : Dev nD) (q : Fin 11) (n : Fin 256) (j : Fin 1024) : (V m c main_v9 : FVec Ideal S11x256x1024 .bf16) (ix3 q n j)
    = (m ((c : Thread nD τ).loc main_arg3) : FVec Ideal S2816x1024 .f32) (ix2 ⟨q.val * 256 + n.val, by omega⟩ j) := by
  simp only [V, List.flatten_cons, List.flatten_nil, List.append_nil]
  after_reads_at

theorem g_at (c : Dev nD) (k : Fin 1024) : (V m c main_v10 : FVec Ideal S1x1024 .f32) (ix2 0 k)
    = (m ((c : Thread nD τ).loc main_arg1) : FVec Ideal S1024 .f32) (ix1 k) := by
  simp only [V, List.flatten_cons, List.flatten_nil, List.append_nil]
  after_reads_at

theorem idx_val : ∀ t : Fin cfg0.N, win0_0.index t = ![t.val, 0]
    ∧ win0_1.index t = ![0, 0]
    ∧ win0_2.index t = ![0, 0, 0]
    ∧ win0_3.index t = ![0, 0, 0]
    ∧ win0_4.index t = ![0, 0, 0]
    ∧ win0_5.index t = ![t.val, 0] :=
  (by decide +kernel : ∀ t : Fin grid0.N, _)

/-- The array row that row `i` of the block at point `t` is. -/
def row (t : Fin cfg0.N) (i : Fin 512) : Fin 65536 := ⟨t.val * 512 + i.val, by have : t.val < 128 := t.isLt; omega⟩

theorem emb_at (t : Fin cfg0.N) (i : Fin 512) (j : Fin 1024) :
    ((cfg0.win 5).blk t).view.emb (ix2 i j : S512x1024.Idx) = (ix2 (row t i) j : S65536x1024.Idx) := by
  blk_ext [row, idx_val t]

theorem bx_at (c : Dev nD) (t : Fin cfg0.N) (i : Fin 512) (k : Fin 1024) : (iblk m c 0 t : FVec Ideal S512x1024 .f32) (ix2 i k)
    = (m ((c : Thread nD τ).loc main_arg0) : FVec Ideal S65536x1024 .f32) (ix2 (row t i) k) := by
  rw [← V_main_arg0 m c]
  blk_ext [iblk, row, idx_val t]

theorem bg_at (c : Dev nD) (t : Fin cfg0.N) (k : Fin 1024) : (iblk m c 1 t : FVec Ideal S1x1024 .f32) (ix2 0 k)
    = (m ((c : Thread nD τ).loc main_arg1) : FVec Ideal S1024 .f32) (ix1 k) := by
  rw [← g_at m c]
  blk_ext [iblk, idx_val t]

theorem bwg_at (c : Dev nD) (t : Fin cfg0.N) (q : Fin 11) (k : Fin 1024) (n : Fin 256) :
    (iblk m c 2 t : FVec Ideal S11x1024x256 .bf16) (ix3 q k n)
    = (m ((c : Thread nD τ).loc main_arg2) : FVec Ideal S1024x5632 .f32) (ix2 k ⟨q.val * 256 + n.val, by omega⟩) := by
  rw [← wg_at m c]
  blk_ext [iblk, idx_val t]

theorem bwu_at (c : Dev nD) (t : Fin cfg0.N) (q : Fin 11) (k : Fin 1024) (n : Fin 256) :
    (iblk m c 3 t : FVec Ideal S11x1024x256 .bf16) (ix3 q k n)
    = (m ((c : Thread nD τ).loc main_arg2) : FVec Ideal S1024x5632 .f32) (ix2 k ⟨2816 + (q.val * 256 + n.val), by omega⟩) := by
  rw [← wu_at m c]
  blk_ext [iblk, idx_val t]

theorem bwd_at (c : Dev nD) (t : Fin cfg0.N) (q : Fin 11) (n : Fin 256) (j : Fin 1024) :
    (iblk m c 4 t : FVec Ideal S11x256x1024 .bf16) (ix3 q n j)
    = (m ((c : Thread nD τ).loc main_arg3) : FVec Ideal S2816x1024 .f32) (ix2 ⟨q.val * 256 + n.val, by omega⟩ j) := by
  rw [← wd_at m c]
  blk_ext [iblk, idx_val t]

/-- What the body leaves in the result's block: the row plus half of the sum of the eleven trips' shares. -/
theorem out_at (c : Dev nD) (t : Fin cfg0.N) (i : Fin 512) (j : Fin 1024) (x : EReal)
    (hx : (iblk m c 0 t : FVec Ideal S512x1024 .f32) (ix2 i j) = x) :
    (outsAt0 m c t : FVec Ideal S512x1024 .f32) (ix2 i j) = x
      + Ideal.ofBits FTy.f32 1056964608#32 * ∑ q : Fin 11,
        part (k0_pay1 (F := Ideal) (iblk m c 0 t) (iblk m c 1 t)) (iblk m c 2 t) (iblk m c 3 t) (iblk m c 4 t) i j q := by
  unfold outsAt0
  frame_out
  refine (pay4_at _ _ _).trans (congrArg₂ (fun a b : EReal => a + Ideal.ofBits FTy.f32 1056964608#32 * b) hx ?_)
  unfold View.readCov
  refine (congrFun (View.readAt_full (View.whole cc0_scratch1) _ _) _).trans ?_
  rw [View.writes_append]
  have hT : Scf.trips (0#32) (Scalar.addi 0#32 11#32) 1#32 = 11 := by decide +kernel
  rw [hT]
  refine (loop_at Variants.none c none (grid0.coords t) (ms0_0 t) (hs0_0 t) (ms0_1 t) (hs0_1 t) (ms0_2 t) (hs0_2 t) (ms0_3 t) (hs0_3 t)
    (ms0_4 t) (hs0_4 t) (ms0_5 t) (hs0_5 t) scM0_0 (Memref.isWhole_whole _) scM0_1 (Memref.isWhole_whole _)
    ((hs0_2 t).unread (iblk m c 2 t)) ((hs0_3 t).unread (iblk m c 3 t)) ((hs0_4 t).unread (iblk m c 4 t))
    ((View.whole cc0_scratch0).writes (Elt Ideal) (View.whole cc0_scratch0).junk
      [⟨Rect.unit ![0, 0] ![512, 1024] inb_S512x1024_S512x1024_0_0, k0_pay1 (F := Ideal) (iblk m c 0 t) (iblk m c 1 t)⟩])
    ((View.whole cc0_scratch1).writes (Elt Ideal) (View.whole cc0_scratch1).junk
      [⟨Rect.unit ![0, 0] ![512, 1024] inb_S512x1024_S512x1024_0_0, k0_pay2 (F := Ideal)⟩]) i j 11 le_rfl).trans ?_
  have e0 : ∀ y, (View.whole cc0_scratch1).read (Elt Ideal) ((View.whole cc0_scratch1).writes (Elt Ideal) (View.whole cc0_scratch1).junk
      [⟨Rect.unit ![0, 0] ![512, 1024] inb_S512x1024_S512x1024_0_0, k0_pay2 (F := Ideal)⟩]) y = (0 : EReal) := fun y =>
    (congrFun (View.read_writes_full (View.whole cc0_scratch1) _ _ _ _) y).trans (pay2_at y)
  refine (congrArg₂ (fun a b : EReal => a + b) (e0 _) rfl).trans ?_
  rw [zero_add]
  refine Finset.sum_congr rfl fun q _ => ?_
  rw [Memref.IsWhole.read_unread, Memref.IsWhole.read_unread, Memref.IsWhole.read_unread]
  exact congrArg (fun h => part h _ _ _ i j q) (View.read_writes_full (View.whole cc0_scratch0) _ _ _ _)

theorem point (c : Dev nD) (t : Fin cfg0.N) (i : Fin 512) (j : Fin 1024) :
    (outsAt0 m c t : FVec Ideal S512x1024 .f32) (ix2 i j)
      = FfnRefIdeal.Res.REF (m ((c : Thread nD τ).loc main_arg0)) (m ((c : Thread nD τ).loc main_arg1)) (m ((c : Thread nD τ).loc
        main_arg2)) (m ((c : Thread nD τ).loc main_arg3)) (ix2 (row t i) j) := by
  rw [out_at m c t i j _ (bx_at m c t i j), FfnRefIdeal.Res.ref_at, Fin.sum_univ_tiles 11 256 (by norm_num : 11 * 256 = 2816)]
  unfold part
  simp only [pay1_at, bx_at, bg_at, bwg_at, bwu_at, bwd_at]

theorem final (c : Dev nD) : (dats m 0 c).arrAt 5 (cfgs 0).N = FfnRefIdeal.Res.REF (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp; rw [after0_5]
  obtain ⟨i, j, rfl⟩ : ∃ (i : Fin 512) (j : Fin 1024), y = (ix2 i j : S512x1024.Idx) := ⟨y 0, y 1, eq_ix2 y⟩
  rw [emb_at]
  exact point m c t i j

end Cert.FfnIdeal.Rows

end
-- ==== Proof.FfnClaim.lean ====
/- The claims about the feed-forward layer: the three frames, and that the call and its reference leave the same result. -/
module

public import proofs.«01_k».proof.Defs
public import proofs.«01_k».proof.Proof.FfnVal
public import proofs.«01_k».proof.Proof.Gen.Ffn.Frame
public import proofs.«01_k».proof.Proof.Gen.FfnRefIdeal.Run
public import Idealize.ShloMosaic.Lib.Claim

@[expose] public section

set_option maxRecDepth 16384

noncomputable section

open Idealize.ShloMosaic Idealize.ShloMosaic.TcCoe Idealize.SL.Sem

namespace Cert.FfnClaim

theorem frame : Cert.quiescent_Ffn := fun m ρ _ => Cert.Ffn.Gen.frame m ρ

theorem frame_ideal : Cert.quiescent_FfnIdeal := fun m ρ _ => Cert.FfnIdeal.Gen.frame m ρ

theorem frame_ref : Cert.quiescent_FfnRefIdeal := fun m g _ =>
  (θ_run _ _ _).mono (fun r h => ⟨fun c => (h c).2, sem_eq_zero_of_no_sems (by decide) r.2⟩) (Cert.FfnRefIdeal.Value.run m g)

theorem preserves : Cert.preserves_Ffn_FfnIdeal := trivial

theorem algebraic : Cert.algebraic_FfnIdeal_FfnRefIdeal := by
  pair_intro
  · run_from Cert.FfnIdeal.Gen.run_main m g
  · run_from Cert.FfnRefIdeal.Value.run m' g'
    exact (Cert.FfnIdeal.Rows.final m c).symm

end Cert.FfnClaim

end
-- ==== Proof.PadRows.lean ====
/- Rows of a weight matrix laid out by heads: 8 heads of 64 rows each, padded to 128 rows a head, the head's own rows in the
   first half for the heads of group 0 (heads 0 to 3) and in the second half for group 1. A contraction over the padded rows
   is the contraction over the 512 rows there are. -/
module

public import Idealize.ShloMosaic.Lib.Pointwise

@[expose] public section

noncomputable section

namespace Cert.PadRows

/-- Where row `p` of 512 sits among the 1024 padded rows. -/
def at' (p : Fin 512) : Fin 1024 := ⟨p.val / 64 * 128 + p.val / 256 * 64 + p.val % 64, by omega⟩

theorem at'_injective : Function.Injective at' := fun p q h => by
  simp only [at', Fin.mk.injEq] at h
  exact Fin.ext (by omega)

/-- The padded row `l` of a column `w` of 512 rows. -/
def pad (w : Fin 512 → EReal) (l : Fin 1024) : EReal :=
  if h : l.val % 128 < 64 then
    (if l.val / 128 < 4 then w ⟨l.val / 128 * 64 + l.val % 128, by omega⟩ else 0)
  else (if l.val / 128 < 4 then 0 else w ⟨l.val / 128 * 64 + (l.val % 128 - 64), by omega⟩)

theorem pad_at' (w : Fin 512 → EReal) (p : Fin 512) : pad w (at' p) = w p := by
  have hp := p.isLt
  unfold pad
  by_cases h : p.val < 256
  · rw [dif_pos (by simp only [at']; omega), if_pos (by simp only [at']; omega)]
    exact congrArg w (Fin.ext (by simp only [at']; omega))
  · rw [dif_neg (by simp only [at']; omega), if_neg (by simp only [at']; omega)]
    exact congrArg w (Fin.ext (by simp only [at']; omega))

theorem pad_of_not_range (w : Fin 512 → EReal) (l : Fin 1024) (h : l ∉ Set.range at') : pad w l = 0 := by
  have hl := l.isLt
  unfold pad
  by_cases h1 : l.val % 128 < 64
  · rw [dif_pos h1]
    by_cases h2 : l.val / 128 < 4
    · exact absurd ⟨⟨l.val / 128 * 64 + l.val % 128, by omega⟩, Fin.ext (by simp only [at']; omega)⟩ h
    · rw [if_neg h2]
  · rw [dif_neg h1]
    by_cases h2 : l.val / 128 < 4
    · rw [if_pos h2]
    · exact absurd ⟨⟨l.val / 128 * 64 + (l.val % 128 - 64), by omega⟩, Fin.ext (by simp only [at']; omega)⟩ h

/-- The contraction over the padded rows is the contraction over the rows. -/
theorem sum_pad (x : Fin 1024 → EReal) (w : Fin 512 → EReal) :
    ∑ l, x l * pad w l = ∑ p, x (at' p) * w p := by
  refine (Fintype.sum_of_injective at' at'_injective _ _ (fun l hl => ?_) (fun p => ?_)).symm
  · rw [pad_of_not_range w l hl, mul_zero]
  · rw [pad_at']

end Cert.PadRows

end
-- ==== Proof.MergeW.lean ====
/- What the gated merge's call finds in its weight windows: the head rows of the two mixers' weights padded to 128 rows a
   head (`PadRows.pad`), and the output weights themselves. -/
module

public import proofs.«01_k».proof.Proof.Gen.MergeIdeal.Frame
public import proofs.«01_k».proof.Proof.PadRows
public import Idealize.ShloMosaic.Lib.StableHlo.ReadAt
public import Mathlib.Tactic.IntervalCases

@[expose] public section

set_option maxRecDepth 16384

noncomputable section

namespace Cert.MergeIdeal.Rows

open Cert.MergeIdeal Cert.MergeIdeal.Gen Idealize.ShloMosaic Idealize.ShloMosaic.TcCoe Idealize.SL.Sem

variable (m : (ℓ : Loc nD τ sig) → Buf (Elt Ideal) ℓ)

/-- A head's group, as the host computes it from the head's number (its floor division by four), is 0 for the first four
    heads, -/
theorem pick_zero (h : ℕ) (hh : h < 8) (a b : EReal) :
    Scalar.select (IntOp.cmpi CmpIPredicate.eq
      (Scalar.select
        (IntOp.andi
          (IntOp.cmpi CmpIPredicate.ne
            (if BitVec.ofNat 32 h = 0 then (0 : BitVec 32) else if (BitVec.ofNat 32 h).msb = true then -1 else 1)
            (if (4#32 : BitVec 32) = 0 then (0 : BitVec 32) else if BitVec.msb (4#32 : BitVec 32) = true then -1 else 1))
          (IntOp.cmpi CmpIPredicate.ne (IntOp.remsi ArithUnit.host (BitVec.ofNat 32 h) 4#32) 0#32))
        (IntOp.subi (IntOp.divsi ArithUnit.host (BitVec.ofNat 32 h) 4#32) 1#32)
        (IntOp.divsi ArithUnit.host (BitVec.ofNat 32 h) 4#32)) 0#32) a b
      = if h < 4 then a else b := by
  interval_cases h <;> rfl

/-- and 1 for the other four. -/
theorem pick_one (h : ℕ) (hh : h < 8) (a b : EReal) :
    Scalar.select (IntOp.cmpi CmpIPredicate.eq
      (Scalar.select
        (IntOp.andi
          (IntOp.cmpi CmpIPredicate.ne
            (if BitVec.ofNat 32 h = 0 then (0 : BitVec 32) else if (BitVec.ofNat 32 h).msb = true then -1 else 1)
            (if (4#32 : BitVec 32) = 0 then (0 : BitVec 32) else if BitVec.msb (4#32 : BitVec 32) = true then -1 else 1))
          (IntOp.cmpi CmpIPredicate.ne (IntOp.remsi ArithUnit.host (BitVec.ofNat 32 h) 4#32) 0#32))
        (IntOp.subi (IntOp.divsi ArithUnit.host (BitVec.ofNat 32 h) 4#32) 1#32)
        (IntOp.divsi ArithUnit.host (BitVec.ofNat 32 h) 4#32)) 1#32) a b
      = if h < 4 then b else a := by
  interval_cases h <;> rfl

theorem wa_at (c : Dev nD) (l k : Fin 1024) : (V m c main_v15 : FVec Ideal S1024x1024 .bf16) (ix2 l k)
    = PadRows.pad (fun p => (m ((c : Thread nD τ).loc main_arg5) : FVec Ideal S512x1024 .f32) (ix2 p k)) l := by
  simp only [V, List.flatten_cons, List.flatten_nil, List.append_nil]
  after_reads_at
  after_reads_at
  have h8 : l.val / 128 < 8 := by omega
  have hc : id (constantI S_ 32 4#32) ix0 = 4#32 := rfl
  simp only [hc]
  clean_types
  unfold PadRows.pad
  by_cases h1 : l.val % 128 < 64
  · refine (dif_pos h1).trans (Eq.trans ?_ (dif_pos h1).symm)
    exact pick_zero _ h8 _ _
  · refine (dif_neg h1).trans (Eq.trans ?_ (dif_neg h1).symm)
    exact pick_one _ h8 _ _

theorem wb_at (c : Dev nD) (l k : Fin 1024) : (V m c main_v31 : FVec Ideal S1024x1024 .bf16) (ix2 l k)
    = PadRows.pad (fun p => (m ((c : Thread nD τ).loc main_arg6) : FVec Ideal S512x1024 .f32) (ix2 p k)) l := by
  simp only [V, List.flatten_cons, List.flatten_nil, List.append_nil]
  after_reads_at
  after_reads_at
  have h8 : l.val / 128 < 8 := by omega
  have hc : id (constantI S_ 32 4#32) ix0 = 4#32 := rfl
  simp only [hc]
  clean_types
  unfold PadRows.pad
  by_cases h1 : l.val % 128 < 64
  · refine (dif_pos h1).trans (Eq.trans ?_ (dif_pos h1).symm)
    exact pick_zero _ h8 _ _
  · refine (dif_neg h1).trans (Eq.trans ?_ (dif_neg h1).symm)
    exact pick_one _ h8 _ _

theorem wo_at (c : Dev nD) (l k : Fin 1024) : (V m c main_v32 : FVec Ideal S1024x1024 .bf16) (ix2 l k)
    = (m ((c : Thread nD τ).loc main_arg7) : FVec Ideal S1024x1024 .f32) (ix2 l k) := by
  simp only [V, List.flatten_cons, List.flatten_nil, List.append_nil]
  after_reads_at

end Cert.MergeIdeal.Rows

end
-- ==== Proof.MergeVal.lean ====
/- The gated merge: what the call leaves in its result is the reference's result, index by index. -/
module

public import proofs.«01_k».proof.Proof.MergeW
public import proofs.«01_k».proof.Proof.Gen.MergeRefIdeal
public import Idealize.ShloMosaic.Lib.Pipeline.ValueKit

@[expose] public section

set_option maxRecDepth 16384

noncomputable section

open Idealize.ShloMosaic Idealize.ShloMosaic.TcCoe Idealize.SL.Sem

namespace Cert.MergeRefIdeal.Res

open Cert.MergeRefIdeal Cert.MergeRefIdeal.Gen

/-- The reference's result over its arguments. -/
def REF (a0 : FVec Ideal S65536x1024 .f32) (a1 a2 : FVec Ideal S65536x1024 .bf16) (a3 a4 : FVec Ideal S65536x1024 .f32)
    (a5 a6 : FVec Ideal S512x1024 .f32) (a7 : FVec Ideal S1024x1024 .f32) : FVec Ideal S65536x1024 .f32 :=
  addf a0 (Host.dotGeneral dot_S65536x1024_S1024x1024_S65536x1024_1_0_0_1_n_n none (addf (mulf a3 (Host.dotGeneral dot_S65536x512_S512x1024_S65536x1024_1_0_0_1_n_n none (shapeCast _ (concatenate S65536x8x64 1 [⟨S65536x4x64, (shapeCast _ (extractStridedSlice S65536x1x4x1x64 ![0, 0, 0, 0, 0] (shapeCast _ (extf .f32 a1 bitsLt_bf16_f32) shapeCasts_S65536x1024_S65536x2x4x2x64) slices_S65536x2x4x2x64_S65536x1x4x1x64_0_0_0_0_0) shapeCasts_S65536x1x4x1x64_S65536x4x64)⟩, ⟨S65536x4x64, (shapeCast _ (extractStridedSlice S65536x1x4x1x64 ![0, 1, 0, 1, 0] (shapeCast _ (extf .f32 a1 bitsLt_bf16_f32) shapeCasts_S65536x1024_S65536x2x4x2x64) slices_S65536x2x4x2x64_S65536x1x4x1x64_0_1_0_1_0) shapeCasts_S65536x1x4x1x64_S65536x4x64)⟩] concatenates_S65536x4x64_S65536x4x64_S65536x8x64_d1) shapeCasts_S65536x8x64_S65536x512) a5)) (mulf a4 (Host.dotGeneral dot_S65536x512_S512x1024_S65536x1024_1_0_0_1_n_n none (shapeCast _ (concatenate S65536x8x64 1 [⟨S65536x4x64, (shapeCast _ (extractStridedSlice S65536x1x4x1x64 ![0, 0, 0, 0, 0] (shapeCast _ (extf .f32 a2 bitsLt_bf16_f32) shapeCasts_S65536x1024_S65536x2x4x2x64) slices_S65536x2x4x2x64_S65536x1x4x1x64_0_0_0_0_0) shapeCasts_S65536x1x4x1x64_S65536x4x64)⟩, ⟨S65536x4x64, (shapeCast _ (extractStridedSlice S65536x1x4x1x64 ![0, 1, 0, 1, 0] (shapeCast _ (extf .f32 a2 bitsLt_bf16_f32) shapeCasts_S65536x1024_S65536x2x4x2x64) slices_S65536x2x4x2x64_S65536x1x4x1x64_0_1_0_1_0) shapeCasts_S65536x1x4x1x64_S65536x4x64)⟩] concatenates_S65536x4x64_S65536x4x64_S65536x8x64_d1) shapeCasts_S65536x8x64_S65536x512) a6))) a7)

theorem ref_at (a0 : FVec Ideal S65536x1024 .f32) (a1 a2 : FVec Ideal S65536x1024 .bf16) (a3 a4 : FVec Ideal S65536x1024 .f32)
    (a5 a6 : FVec Ideal S512x1024 .f32) (a7 : FVec Ideal S1024x1024 .f32) (r : Fin 65536) (j : Fin 1024) :
    REF a0 a1 a2 a3 a4 a5 a6 a7 (ix2 r j) = a0 (ix2 r j)
      + ∑ k : Fin 1024, (a3 (ix2 r k) * (∑ p : Fin 512, a1 (ix2 r (PadRows.at' p)) * a5 (ix2 p k))
          + a4 (ix2 r k) * (∑ p : Fin 512, a2 (ix2 r (PadRows.at' p)) * a6 (ix2 p k))) * a7 (ix2 k j) := by
  have e : ∀ (b : FVec Ideal S65536x1024 .bf16) (p : Fin 512),
      (if h : p.val / 64 < 4 then b (ix2 r ⟨p.val / 64 * 128 + p.val % 64, by omega⟩)
        else b (ix2 r ⟨512 + (p.val / 64 - 4) * 128 + 64 + p.val % 64, by omega⟩)) = b (ix2 r (PadRows.at' p)) := by
    intro b p
    by_cases h : p.val / 64 < 4
    · rw [dif_pos h]
      exact congrArg (fun q => b (ix2 r q)) (Fin.ext (by simp only [PadRows.at']; omega))
    · rw [dif_neg h]
      exact congrArg (fun q => b (ix2 r q)) (Fin.ext (by simp only [PadRows.at']; omega))
  pointwise [REF]
  simp only [e]

end Cert.MergeRefIdeal.Res

namespace Cert.MergeIdeal.Rows

open Cert.MergeIdeal Cert.MergeIdeal.Gen

variable (m : (ℓ : Loc nD τ sig) → Buf (Elt Ideal) ℓ)

theorem idx_val : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![0, 0]
    ∧ win0_6.index t = ![0, 0]
    ∧ win0_7.index t = ![0, 0]
    ∧ win0_8.index t = ![t.val, 0] :=
  (by decide +kernel : ∀ t : Fin grid0.N, _)

/-- The array row that row `i` of the block at point `t` is. -/
def row (t : Fin cfg0.N) (i : Fin 512) : Fin 65536 := ⟨t.val * 512 + i.val, by have : t.val < 128 := t.isLt; omega⟩

theorem emb_at (t : Fin cfg0.N) (i : Fin 512) (j : Fin 1024) :
    ((cfg0.win 8).blk t).view.emb (ix2 i j : S512x1024.Idx) = (ix2 (row t i) j : S65536x1024.Idx) := by
  blk_ext [row, idx_val t]

theorem h_at (c : Dev nD) (t : Fin cfg0.N) (i : Fin 512) (k : Fin 1024) : (iblk m c 0 t : FVec Ideal S512x1024 .f32) (ix2 i k)
    = (m ((c : Thread nD τ).loc main_arg0) : FVec Ideal S65536x1024 .f32) (ix2 (row t i) k) := by
  rw [← V_main_arg0 m c]
  blk_ext [iblk, row, idx_val t]

theorem oa_at (c : Dev nD) (t : Fin cfg0.N) (i : Fin 512) (k : Fin 1024) : (iblk m c 1 t : FVec Ideal S512x1024 .bf16) (ix2 i k)
    = (m ((c : Thread nD τ).loc main_arg1) : FVec Ideal S65536x1024 .bf16) (ix2 (row t i) k) := by
  rw [← V_main_arg1 m c]
  blk_ext [iblk, row, idx_val t]

theorem ob_at (c : Dev nD) (t : Fin cfg0.N) (i : Fin 512) (k : Fin 1024) : (iblk m c 2 t : FVec Ideal S512x1024 .bf16) (ix2 i k)
    = (m ((c : Thread nD τ).loc main_arg2) : FVec Ideal S65536x1024 .bf16) (ix2 (row t i) k) := by
  rw [← V_main_arg2 m c]
  blk_ext [iblk, row, idx_val t]

theorem ga_at (c : Dev nD) (t : Fin cfg0.N) (i : Fin 512) (k : Fin 1024) : (iblk m c 3 t : FVec Ideal S512x1024 .f32) (ix2 i k)
    = (m ((c : Thread nD τ).loc main_arg3) : FVec Ideal S65536x1024 .f32) (ix2 (row t i) k) := by
  rw [← V_main_arg3 m c]
  blk_ext [iblk, row, idx_val t]

theorem gb_at (c : Dev nD) (t : Fin cfg0.N) (i : Fin 512) (k : Fin 1024) : (iblk m c 4 t : FVec Ideal S512x1024 .f32) (ix2 i k)
    = (m ((c : Thread nD τ).loc main_arg4) : FVec Ideal S65536x1024 .f32) (ix2 (row t i) k) := by
  rw [← V_main_arg4 m c]
  blk_ext [iblk, row, idx_val t]

theorem bwa_at (c : Dev nD) (t : Fin cfg0.N) (i k : Fin 1024) : (iblk m c 5 t : FVec Ideal S1024x1024 .bf16) (ix2 i k)
    = PadRows.pad (fun p => (m ((c : Thread nD τ).loc main_arg5) : FVec Ideal S512x1024 .f32) (ix2 p k)) i := by
  rw [← wa_at m c]
  blk_ext [iblk, idx_val t]

theorem bwb_at (c : Dev nD) (t : Fin cfg0.N) (i k : Fin 1024) : (iblk m c 6 t : FVec Ideal S1024x1024 .bf16) (ix2 i k)
    = PadRows.pad (fun p => (m ((c : Thread nD τ).loc main_arg6) : FVec Ideal S512x1024 .f32) (ix2 p k)) i := by
  rw [← wb_at m c]
  blk_ext [iblk, idx_val t]

theorem bwo_at (c : Dev nD) (t : Fin cfg0.N) (i k : Fin 1024) : (iblk m c 7 t : FVec Ideal S1024x1024 .bf16) (ix2 i k)
    = (m ((c : Thread nD τ).loc main_arg7) : FVec Ideal S1024x1024 .f32) (ix2 i k) := by
  rw [← wo_at m c]
  blk_ext [iblk, idx_val t]

/-- One row of the call's result over its blocks. -/
theorem pay_at (ga : FVec Ideal S512x1024 .f32) (oa : FVec Ideal S512x1024 .bf16) (wa : FVec Ideal S1024x1024 .bf16)
    (gb : FVec Ideal S512x1024 .f32) (ob : FVec Ideal S512x1024 .bf16) (wb : FVec Ideal S1024x1024 .bf16)
    (h : FVec Ideal S512x1024 .f32) (wo : FVec Ideal S1024x1024 .bf16) (i : Fin 512) (j : Fin 1024) :
    k0_pay1 ga oa wa gb ob wb h wo (ix2 i j) = h (ix2 i j)
      + ∑ k : Fin 1024, (ga (ix2 i k) * (∑ l : Fin 1024, oa (ix2 i l) * wa (ix2 l k))
          + gb (ix2 i k) * (∑ l : Fin 1024, ob (ix2 i l) * wb (ix2 l k))) * wo (ix2 k j) := by
  pointwise [k0_pay1]

theorem point (c : Dev nD) (t : Fin cfg0.N) (i : Fin 512) (j : Fin 1024) :
    k0_pay1 (iblk m c 3 t) (iblk m c 1 t) (iblk m c 5 t) (iblk m c 4 t) (iblk m c 2 t) (iblk m c 6 t) (iblk m c 0 t)
      (iblk m c 7 t) (ix2 i j)
      = MergeRefIdeal.Res.REF (m ((c : Thread nD τ).loc main_arg0)) (m ((c : Thread nD τ).loc main_arg1)) (m ((c : Thread nD τ).loc
        main_arg2)) (m ((c : Thread nD τ).loc main_arg3)) (m ((c : Thread nD τ).loc main_arg4)) (m ((c : Thread nD
        τ).loc main_arg5)) (m ((c : Thread nD τ).loc main_arg6)) (m ((c : Thread nD τ).loc main_arg7)) (ix2 (row t i) j) := by
  rw [MergeRefIdeal.Res.ref_at, pay_at]
  simp only [h_at, oa_at, ob_at, ga_at, gb_at, bwa_at, bwb_at, bwo_at, PadRows.sum_pad]

theorem final (c : Dev nD) : (dats m 0 c).arrAt 8 (cfgs 0).N = MergeRefIdeal.Res.REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t hf y => ?_
  blk_simp; rw [after0_8]; frame_out
  obtain ⟨i, j, rfl⟩ : ∃ (i : Fin 512) (j : Fin 1024), y = (ix2 i j : S512x1024.Idx) := ⟨y 0, y 1, eq_ix2 y⟩
  rw [emb_at]
  exact point m c t i j

end Cert.MergeIdeal.Rows

end
-- ==== Proof.MergeClaim.lean ====
/- The claims about the gated merge: the three frames, and that the call and its reference leave the same result. -/
module

public import proofs.«01_k».proof.Defs
public import proofs.«01_k».proof.Proof.MergeVal
public import proofs.«01_k».proof.Proof.Gen.Merge.Frame
public import proofs.«01_k».proof.Proof.Gen.MergeIdeal.Value
public import proofs.«01_k».proof.Proof.Gen.MergeRefIdeal.Run
public import Idealize.ShloMosaic.Lib.Claim

@[expose] public section

set_option maxRecDepth 16384

noncomputable section

open Idealize.ShloMosaic Idealize.ShloMosaic.TcCoe Idealize.SL.Sem

namespace Cert.MergeClaim

theorem frame : Cert.quiescent_Merge := fun m ρ _ => Cert.Merge.Gen.frame m ρ

theorem frame_ideal : Cert.quiescent_MergeIdeal := fun m ρ _ => Cert.MergeIdeal.Gen.frame m ρ

theorem frame_ref : Cert.quiescent_MergeRefIdeal := fun m g _ =>
  (θ_run _ _ _).mono (fun r h => ⟨fun c => (h c).2, sem_eq_zero_of_no_sems (by decide) r.2⟩) (Cert.MergeRefIdeal.Value.run m g)

theorem preserves : Cert.preserves_Merge_MergeIdeal := trivial

theorem algebraic : Cert.algebraic_MergeIdeal_MergeRefIdeal := by
  intro m g m' g' _ hag
  refine ⟨fun c => Cert.MergeRefIdeal.Res.REF (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)), ?_, ?_⟩
  · exact (θ_run _ _ _).mono (fun r h c => ⟨(h c).1.trans (Cert.MergeIdeal.Rows.final m c), (h c).2⟩) (Cert.MergeIdeal.Value.run_blocks m g)
  · refine (θ_run _ _ _).mono (fun r h c => ⟨(h c).1.trans ?_, (h c).2⟩) (Cert.MergeRefIdeal.Value.run m' g')
    obtain ⟨e0, e1, e2, e3, e4, e5, e6, e7⟩ := hag c
    rw [e0, e1, e2, e3, e4, e5, e6, e7]
    rfl

end Cert.MergeClaim

end
-- ==== Proof.ProjNorm.lean ====
/- A head's normalisation: 64 values multiplied by the inverse root of their mean square and by a gain; and the same as the call
   computes it, from a row of 128 lanes. -/
module

public import proofs.«01_k».proof.Proof.HeadNorm

@[expose] public section

noncomputable section

open Idealize.ShloMosaic

namespace Cert.HeadNorm

/-- The head `f` normalised, under the gain `g`. -/
def headNorm (f g : Fin 64 → EReal) (e : Fin 64) : EReal :=
  f e * Ideal.rsqrt (Ideal.div (∑ x : Fin 64, f x * f x) (Ideal.ofBits .f32 0x42800000#32) + Ideal.ofBits .f32 0x358637BD#32) * g e

/-- The row `c` of 128 lanes normalised in each half, as the call does it with the matrix `s`. -/
def laneNorm (c : Fin 128 → EReal) (s : Fin 128 → Fin 128 → EReal) (g : Fin 128 → EReal) (j : Fin 128) : EReal :=
  c j * Ideal.rsqrt ((∑ x : Fin 128, c x * c x * s x j + ∑ x : Fin 128, (c x * c x - c x * c x) * s x j) * Ideal.ofBits .f32 0x3C800000#32
    + Ideal.ofBits .f32 0x358637BD#32) * g j

theorem laneNorm_eq (c : Fin 128 → EReal) (hc : ∀ y, Real' (c y)) (s : Fin 128 → Fin 128 → EReal)
    (hs : ∀ k l, s k l = if k.val / 64 = l.val / 64 then (1 : EReal) else (0 : EReal)) (g : Fin 128 → EReal) (h : Fin 2) (e : Fin 64) :
    laneNorm c s g (lane h e) = headNorm (fun d => c (lane h d)) (fun d => g (lane h d)) e := by
  have e1 : s = fun k l => if k.val / 64 = l.val / 64 then (1 : EReal) else (0 : EReal) := funext fun k => funext fun l => hs k l
  have e2 : (lane h e).val / 64 = h.val := by simp only [lane]; omega
  subst e1
  unfold laneNorm headNorm
  simp only [e2]
  rw [mean_square c hc h]

/-- A lane that is zero stays zero. -/
theorem laneNorm_zero (c : Fin 128 → EReal) (s : Fin 128 → Fin 128 → EReal) (g : Fin 128 → EReal) (j : Fin 128) (h : c j = 0) :
    laneNorm c s g j = 0 := by
  unfold laneNorm; rw [h, zero_mul, zero_mul]

/-- The same at any lane: the head `f` and the gain `k` are what the row and its gain hold on the lane's half. -/
theorem laneNorm_at (c : Fin 128 → EReal) (hc : ∀ y, Real' (c y)) (s : Fin 128 → Fin 128 → EReal)
    (hs : ∀ k l, s k l = if k.val / 64 = l.val / 64 then (1 : EReal) else (0 : EReal)) (g : Fin 128 → EReal) (j : Fin 128) (f k : Fin 64 → EReal)
    (hf : ∀ d : Fin 64, c ⟨j.val / 64 * 64 + d.val, by omega⟩ = f d) (hg : ∀ d : Fin 64, g ⟨j.val / 64 * 64 + d.val, by omega⟩ = k d) :
    laneNorm c s g j = headNorm f k ⟨j.val % 64, by omega⟩ := by
  have e := laneNorm_eq c hc s hs g ⟨j.val / 64, by omega⟩ ⟨j.val % 64, by omega⟩
  have ej : lane ⟨j.val / 64, by omega⟩ ⟨j.val % 64, by omega⟩ = j := Fin.ext (by simp only [lane]; omega)
  rw [ej] at e
  refine e.trans ?_
  have e1 : (fun d => c (lane ⟨j.val / 64, by omega⟩ d)) = f := funext hf
  have e2 : (fun d => g (lane ⟨j.val / 64, by omega⟩ d)) = k := funext hg
  rw [e1, e2]

/-- A factor of the gain is a factor of the head. -/
theorem headNorm_scale (f g : Fin 64 → EReal) (c : EReal) (e : Fin 64) : headNorm f (fun d => g d * c) e = headNorm f g e * c := by
  unfold headNorm; rw [mul_assoc, mul_assoc, mul_assoc]

theorem ofBits_eps : ∃ e : ℝ, 0 < e ∧ Ideal.ofBits .f32 0x358637BD#32 = (e : EReal) := by
  refine ⟨_, ?_, by simp [Ideal.ofBits, Ideal.ieee, -EReal.coe_mul]; rfl⟩
  positivity

theorem ofBits_1024 : Ideal.ofBits .f32 0x44800000#32 = ((1024 : ℝ) : EReal) := by
  simp [Ideal.ofBits, Ideal.ieee, -EReal.coe_mul]; norm_num

theorem squares {ι : Type} (s : Finset ι) (f : ι → EReal) (h : ∀ i, Real' (f i)) : ∃ r : ℝ, 0 ≤ r ∧ ∑ i ∈ s, f i * f i = (r : EReal) := by
  classical
  induction s using Finset.induction_on with
  | empty => exact ⟨0, le_refl _, rfl⟩
  | insert a s ha ih =>
    obtain ⟨r, hr, e⟩ := ih
    obtain ⟨y, hy⟩ := h a
    refine ⟨y * y + r, add_nonneg (mul_self_nonneg y) hr, ?_⟩
    rw [Finset.sum_insert ha, e, hy, EReal.coe_add, EReal.coe_mul]

theorem rsqrt_pos (r : ℝ) (h : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.2 h.le), if_neg h.ne']

/-- The inverse root of a finite row's mean square is finite. -/
theorem rms_real (f : Fin 1024 → EReal) (h : ∀ i, Real' (f i)) :
    Real' (Ideal.rsqrt (Ideal.div (∑ x : Fin 1024, f x * f x) (Ideal.ofBits .f32 0x44800000#32) + Ideal.ofBits .f32 0x358637BD#32)) := by
  obtain ⟨r, hr, e⟩ := squares Finset.univ f h
  obtain ⟨c, hc, ec⟩ := ofBits_eps
  have hp : (0 : ℝ) < r * (1 / 1024) + c := by positivity
  rw [e, ec, ofBits_1024, Ideal.div_coe (by norm_num), ← EReal.coe_mul, ← EReal.coe_add]
  exact ⟨_, rsqrt_pos _ hp⟩

end Cert.HeadNorm

end
-- ==== Proof.ProjRef.lean ====
/- The combined projection's reference at one element: every result from the product of the normalised rows with the weights. -/
module

public import proofs.«01_k».proof.Proof.Gen.ProjRefIdeal
public import proofs.«01_k».proof.Proof.ProjNorm
public import Idealize.ShloMosaic.Lib.Pipeline.ValueKit

@[expose] public section

set_option maxRecDepth 16384

noncomputable section

open Idealize.ShloMosaic Idealize.ShloMosaic.TcCoe Idealize.SL.Sem

namespace Cert.ProjRefIdeal.Res

open Cert.ProjRefIdeal Cert.ProjRefIdeal.Gen

/-- The product of the normalised rows with the weights, -/
def z13 (a0 : FVec Ideal S65536x1024 .f32) (a1 : FVec Ideal S1024 .f32) (a2 : FVec Ideal S1024x4704 .f32) : FVec Ideal S65536x4704 .f32 :=
  Host.dotGeneral dot_S65536x1024_S1024x4704_S65536x4704_1_0_0_1_n_n none (mulf (mulf a0 (broadcastInDim S65536x1024 ![0, 1] bcast_S65536x1_S65536x1024_0_1 (Host.rsqrt (addf (Host.divf (broadcastInDim S65536x1 ![0] bcast_S65536_S65536x1_0 (Host.reduceAdd (mulf a0 a0) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 a1))) a2

def r15 (z : FVec Ideal S65536x4704 .f32) (a3 a4 a5 a6 a7 a8 : FVec Ideal S64 .f32) : FVec Ideal S65536x256 .f32 :=
  extractStridedSlice S65536x256 ![0, 512] z slices_S65536x4704_S65536x256_0_512

def r18 (z : FVec Ideal S65536x4704 .f32) (a3 a4 a5 a6 a7 a8 : FVec Ideal S64 .f32) : FVec Ideal S65536x64 .f32 :=
  extractStridedSlice S65536x64 ![0, 1288] z slices_S65536x4704_S65536x64_0_1288

def r21 (z : FVec Ideal S65536x4704 .f32) (a3 a4 a5 a6 a7 a8 : FVec Ideal S64 .f32) : FVec Ideal S65536x256 .f32 :=
  extractStridedSlice S65536x256 ![0, 2120] z slices_S65536x4704_S65536x256_0_2120

def r22 (z : FVec Ideal S65536x4704 .f32) (a3 a4 a5 a6 a7 a8 : FVec Ideal S64 .f32) : FVec Ideal S65536x256 .f32 :=
  extractStridedSlice S65536x256 ![0, 2376] z slices_S65536x4704_S65536x256_0_2376

def r50 (z : FVec Ideal S65536x4704 .f32) (a3 a4 a5 a6 a7 a8 : FVec Ideal S64 .f32) : FVec Ideal S65536x128 .f32 :=
  (concatenate S65536x128 1 [⟨S65536x8, ((extractStridedSlice S65536x8 ![0, 1280] z slices_S65536x4704_S65536x8_0_1280) : FVec Ideal S65536x8 .f32)⟩, ⟨S65536x24, ((extractStridedSlice S65536x24 ![0, 2632] z slices_S65536x4704_S65536x24_0_2632) : FVec Ideal S65536x24 .f32)⟩, ⟨S65536x96, ((broadcastInDim S65536x96 ![] bcast_S_S65536x96 (constant S_ .f32 0x00000000#32)) : FVec Ideal S65536x96 .f32)⟩] concatenates_S65536x8_S65536x24_S65536x96_S65536x128_d1 : FVec Ideal S65536x128 .f32)

def r51 (z : FVec Ideal S65536x4704 .f32) (a3 a4 a5 a6 a7 a8 : FVec Ideal S64 .f32) : FVec Ideal S65536x8x64 .f32 :=
  shapeCast _ (extractStridedSlice S65536x512 ![0, 0] z slices_S65536x4704_S65536x512_0_0) shapeCasts_S65536x512_S65536x8x64

def r67 (z : FVec Ideal S65536x4704 .f32) (a3 a4 a5 a6 a7 a8 : FVec Ideal S64 .f32) : FVec Ideal S65536x2x4x64 .f32 :=
  shapeCast _ (mulf (mulf (mulf (r51 z a3 a4 a5 a6 a7 a8) (broadcastInDim S65536x8x64 ![0, 1, 2] bcast_S65536x8x1_S65536x8x64_0_1_2 (Host.rsqrt (addf (Host.divf (broadcastInDim S65536x8x1 ![0, 1] bcast_S65536x8_S65536x8x1_0_1 (Host.reduceAdd (mulf (r51 z a3 a4 a5 a6 a7 a8) (r51 z a3 a4 a5 a6 a7 a8)) (constant S_ .f32 0x00000000#32) reducesTo_S65536x8x64_S65536x8_d2 h_S_)) (broadcastInDim S65536x8x1 ![] bcast_S_S65536x8x1 (constant S_ .f32 0x42800000#32))) (broadcastInDim S65536x8x1 ![] bcast_S_S65536x8x1 (constant S_ .f32 0x358637BD#32)))))) (broadcastInDim S65536x8x64 ![0, 1, 2] bcast_S1x1x64_S65536x8x64_0_1_2 (broadcastInDim S1x1x64 ![2] bcast_S64_S1x1x64_2 a3))) (broadcastInDim S65536x8x64 ![] bcast_S_S65536x8x64 (constant S_ .f32 0x3E000000#32))) shapeCasts_S65536x8x64_S65536x2x4x64

def r68 (z : FVec Ideal S65536x4704 .f32) (a3 a4 a5 a6 a7 a8 : FVec Ideal S64 .f32) : FVec Ideal S65536x4x64 .f32 :=
  broadcastInDim S65536x4x64 ![] bcast_S_S65536x4x64 (constant S_ .f32 0x00000000#32)

def r78 (z : FVec Ideal S65536x4704 .f32) (a3 a4 a5 a6 a7 a8 : FVec Ideal S64 .f32) : FVec Ideal S65536x8x64 .f32 :=
  shapeCast _ (extractStridedSlice S65536x512 ![0, 1352] z slices_S65536x4704_S65536x512_0_1352) shapeCasts_S65536x512_S65536x8x64

def r94 (z : FVec Ideal S65536x4704 .f32) (a3 a4 a5 a6 a7 a8 : FVec Ideal S64 .f32) : FVec Ideal S65536x2x4x64 .f32 :=
  shapeCast _ (mulf (mulf (mulf (r78 z a3 a4 a5 a6 a7 a8) (broadcastInDim S65536x8x64 ![0, 1, 2] bcast_S65536x8x1_S65536x8x64_0_1_2 (Host.rsqrt (addf (Host.divf (broadcastInDim S65536x8x1 ![0, 1] bcast_S65536x8_S65536x8x1_0_1 (Host.reduceAdd (mulf (r78 z a3 a4 a5 a6 a7 a8) (r78 z a3 a4 a5 a6 a7 a8)) (constant S_ .f32 0x00000000#32) reducesTo_S65536x8x64_S65536x8_d2 h_S_)) (broadcastInDim S65536x8x1 ![] bcast_S_S65536x8x1 (constant S_ .f32 0x42800000#32))) (broadcastInDim S65536x8x1 ![] bcast_S_S65536x8x1 (constant S_ .f32 0x358637BD#32)))))) (broadcastInDim S65536x8x64 ![0, 1, 2] bcast_S1x1x64_S65536x8x64_0_1_2 (broadcastInDim S1x1x64 ![2] bcast_S64_S1x1x64_2 a6))) (broadcastInDim S65536x8x64 ![] bcast_S_S65536x8x64 (constant S_ .f32 0x3E000000#32))) shapeCasts_S65536x8x64_S65536x2x4x64

def r95 (z : FVec Ideal S65536x4704 .f32) (a3 a4 a5 a6 a7 a8 : FVec Ideal S64 .f32) : FVec Ideal S65536x4x64 .f32 :=
  broadcastInDim S65536x4x64 ![] bcast_S_S65536x4x64 (constant S_ .f32 0x00000000#32)

def r106 (z : FVec Ideal S65536x4704 .f32) (a3 a4 a5 a6 a7 a8 : FVec Ideal S64 .f32) : FVec Ideal S65536x2x64 .f32 :=
  shapeCast _ (extractStridedSlice S65536x128 ![0, 0] (r15 z a3 a4 a5 a6 a7 a8) slices_S65536x256_S65536x128_0_0) shapeCasts_S65536x128_S65536x2x64

def r120 (z : FVec Ideal S65536x4704 .f32) (a3 a4 a5 a6 a7 a8 : FVec Ideal S64 .f32) : FVec Ideal S65536x128 .f32 :=
  shapeCast _ (mulf (mulf (r106 z a3 a4 a5 a6 a7 a8) (broadcastInDim S65536x2x64 ![0, 1, 2] bcast_S65536x2x1_S65536x2x64_0_1_2 (Host.rsqrt (addf (Host.divf (broadcastInDim S65536x2x1 ![0, 1] bcast_S65536x2_S65536x2x1_0_1 (Host.reduceAdd (mulf (r106 z a3 a4 a5 a6 a7 a8) (r106 z a3 a4 a5 a6 a7 a8)) (constant S_ .f32 0x00000000#32) reducesTo_S65536x2x64_S65536x2_d2 h_S_)) (broadcastInDim S65536x2x1 ![] bcast_S_S65536x2x1 (constant S_ .f32 0x42800000#32))) (broadcastInDim S65536x2x1 ![] bcast_S_S65536x2x1 (constant S_ .f32 0x358637BD#32)))))) (broadcastInDim S65536x2x64 ![0, 1, 2] bcast_S1x1x64_S65536x2x64_0_1_2 (broadcastInDim S1x1x64 ![2] bcast_S64_S1x1x64_2 a4))) shapeCasts_S65536x2x64_S65536x128

def r121 (z : FVec Ideal S65536x4704 .f32) (a3 a4 a5 a6 a7 a8 : FVec Ideal S64 .f32) : FVec Ideal S65536x128 .f32 :=
  extractStridedSlice S65536x128 ![0, 128] (r15 z a3 a4 a5 a6 a7 a8) slices_S65536x256_S65536x128_0_128

def r126 (z : FVec Ideal S65536x4704 .f32) (a3 a4 a5 a6 a7 a8 : FVec Ideal S64 .f32) : FVec Ideal S65536x2x64 .f32 :=
  shapeCast _ (extractStridedSlice S65536x128 ![0, 0] (r21 z a3 a4 a5 a6 a7 a8) slices_S65536x256_S65536x128_0_0) shapeCasts_S65536x128_S65536x2x64

def r140 (z : FVec Ideal S65536x4704 .f32) (a3 a4 a5 a6 a7 a8 : FVec Ideal S64 .f32) : FVec Ideal S65536x128 .f32 :=
  shapeCast _ (mulf (mulf (r126 z a3 a4 a5 a6 a7 a8) (broadcastInDim S65536x2x64 ![0, 1, 2] bcast_S65536x2x1_S65536x2x64_0_1_2 (Host.rsqrt (addf (Host.divf (broadcastInDim S65536x2x1 ![0, 1] bcast_S65536x2_S65536x2x1_0_1 (Host.reduceAdd (mulf (r126 z a3 a4 a5 a6 a7 a8) (r126 z a3 a4 a5 a6 a7 a8)) (constant S_ .f32 0x00000000#32) reducesTo_S65536x2x64_S65536x2_d2 h_S_)) (broadcastInDim S65536x2x1 ![] bcast_S_S65536x2x1 (constant S_ .f32 0x42800000#32))) (broadcastInDim S65536x2x1 ![] bcast_S_S65536x2x1 (constant S_ .f32 0x358637BD#32)))))) (broadcastInDim S65536x2x64 ![0, 1, 2] bcast_S1x1x64_S65536x2x64_0_1_2 (broadcastInDim S1x1x64 ![2] bcast_S64_S1x1x64_2 a7))) shapeCasts_S65536x2x64_S65536x128

def r141 (z : FVec Ideal S65536x4704 .f32) (a3 a4 a5 a6 a7 a8 : FVec Ideal S64 .f32) : FVec Ideal S65536x128 .f32 :=
  extractStridedSlice S65536x128 ![0, 128] (r21 z a3 a4 a5 a6 a7 a8) slices_S65536x256_S65536x128_0_128

def r146 (z : FVec Ideal S65536x4704 .f32) (a3 a4 a5 a6 a7 a8 : FVec Ideal S64 .f32) : FVec Ideal S65536x2x64 .f32 :=
  shapeCast _ (extractStridedSlice S65536x128 ![0, 0] (r22 z a3 a4 a5 a6 a7 a8) slices_S65536x256_S65536x128_0_0) shapeCasts_S65536x128_S65536x2x64

def r160 (z : FVec Ideal S65536x4704 .f32) (a3 a4 a5 a6 a7 a8 : FVec Ideal S64 .f32) : FVec Ideal S65536x128 .f32 :=
  shapeCast _ (mulf (mulf (r146 z a3 a4 a5 a6 a7 a8) (broadcastInDim S65536x2x64 ![0, 1, 2] bcast_S65536x2x1_S65536x2x64_0_1_2 (Host.rsqrt (addf (Host.divf (broadcastInDim S65536x2x1 ![0, 1] bcast_S65536x2_S65536x2x1_0_1 (Host.reduceAdd (mulf (r146 z a3 a4 a5 a6 a7 a8) (r146 z a3 a4 a5 a6 a7 a8)) (constant S_ .f32 0x00000000#32) reducesTo_S65536x2x64_S65536x2_d2 h_S_)) (broadcastInDim S65536x2x1 ![] bcast_S_S65536x2x1 (constant S_ .f32 0x42800000#32))) (broadcastInDim S65536x2x1 ![] bcast_S_S65536x2x1 (constant S_ .f32 0x358637BD#32)))))) (broadcastInDim S65536x2x64 ![0, 1, 2] bcast_S1x1x64_S65536x2x64_0_1_2 (broadcastInDim S1x1x64 ![2] bcast_S64_S1x1x64_2 a8))) shapeCasts_S65536x2x64_S65536x128

def r161 (z : FVec Ideal S65536x4704 .f32) (a3 a4 a5 a6 a7 a8 : FVec Ideal S64 .f32) : FVec Ideal S65536x128 .f32 :=
  extractStridedSlice S65536x128 ![0, 128] (r22 z a3 a4 a5 a6 a7 a8) slices_S65536x256_S65536x128_0_128

def o77 (z : FVec Ideal S65536x4704 .f32) (a3 a4 a5 a6 a7 a8 : FVec Ideal S64 .f32) : FVec Ideal S65536x1024 .bf16 :=
  truncf .bf16 (shapeCast _ (concatenate S65536x8x128 1 [⟨S65536x4x128, (concatenate S65536x4x128 2 [⟨S65536x4x64, (shapeCast _ (extractStridedSlice S65536x1x4x64 ![0, 0, 0, 0] (r67 z a3 a4 a5 a6 a7 a8) slices_S65536x2x4x64_S65536x1x4x64_0_0_0_0) shapeCasts_S65536x1x4x64_S65536x4x64)⟩, ⟨S65536x4x64, (r68 z a3 a4 a5 a6 a7 a8)⟩] concatenates_S65536x4x64_S65536x4x64_S65536x4x128_d2)⟩, ⟨S65536x4x128, (concatenate S65536x4x128 2 [⟨S65536x4x64, (r68 z a3 a4 a5 a6 a7 a8)⟩, ⟨S65536x4x64, (shapeCast _ (extractStridedSlice S65536x1x4x64 ![0, 1, 0, 0] (r67 z a3 a4 a5 a6 a7 a8) slices_S65536x2x4x64_S65536x1x4x64_0_1_0_0) shapeCasts_S65536x1x4x64_S65536x4x64)⟩] concatenates_S65536x4x64_S65536x4x64_S65536x4x128_d2)⟩] concatenates_S65536x4x128_S65536x4x128_S65536x8x128_d1) shapeCasts_S65536x8x128_S65536x1024) bitsLt_bf16_f32

def o32 (z : FVec Ideal S65536x4704 .f32) (a3 a4 a5 a6 a7 a8 : FVec Ideal S64 .f32) : FVec Ideal S65536x1024 .bf16 :=
  truncf .bf16 (shapeCast _ (concatenate S65536x8x128 2 [⟨S65536x8x64, (shapeCast _ (mulf (extractStridedSlice S65536x512 ![0, 768] z slices_S65536x4704_S65536x512_0_768) (broadcastInDim S65536x512 ![] bcast_S_S65536x512 (constant S_ .f32 0x3E000000#32))) shapeCasts_S65536x512_S65536x8x64)⟩, ⟨S65536x8x64, (broadcastInDim S65536x8x64 ![] bcast_S_S65536x8x64 (constant S_ .f32 0x00000000#32))⟩] concatenates_S65536x8x64_S65536x8x64_S65536x8x128_d2) shapeCasts_S65536x8x128_S65536x1024) bitsLt_bf16_f32

def o104 (z : FVec Ideal S65536x4704 .f32) (a3 a4 a5 a6 a7 a8 : FVec Ideal S64 .f32) : FVec Ideal S65536x1024 .bf16 :=
  truncf .bf16 (shapeCast _ (concatenate S65536x8x128 1 [⟨S65536x4x128, (concatenate S65536x4x128 2 [⟨S65536x4x64, (shapeCast _ (extractStridedSlice S65536x1x4x64 ![0, 0, 0, 0] (r94 z a3 a4 a5 a6 a7 a8) slices_S65536x2x4x64_S65536x1x4x64_0_0_0_0) shapeCasts_S65536x1x4x64_S65536x4x64)⟩, ⟨S65536x4x64, (r95 z a3 a4 a5 a6 a7 a8)⟩] concatenates_S65536x4x64_S65536x4x64_S65536x4x128_d2)⟩, ⟨S65536x4x128, (concatenate S65536x4x128 2 [⟨S65536x4x64, (r95 z a3 a4 a5 a6 a7 a8)⟩, ⟨S65536x4x64, (shapeCast _ (extractStridedSlice S65536x1x4x64 ![0, 1, 0, 0] (r94 z a3 a4 a5 a6 a7 a8) slices_S65536x2x4x64_S65536x1x4x64_0_1_0_0) shapeCasts_S65536x1x4x64_S65536x4x64)⟩] concatenates_S65536x4x64_S65536x4x64_S65536x4x128_d2)⟩] concatenates_S65536x4x128_S65536x4x128_S65536x8x128_d1) shapeCasts_S65536x8x128_S65536x1024) bitsLt_bf16_f32

def o122 (z : FVec Ideal S65536x4704 .f32) (a3 a4 a5 a6 a7 a8 : FVec Ideal S64 .f32) : FVec Ideal S65536x256 .f32 :=
  concatenate S65536x256 1 [⟨S65536x128, (r120 z a3 a4 a5 a6 a7 a8)⟩, ⟨S65536x128, (r121 z a3 a4 a5 a6 a7 a8)⟩] concatenates_S65536x128_S65536x128_S65536x256_d1

def o123 (z : FVec Ideal S65536x4704 .f32) (a3 a4 a5 a6 a7 a8 : FVec Ideal S64 .f32) : FVec Ideal S65536x128 .bf16 :=
  truncf .bf16 (r120 z a3 a4 a5 a6 a7 a8) bitsLt_bf16_f32

def o124 (z : FVec Ideal S65536x4704 .f32) (a3 a4 a5 a6 a7 a8 : FVec Ideal S64 .f32) : FVec Ideal S65536x128 .bf16 :=
  truncf .bf16 (r121 z a3 a4 a5 a6 a7 a8) bitsLt_bf16_f32

def o20 (z : FVec Ideal S65536x4704 .f32) (a3 a4 a5 a6 a7 a8 : FVec Ideal S64 .f32) : FVec Ideal S65536x256 .f32 :=
  extractStridedSlice S65536x256 ![0, 1864] z slices_S65536x4704_S65536x256_0_1864

def o142 (z : FVec Ideal S65536x4704 .f32) (a3 a4 a5 a6 a7 a8 : FVec Ideal S64 .f32) : FVec Ideal S65536x256 .f32 :=
  concatenate S65536x256 1 [⟨S65536x128, (r140 z a3 a4 a5 a6 a7 a8)⟩, ⟨S65536x128, (r141 z a3 a4 a5 a6 a7 a8)⟩] concatenates_S65536x128_S65536x128_S65536x256_d1

def o143 (z : FVec Ideal S65536x4704 .f32) (a3 a4 a5 a6 a7 a8 : FVec Ideal S64 .f32) : FVec Ideal S65536x128 .bf16 :=
  truncf .bf16 (r140 z a3 a4 a5 a6 a7 a8) bitsLt_bf16_f32

def o144 (z : FVec Ideal S65536x4704 .f32) (a3 a4 a5 a6 a7 a8 : FVec Ideal S64 .f32) : FVec Ideal S65536x128 .bf16 :=
  truncf .bf16 (r141 z a3 a4 a5 a6 a7 a8) bitsLt_bf16_f32

def o162 (z : FVec Ideal S65536x4704 .f32) (a3 a4 a5 a6 a7 a8 : FVec Ideal S64 .f32) : FVec Ideal S65536x256 .f32 :=
  concatenate S65536x256 1 [⟨S65536x128, (r160 z a3 a4 a5 a6 a7 a8)⟩, ⟨S65536x128, (r161 z a3 a4 a5 a6 a7 a8)⟩] concatenates_S65536x128_S65536x128_S65536x256_d1

def o163 (z : FVec Ideal S65536x4704 .f32) (a3 a4 a5 a6 a7 a8 : FVec Ideal S64 .f32) : FVec Ideal S65536x128 .bf16 :=
  truncf .bf16 (r160 z a3 a4 a5 a6 a7 a8) bitsLt_bf16_f32

def o164 (z : FVec Ideal S65536x4704 .f32) (a3 a4 a5 a6 a7 a8 : FVec Ideal S64 .f32) : FVec Ideal S65536x128 .bf16 :=
  truncf .bf16 (r161 z a3 a4 a5 a6 a7 a8) bitsLt_bf16_f32

def o170 (z : FVec Ideal S65536x4704 .f32) (a3 a4 a5 a6 a7 a8 : FVec Ideal S64 .f32) : FVec Ideal S65536x1024 .f32 :=
  Host.divf (broadcastInDim S65536x1024 ![] bcast_S_S65536x1024 (constant S_ .f32 0x3F800000#32)) (addf (broadcastInDim S65536x1024 ![] bcast_S_S65536x1024 (constant S_ .f32 0x3F800000#32)) (Host.exp (Host.negf (extractStridedSlice S65536x1024 ![0, 2656] z slices_S65536x4704_S65536x1024_0_2656))))

def o176 (z : FVec Ideal S65536x4704 .f32) (a3 a4 a5 a6 a7 a8 : FVec Ideal S64 .f32) : FVec Ideal S65536x1024 .f32 :=
  Host.divf (broadcastInDim S65536x1024 ![] bcast_S_S65536x1024 (constant S_ .f32 0x3F800000#32)) (addf (broadcastInDim S65536x1024 ![] bcast_S_S65536x1024 (constant S_ .f32 0x3F800000#32)) (Host.exp (Host.negf (extractStridedSlice S65536x1024 ![0, 3680] z slices_S65536x4704_S65536x1024_0_3680))))

def o45 (z : FVec Ideal S65536x4704 .f32) (a3 a4 a5 a6 a7 a8 : FVec Ideal S64 .f32) : FVec Ideal S65536x64 .f32 :=
  mulf (mulf (r18 z a3 a4 a5 a6 a7 a8) (broadcastInDim S65536x64 ![0, 1] bcast_S65536x1_S65536x64_0_1 (Host.rsqrt (addf (Host.divf (broadcastInDim S65536x1 ![0] bcast_S65536_S65536x1_0 (Host.reduceAdd (mulf (r18 z a3 a4 a5 a6 a7 a8) (r18 z a3 a4 a5 a6 a7 a8)) (constant S_ .f32 0x00000000#32) reducesTo_S65536x64_S65536_d1 h_S_)) (broadcastInDim S65536x1 ![] bcast_S_S65536x1 (constant S_ .f32 0x42800000#32))) (broadcastInDim S65536x1 ![] bcast_S_S65536x1 (constant S_ .f32 0x358637BD#32)))))) (broadcastInDim S65536x64 ![0, 1] bcast_S1x64_S65536x64_0_1 (broadcastInDim S1x64 ![1] bcast_S64_S1x64_1 a5))

def o48 (z : FVec Ideal S65536x4704 .f32) (a3 a4 a5 a6 a7 a8 : FVec Ideal S64 .f32) : FVec Ideal S65536x128 .bf16 :=
  truncf .bf16 (concatenate S65536x128 1 [⟨S65536x64, (mulf (mulf (r18 z a3 a4 a5 a6 a7 a8) (broadcastInDim S65536x64 ![0, 1] bcast_S65536x1_S65536x64_0_1 (Host.rsqrt (addf (Host.divf (broadcastInDim S65536x1 ![0] bcast_S65536_S65536x1_0 (Host.reduceAdd (mulf (r18 z a3 a4 a5 a6 a7 a8) (r18 z a3 a4 a5 a6 a7 a8)) (constant S_ .f32 0x00000000#32) reducesTo_S65536x64_S65536_d1 h_S_)) (broadcastInDim S65536x1 ![] bcast_S_S65536x1 (constant S_ .f32 0x42800000#32))) (broadcastInDim S65536x1 ![] bcast_S_S65536x1 (constant S_ .f32 0x358637BD#32)))))) (broadcastInDim S65536x64 ![0, 1] bcast_S1x64_S65536x64_0_1 (broadcastInDim S1x64 ![1] bcast_S64_S1x64_1 a5)))⟩, ⟨S65536x64, (broadcastInDim S65536x64 ![] bcast_S_S65536x64 (constant S_ .f32 0x00000000#32))⟩] concatenates_S65536x64_S65536x64_S65536x128_d1) bitsLt_bf16_f32

def o178 (z : FVec Ideal S65536x4704 .f32) (a3 a4 a5 a6 a7 a8 : FVec Ideal S64 .f32) : FVec Ideal S65536x128 .f32 :=
  mulf (r50 z a3 a4 a5 a6 a7 a8) (broadcastInDim S65536x128 ![] bcast_S_S65536x128 (constant S_ .f32 0x3EB504F3#32))

def o184 (z : FVec Ideal S65536x4704 .f32) (a3 a4 a5 a6 a7 a8 : FVec Ideal S64 .f32) : FVec Ideal S65536x128 .f32 :=
  Host.divf (broadcastInDim S65536x128 ![] bcast_S_S65536x128 (constant S_ .f32 0x3F800000#32)) (addf (broadcastInDim S65536x128 ![] bcast_S_S65536x128 (constant S_ .f32 0x3F800000#32)) (Host.exp (Host.negf (r50 z a3 a4 a5 a6 a7 a8))))

/-- A hidden row normalised under the gain. -/
def nrow (a0 : FVec Ideal S65536x1024 .f32) (a1 : FVec Ideal S1024 .f32) (r : Fin 65536) (x : Fin 1024) : EReal :=
  (a0 (ix2 r x) : EReal) * Ideal.rsqrt (Ideal.div (∑ x : Fin 1024, (a0 (ix2 r x) : EReal) * (a0 (ix2 r x) : EReal)) (Ideal.ofBits .f32 0x44800000#32) + Ideal.ofBits .f32 0x358637BD#32) * (a1 (ix1 x) : EReal)

theorem z_at (a0 : FVec Ideal S65536x1024 .f32) (a1 : FVec Ideal S1024 .f32) (a2 : FVec Ideal S1024x4704 .f32) (r : Fin 65536) (q : Fin 4704) :
    z13 a0 a1 a2 (ix2 r q) = ∑ x : Fin 1024, nrow a0 a1 r x * (a2 (ix2 x q) : EReal) := by
  pointwise [z13]
  rfl

open HeadNorm in
theorem z_real (a0 : FVec Ideal S65536x1024 .f32) (a1 : FVec Ideal S1024 .f32) (a2 : FVec Ideal S1024x4704 .f32) (h0 : ∀ z, Real' (a0 z)) (h1 : ∀ z, Real' (a1 z)) (h2 : ∀ z, Real' (a2 z))
    (r : Fin 65536) (q : Fin 4704) : Real' (z13 a0 a1 a2 (ix2 r q)) := by
  have e : ∀ x, Real' (nrow a0 a1 r x) := fun x => ((h0 _).mul (rms_real _ fun y => h0 _)).mul (h1 _)
  refine Eq.subst (motive := fun y : EReal => Real' y) (z_at a0 a1 a2 r q).symm ?_
  exact Real'.sum _ _ fun x _ => (e x).mul (h2 _)

theorem q_dsa_at (z : FVec Ideal S65536x4704 .f32) (a3 a4 a5 a6 a7 a8 : FVec Ideal S64 .f32) (r : Fin 65536) (n : Fin 8) (l : Fin 128) : o77 z a3 a4 a5 a6 a7 a8 (ix2 r ⟨n.val * 128 + l.val, by omega⟩) = if l.val / 64 = n.val / 4 then HeadNorm.headNorm (fun d => (z (ix2 r ⟨n.val * 64 + d.val, by omega⟩) : EReal)) (fun d => a3 (ix1 d)) ⟨l.val % 64, by omega⟩ * Ideal.ofBits .f32 0x3E000000#32 else (0 : EReal) := by
  pointwise [o77, r67, r51, r68]
  split
  · split
    · refine Eq.trans ?_ (if_pos (by omega)).symm
      have e1 : (⟨l.val % 64, by omega⟩ : Fin 64) = ⟨l.val, by omega⟩ := Fin.ext (by simp only []; omega)
      rw [e1]
      rfl
    · refine Eq.trans ?_ (if_neg (by omega)).symm
      rfl
  · split
    · refine Eq.trans ?_ (if_neg (by omega)).symm
      rfl
    · refine Eq.trans ?_ (if_pos (by omega)).symm
      have e1 : l.val % 64 = l.val - 64 := by omega
      have e2 : 4 + (n.val - 4) = n.val := by omega
      simp only [e1, e2, HeadNorm.headNorm]

theorem q_nsa_at (z : FVec Ideal S65536x4704 .f32) (a3 a4 a5 a6 a7 a8 : FVec Ideal S64 .f32) (r : Fin 65536) (n : Fin 8) (l : Fin 128) : o104 z a3 a4 a5 a6 a7 a8 (ix2 r ⟨n.val * 128 + l.val, by omega⟩) = if l.val / 64 = n.val / 4 then HeadNorm.headNorm (fun d => (z (ix2 r ⟨1352 + (n.val * 64 + d.val), by omega⟩) : EReal)) (fun d => a6 (ix1 d)) ⟨l.val % 64, by omega⟩ * Ideal.ofBits .f32 0x3E000000#32 else (0 : EReal) := by
  pointwise [o104, r94, r78, r95]
  split
  · split
    · refine Eq.trans ?_ (if_pos (by omega)).symm
      have e1 : (⟨l.val % 64, by omega⟩ : Fin 64) = ⟨l.val, by omega⟩ := Fin.ext (by simp only []; omega)
      rw [e1]
      rfl
    · refine Eq.trans ?_ (if_neg (by omega)).symm
      rfl
  · split
    · refine Eq.trans ?_ (if_neg (by omega)).symm
      rfl
    · refine Eq.trans ?_ (if_pos (by omega)).symm
      have e1 : l.val % 64 = l.val - 64 := by omega
      have e2 : 4 + (n.val - 4) = n.val := by omega
      simp only [e1, e2, HeadNorm.headNorm]

theorem q_idx_at (z : FVec Ideal S65536x4704 .f32) (a3 a4 a5 a6 a7 a8 : FVec Ideal S64 .f32) (r : Fin 65536) (n : Fin 8) (l : Fin 128) : o32 z a3 a4 a5 a6 a7 a8 (ix2 r ⟨n.val * 128 + l.val, by omega⟩) = if h : l.val < 64 then (z (ix2 r ⟨768 + (n.val * 64 + l.val), by omega⟩) : EReal) * Ideal.ofBits .f32 0x3E000000#32 else (0 : EReal) := by
  pointwise [o32]

theorem k_d_at (z : FVec Ideal S65536x4704 .f32) (a3 a4 a5 a6 a7 a8 : FVec Ideal S64 .f32) (r : Fin 65536) (j : Fin 128) : r120 z a3 a4 a5 a6 a7 a8 (ix2 r j) = HeadNorm.headNorm (fun d => (z (ix2 r ⟨512 + (j.val / 64 * 64 + d.val), by omega⟩) : EReal)) (fun d => a4 (ix1 d)) ⟨j.val % 64, by omega⟩ := by
  pointwise [r120, r106, r15]
  have e : (⟨512 + (j.val / 64 * 64 + j.val % 64), by omega⟩ : Fin 4704) = ⟨512 + j.val, by omega⟩ := Fin.ext (by simp only []; omega)
  unfold HeadNorm.headNorm
  (try simp only [e])
  (try rfl)

theorem v_d_at (z : FVec Ideal S65536x4704 .f32) (a3 a4 a5 a6 a7 a8 : FVec Ideal S64 .f32) (r : Fin 65536) (j : Fin 128) : r121 z a3 a4 a5 a6 a7 a8 (ix2 r j) = z (ix2 r ⟨512 + (128 + j.val), by omega⟩) := by
  pointwise [r121, r15]

theorem k_s_at (z : FVec Ideal S65536x4704 .f32) (a3 a4 a5 a6 a7 a8 : FVec Ideal S64 .f32) (r : Fin 65536) (j : Fin 128) : r140 z a3 a4 a5 a6 a7 a8 (ix2 r j) = HeadNorm.headNorm (fun d => (z (ix2 r ⟨2120 + (j.val / 64 * 64 + d.val), by omega⟩) : EReal)) (fun d => a7 (ix1 d)) ⟨j.val % 64, by omega⟩ := by
  pointwise [r140, r126, r21]
  have e : (⟨2120 + (j.val / 64 * 64 + j.val % 64), by omega⟩ : Fin 4704) = ⟨2120 + j.val, by omega⟩ := Fin.ext (by simp only []; omega)
  unfold HeadNorm.headNorm
  (try simp only [e])
  (try rfl)

theorem v_s_at (z : FVec Ideal S65536x4704 .f32) (a3 a4 a5 a6 a7 a8 : FVec Ideal S64 .f32) (r : Fin 65536) (j : Fin 128) : r141 z a3 a4 a5 a6 a7 a8 (ix2 r j) = z (ix2 r ⟨2120 + (128 + j.val), by omega⟩) := by
  pointwise [r141, r21]

theorem k_w_at (z : FVec Ideal S65536x4704 .f32) (a3 a4 a5 a6 a7 a8 : FVec Ideal S64 .f32) (r : Fin 65536) (j : Fin 128) : r160 z a3 a4 a5 a6 a7 a8 (ix2 r j) = HeadNorm.headNorm (fun d => (z (ix2 r ⟨2376 + (j.val / 64 * 64 + d.val), by omega⟩) : EReal)) (fun d => a8 (ix1 d)) ⟨j.val % 64, by omega⟩ := by
  pointwise [r160, r146, r22]
  have e : (⟨2376 + (j.val / 64 * 64 + j.val % 64), by omega⟩ : Fin 4704) = ⟨2376 + j.val, by omega⟩ := Fin.ext (by simp only []; omega)
  unfold HeadNorm.headNorm
  (try simp only [e])
  (try rfl)

theorem v_w_at (z : FVec Ideal S65536x4704 .f32) (a3 a4 a5 a6 a7 a8 : FVec Ideal S64 .f32) (r : Fin 65536) (j : Fin 128) : r161 z a3 a4 a5 a6 a7 a8 (ix2 r j) = z (ix2 r ⟨2376 + (128 + j.val), by omega⟩) := by
  pointwise [r161, r22]

theorem ik_at (z : FVec Ideal S65536x4704 .f32) (a3 a4 a5 a6 a7 a8 : FVec Ideal S64 .f32) (r : Fin 65536) (j : Fin 64) : o45 z a3 a4 a5 a6 a7 a8 (ix2 r j) = HeadNorm.headNorm (fun d => (z (ix2 r ⟨1288 + d.val, by omega⟩) : EReal)) (fun d => a5 (ix1 d)) j := by
  pointwise [o45, r18]
  rfl

theorem ika_at (z : FVec Ideal S65536x4704 .f32) (a3 a4 a5 a6 a7 a8 : FVec Ideal S64 .f32) (r : Fin 65536) (j : Fin 128) : o48 z a3 a4 a5 a6 a7 a8 (ix2 r j) = if h : j.val < 64 then HeadNorm.headNorm (fun d => (z (ix2 r ⟨1288 + d.val, by omega⟩) : EReal)) (fun d => a5 (ix1 d)) ⟨j.val, h⟩ else (0 : EReal) := by
  pointwise [o48, r18]
  rfl

theorem misc_at (z : FVec Ideal S65536x4704 .f32) (a3 a4 a5 a6 a7 a8 : FVec Ideal S64 .f32) (r : Fin 65536) (j : Fin 128) : r50 z a3 a4 a5 a6 a7 a8 (ix2 r j) = (if h : j.val < 8 then (z (ix2 r ⟨1280 + j.val, by omega⟩) : EReal) else if h' : j.val < 32 then (z (ix2 r ⟨2632 + (j.val - 8), by omega⟩) : EReal) else (0 : EReal)) := by
  pointwise [r50]
  split
  · rfl
  · have e : (j.val - 8 < 24) = (j.val < 32) := propext (by omega)
    simp only [e]

theorem iw_at (z : FVec Ideal S65536x4704 .f32) (a3 a4 a5 a6 a7 a8 : FVec Ideal S64 .f32) (r : Fin 65536) (j : Fin 128) : o178 z a3 a4 a5 a6 a7 a8 (ix2 r j) = (r50 z a3 a4 a5 a6 a7 a8 (ix2 r j) : EReal) * Ideal.ofBits .f32 0x3EB504F3#32 := by
  pointwise [o178]

theorem ng_at (z : FVec Ideal S65536x4704 .f32) (a3 a4 a5 a6 a7 a8 : FVec Ideal S64 .f32) (r : Fin 65536) (j : Fin 128) : o184 z a3 a4 a5 a6 a7 a8 (ix2 r j) = Ideal.logistic (r50 z a3 a4 a5 a6 a7 a8 (ix2 r j) : EReal) := by
  pointwise [o184]
  rfl

theorem ga_at (z : FVec Ideal S65536x4704 .f32) (a3 a4 a5 a6 a7 a8 : FVec Ideal S64 .f32) (r : Fin 65536) (j : Fin 1024) : o170 z a3 a4 a5 a6 a7 a8 (ix2 r j) = Ideal.logistic (z (ix2 r ⟨2656 + j.val, by omega⟩) : EReal) := by
  pointwise [o170]
  rfl

theorem gb_at (z : FVec Ideal S65536x4704 .f32) (a3 a4 a5 a6 a7 a8 : FVec Ideal S64 .f32) (r : Fin 65536) (j : Fin 1024) : o176 z a3 a4 a5 a6 a7 a8 (ix2 r j) = Ideal.logistic (z (ix2 r ⟨3680 + j.val, by omega⟩) : EReal) := by
  pointwise [o176]
  rfl

theorem ckv_at (z : FVec Ideal S65536x4704 .f32) (a3 a4 a5 a6 a7 a8 : FVec Ideal S64 .f32) (r : Fin 65536) (j : Fin 256) : o20 z a3 a4 a5 a6 a7 a8 (ix2 r j) = (z (ix2 r ⟨1864 + j.val, by omega⟩) : EReal) := by
  pointwise [o20]

theorem kv_d_k (z : FVec Ideal S65536x4704 .f32) (a3 a4 a5 a6 a7 a8 : FVec Ideal S64 .f32) (r : Fin 65536) (j : Fin 128) : o122 z a3 a4 a5 a6 a7 a8 (ix2 r ⟨j.val, by omega⟩) = r120 z a3 a4 a5 a6 a7 a8 (ix2 r j) := by
  pointwise [o122]

theorem kv_d_v (z : FVec Ideal S65536x4704 .f32) (a3 a4 a5 a6 a7 a8 : FVec Ideal S64 .f32) (r : Fin 65536) (j : Fin 128) : o122 z a3 a4 a5 a6 a7 a8 (ix2 r ⟨128 + j.val, by omega⟩) = r121 z a3 a4 a5 a6 a7 a8 (ix2 r j) := by
  pointwise [o122]

theorem kb_d (z : FVec Ideal S65536x4704 .f32) (a3 a4 a5 a6 a7 a8 : FVec Ideal S64 .f32) (r : Fin 65536) (j : Fin 128) : o123 z a3 a4 a5 a6 a7 a8 (ix2 r j) = r120 z a3 a4 a5 a6 a7 a8 (ix2 r j) := by
  pointwise [o123]

theorem vb_d (z : FVec Ideal S65536x4704 .f32) (a3 a4 a5 a6 a7 a8 : FVec Ideal S64 .f32) (r : Fin 65536) (j : Fin 128) : o124 z a3 a4 a5 a6 a7 a8 (ix2 r j) = r121 z a3 a4 a5 a6 a7 a8 (ix2 r j) := by
  pointwise [o124]

theorem kv_s_k (z : FVec Ideal S65536x4704 .f32) (a3 a4 a5 a6 a7 a8 : FVec Ideal S64 .f32) (r : Fin 65536) (j : Fin 128) : o142 z a3 a4 a5 a6 a7 a8 (ix2 r ⟨j.val, by omega⟩) = r140 z a3 a4 a5 a6 a7 a8 (ix2 r j) := by
  pointwise [o142]

theorem kv_s_v (z : FVec Ideal S65536x4704 .f32) (a3 a4 a5 a6 a7 a8 : FVec Ideal S64 .f32) (r : Fin 65536) (j : Fin 128) : o142 z a3 a4 a5 a6 a7 a8 (ix2 r ⟨128 + j.val, by omega⟩) = r141 z a3 a4 a5 a6 a7 a8 (ix2 r j) := by
  pointwise [o142]

theorem kb_s (z : FVec Ideal S65536x4704 .f32) (a3 a4 a5 a6 a7 a8 : FVec Ideal S64 .f32) (r : Fin 65536) (j : Fin 128) : o143 z a3 a4 a5 a6 a7 a8 (ix2 r j) = r140 z a3 a4 a5 a6 a7 a8 (ix2 r j) := by
  pointwise [o143]

theorem vb_s (z : FVec Ideal S65536x4704 .f32) (a3 a4 a5 a6 a7 a8 : FVec Ideal S64 .f32) (r : Fin 65536) (j : Fin 128) : o144 z a3 a4 a5 a6 a7 a8 (ix2 r j) = r141 z a3 a4 a5 a6 a7 a8 (ix2 r j) := by
  pointwise [o144]

theorem kv_w_k (z : FVec Ideal S65536x4704 .f32) (a3 a4 a5 a6 a7 a8 : FVec Ideal S64 .f32) (r : Fin 65536) (j : Fin 128) : o162 z a3 a4 a5 a6 a7 a8 (ix2 r ⟨j.val, by omega⟩) = r160 z a3 a4 a5 a6 a7 a8 (ix2 r j) := by
  pointwise [o162]

theorem kv_w_v (z : FVec Ideal S65536x4704 .f32) (a3 a4 a5 a6 a7 a8 : FVec Ideal S64 .f32) (r : Fin 65536) (j : Fin 128) : o162 z a3 a4 a5 a6 a7 a8 (ix2 r ⟨128 + j.val, by omega⟩) = r161 z a3 a4 a5 a6 a7 a8 (ix2 r j) := by
  pointwise [o162]

theorem kb_w (z : FVec Ideal S65536x4704 .f32) (a3 a4 a5 a6 a7 a8 : FVec Ideal S64 .f32) (r : Fin 65536) (j : Fin 128) : o163 z a3 a4 a5 a6 a7 a8 (ix2 r j) = r160 z a3 a4 a5 a6 a7 a8 (ix2 r j) := by
  pointwise [o163]

theorem vb_w (z : FVec Ideal S65536x4704 .f32) (a3 a4 a5 a6 a7 a8 : FVec Ideal S64 .f32) (r : Fin 65536) (j : Fin 128) : o164 z a3 a4 a5 a6 a7 a8 (ix2 r j) = r161 z a3 a4 a5 a6 a7 a8 (ix2 r j) := by
  pointwise [o164]

end Cert.ProjRefIdeal.Res

end
-- ==== Proof.ProjPay.lean ====
/- What the call's operations give at one element, in terms of its projected row. -/
module

public import proofs.«01_k».proof.Proof.Gen.ProjIdeal.Frame
public import proofs.«01_k».proof.Proof.ProjRef
public import Idealize.ShloMosaic.Lib.StableHlo.ReadAt
public import Idealize.ShloMosaic.Lib.Pipeline.ValueKit

@[expose] public section

set_option maxRecDepth 16384

noncomputable section

open Idealize.ShloMosaic Idealize.ShloMosaic.TcCoe Idealize.SL.Sem

namespace Cert.ProjIdeal.Rows

open Cert.ProjIdeal Cert.ProjIdeal.Gen

open HeadNorm

/-- A gain scaled by one eighth. -/
def eighth (g : FVec Ideal S64 .f32) (d : Fin 64) : EReal := (g (ix1 d) : EReal) * Ideal.ofBits .f32 0x3E000000#32

/-- The sum of ones of each half. -/
def Half (s : FVec Ideal S128x128 .bf16) : Prop := ∀ k l : Fin 128, s (ix2 k l) = if k.val / 64 = l.val / 64 then (1 : EReal) else (0 : EReal)

theorem pay62_at (hn : FVec Ideal S512x1024 .bf16) (i : Fin 512) (w : FVec Ideal S1024x256 .bf16) (j : Fin 256) :
    k0_pay62 (F := Ideal) hn w (ix2 i j) = ∑ x : Fin 1024, (hn (ix2 i x) : EReal) * (w (ix2 x j) : EReal) := by
  pointwise [k0_pay62]

theorem pay63_at (hn : FVec Ideal S512x1024 .bf16) (i : Fin 512) (w : FVec Ideal S1024x1024 .bf16) (j : Fin 1024) :
    k0_pay63 (F := Ideal) hn w (ix2 i j) = Ideal.logistic (∑ x : Fin 1024, (hn (ix2 i x) : EReal) * (w (ix2 x j) : EReal)) := by
  pointwise [k0_pay63]

theorem pay64_at (hn : FVec Ideal S512x1024 .bf16) (i : Fin 512) (w : FVec Ideal S1024x1024 .bf16) (j : Fin 1024) :
    k0_pay64 (F := Ideal) hn w (ix2 i j) = Ideal.logistic (∑ x : Fin 1024, (hn (ix2 i x) : EReal) * (w (ix2 x j) : EReal)) := by
  pointwise [k0_pay64]

theorem pay5_at (hn : FVec Ideal S512x1024 .bf16) (i : Fin 512) (w : FVec Ideal S1024x128 .bf16) (j : Fin 128) :
    k0_pay5 (F := Ideal) hn w (ix2 i j) = (∑ x : Fin 1024, (hn (ix2 i x) : EReal) * (w (ix2 x j) : EReal)) * Ideal.ofBits .f32 0x3EB504F3#32 := by
  pointwise [k0_pay5, k0_pay4]

theorem pay6_at (hn : FVec Ideal S512x1024 .bf16) (i : Fin 512) (w : FVec Ideal S1024x128 .bf16) (j : Fin 128) :
    k0_pay6 (F := Ideal) hn w (ix2 i j) = Ideal.logistic (∑ x : Fin 1024, (hn (ix2 i x) : EReal) * (w (ix2 x j) : EReal)) := by
  pointwise [k0_pay6, k0_pay4]

theorem pay27_at (hn : FVec Ideal S512x1024 .bf16) (i : Fin 512) (w : FVec Ideal S1024x1024 .bf16) (j : Fin 1024) :
    k0_pay27 (k0_pay26 (F := Ideal) hn w) (ix2 i j) = (∑ x : Fin 1024, (hn (ix2 i x) : EReal) * (w (ix2 x j) : EReal)) * Ideal.ofBits .f32 0x3E000000#32 := by
  pointwise [k0_pay27, k0_pay26]

theorem pay49_at (hn : FVec Ideal S512x1024 .bf16) (i : Fin 512) (w : FVec Ideal S1024x256 .bf16) (j : Fin 128) :
    k0_pay49 (F := Ideal) hn w (ix2 i j) = ∑ x : Fin 1024, (hn (ix2 i x) : EReal) * (w (ix2 x ⟨128 + j.val, by omega⟩) : EReal) := by
  pointwise [k0_pay49, k0_pay47]

theorem pay51_at (hn : FVec Ideal S512x1024 .bf16) (i : Fin 512) (w : FVec Ideal S1024x256 .bf16) (j : Fin 128) :
    k0_pay51 (k0_pay49 (F := Ideal) hn w) (ix2 i j) = ∑ x : Fin 1024, (hn (ix2 i x) : EReal) * (w (ix2 x ⟨128 + j.val, by omega⟩) : EReal) := by
  pointwise [k0_pay51, k0_pay49, k0_pay47]

theorem pay54_at (hn : FVec Ideal S512x1024 .bf16) (i : Fin 512) (w : FVec Ideal S1024x256 .bf16) (j : Fin 128) :
    k0_pay54 (F := Ideal) hn w (ix2 i j) = ∑ x : Fin 1024, (hn (ix2 i x) : EReal) * (w (ix2 x ⟨128 + j.val, by omega⟩) : EReal) := by
  pointwise [k0_pay54, k0_pay52]

theorem pay56_at (hn : FVec Ideal S512x1024 .bf16) (i : Fin 512) (w : FVec Ideal S1024x256 .bf16) (j : Fin 128) :
    k0_pay56 (k0_pay54 (F := Ideal) hn w) (ix2 i j) = ∑ x : Fin 1024, (hn (ix2 i x) : EReal) * (w (ix2 x ⟨128 + j.val, by omega⟩) : EReal) := by
  pointwise [k0_pay56, k0_pay54, k0_pay52]

theorem pay59_at (hn : FVec Ideal S512x1024 .bf16) (i : Fin 512) (w : FVec Ideal S1024x256 .bf16) (j : Fin 128) :
    k0_pay59 (F := Ideal) hn w (ix2 i j) = ∑ x : Fin 1024, (hn (ix2 i x) : EReal) * (w (ix2 x ⟨128 + j.val, by omega⟩) : EReal) := by
  pointwise [k0_pay59, k0_pay57]

theorem pay61_at (hn : FVec Ideal S512x1024 .bf16) (i : Fin 512) (w : FVec Ideal S1024x256 .bf16) (j : Fin 128) :
    k0_pay61 (F := Ideal) hn w (ix2 i j) = ∑ x : Fin 1024, (hn (ix2 i x) : EReal) * (w (ix2 x ⟨128 + j.val, by omega⟩) : EReal) := by
  pointwise [k0_pay61, k0_pay59, k0_pay57]

theorem pay48_at (s : FVec Ideal S128x128 .bf16) (hn : FVec Ideal S512x1024 .bf16) (i : Fin 512) (w : FVec Ideal S1024x256 .bf16) (g : FVec Ideal S1x128 .f32) (j : Fin 128) :
    k0_pay48 (F := Ideal) s hn w g (ix2 i j) = laneNorm (fun y => ∑ x : Fin 1024, (hn (ix2 i x) : EReal) * (w (ix2 x ⟨y.val, by omega⟩) : EReal)) (fun k l => s (ix2 k l)) (fun l => g (ix2 0 l)) j := by
  pointwise [k0_pay48, k0_pay47]
  rfl

theorem pay50_at (s : FVec Ideal S128x128 .bf16) (hn : FVec Ideal S512x1024 .bf16) (i : Fin 512) (w : FVec Ideal S1024x256 .bf16) (g : FVec Ideal S1x128 .f32) (j : Fin 128) :
    k0_pay50 (k0_pay48 (F := Ideal) s hn w g) (ix2 i j) = laneNorm (fun y => ∑ x : Fin 1024, (hn (ix2 i x) : EReal) * (w (ix2 x ⟨y.val, by omega⟩) : EReal)) (fun k l => s (ix2 k l)) (fun l => g (ix2 0 l)) j := by
  pointwise [k0_pay50, k0_pay48, k0_pay47]
  rfl

theorem pay53_at (s : FVec Ideal S128x128 .bf16) (hn : FVec Ideal S512x1024 .bf16) (i : Fin 512) (w : FVec Ideal S1024x256 .bf16) (g : FVec Ideal S1x128 .f32) (j : Fin 128) :
    k0_pay53 (F := Ideal) s hn w g (ix2 i j) = laneNorm (fun y => ∑ x : Fin 1024, (hn (ix2 i x) : EReal) * (w (ix2 x ⟨y.val, by omega⟩) : EReal)) (fun k l => s (ix2 k l)) (fun l => g (ix2 0 l)) j := by
  pointwise [k0_pay53, k0_pay52]
  rfl

theorem pay55_at (s : FVec Ideal S128x128 .bf16) (hn : FVec Ideal S512x1024 .bf16) (i : Fin 512) (w : FVec Ideal S1024x256 .bf16) (g : FVec Ideal S1x128 .f32) (j : Fin 128) :
    k0_pay55 (F := Ideal) s hn w g (ix2 i j) = laneNorm (fun y => ∑ x : Fin 1024, (hn (ix2 i x) : EReal) * (w (ix2 x ⟨y.val, by omega⟩) : EReal)) (fun k l => s (ix2 k l)) (fun l => g (ix2 0 l)) j := by
  pointwise [k0_pay55, k0_pay53, k0_pay52]
  rfl

theorem pay58_at (s : FVec Ideal S128x128 .bf16) (hn : FVec Ideal S512x1024 .bf16) (i : Fin 512) (w : FVec Ideal S1024x256 .bf16) (g : FVec Ideal S1x128 .f32) (j : Fin 128) :
    k0_pay58 (F := Ideal) s hn w g (ix2 i j) = laneNorm (fun y => ∑ x : Fin 1024, (hn (ix2 i x) : EReal) * (w (ix2 x ⟨y.val, by omega⟩) : EReal)) (fun k l => s (ix2 k l)) (fun l => g (ix2 0 l)) j := by
  pointwise [k0_pay58, k0_pay57]
  rfl

theorem pay60_at (s : FVec Ideal S128x128 .bf16) (hn : FVec Ideal S512x1024 .bf16) (i : Fin 512) (w : FVec Ideal S1024x256 .bf16) (g : FVec Ideal S1x128 .f32) (j : Fin 128) :
    k0_pay60 (F := Ideal) s hn w g (ix2 i j) = laneNorm (fun y => ∑ x : Fin 1024, (hn (ix2 i x) : EReal) * (w (ix2 x ⟨y.val, by omega⟩) : EReal)) (fun k l => s (ix2 k l)) (fun l => g (ix2 0 l)) j := by
  pointwise [k0_pay60, k0_pay58, k0_pay57]
  rfl

theorem pay2_at (s : FVec Ideal S128x128 .bf16) (hn : FVec Ideal S512x1024 .bf16) (i : Fin 512) (w : FVec Ideal S1024x128 .bf16) (g : FVec Ideal S1x128 .f32) (j : Fin 64) :
    k0_pay2 s (k0_pay65 (F := Ideal) hn w) (k0_pay66 g) (k0_pay69 hn w) (k0_pay70 s hn w) (ix2 i j) = laneNorm (fun y => ∑ x : Fin 1024, (hn (ix2 i x) : EReal) * (w (ix2 x y) : EReal)) (fun k l => s (ix2 k l)) (fun l => g (ix2 0 l)) ⟨j.val, by omega⟩ := by
  pointwise [k0_pay2, k0_pay1, k0_pay65, k0_pay66, k0_pay67, k0_pay68, k0_pay69, k0_pay70]
  rfl

theorem pay3_at (s : FVec Ideal S128x128 .bf16) (hn : FVec Ideal S512x1024 .bf16) (i : Fin 512) (w : FVec Ideal S1024x128 .bf16) (g : FVec Ideal S1x128 .f32) (j : Fin 128) :
    k0_pay3 s (k0_pay65 (F := Ideal) hn w) (k0_pay66 g) (k0_pay69 hn w) (k0_pay70 s hn w) (ix2 i j) = laneNorm (fun y => ∑ x : Fin 1024, (hn (ix2 i x) : EReal) * (w (ix2 x y) : EReal)) (fun k l => s (ix2 k l)) (fun l => g (ix2 0 l)) j := by
  pointwise [k0_pay3, k0_pay1, k0_pay65, k0_pay66, k0_pay67, k0_pay68, k0_pay69, k0_pay70]
  rfl

end Cert.ProjIdeal.Rows

end
-- ==== Proof.ProjW.lean ====
/- The arrays the host prepares for the call, element by element: the weights' columns regrouped, the gains and the ones of each half. -/
module

public import proofs.«01_k».proof.Proof.Gen.ProjIdeal.Frame
public import proofs.«01_k».proof.Proof.ProjPay
public import Idealize.ShloMosaic.Lib.StableHlo.ReadAt
public import Idealize.ShloMosaic.Lib.Pipeline.ValueKit

@[expose] public section

set_option maxRecDepth 16384

noncomputable section

open Idealize.ShloMosaic Idealize.ShloMosaic.TcCoe Idealize.SL.Sem

namespace Cert.ProjIdeal.Rows

open Cert.ProjIdeal Cert.ProjIdeal.Gen

variable (m : (ℓ : Loc nD τ sig) → Buf (Elt Ideal) ℓ)

theorem group_bit : ∀ n < 8, ∀ h < 2, (IntOp.cmpi .eq (Scalar.select (IntOp.andi (IntOp.cmpi .ne (if BitVec.ofNat 32 n = 0 then (0 : BitVec 32) else if (BitVec.ofNat 32 n).msb = true then -1 else 1)
      (if (4#32 : BitVec 32) = 0 then (0 : BitVec 32) else if BitVec.msb 4#32 = true then -1 else 1)) (IntOp.cmpi .ne (IntOp.remsi ArithUnit.host (BitVec.ofNat 32 n) 4#32) 0#32))
      (IntOp.subi (IntOp.divsi ArithUnit.host (BitVec.ofNat 32 n) 4#32) 1#32) (IntOp.divsi ArithUnit.host (BitVec.ofNat 32 n) 4#32)) (BitVec.ofNat 32 h)) = if n / 4 = h then 1#1 else 0#1 := by decide +kernel

theorem group_word (n h : ℕ) (hn : n < 8) (hh : h < 2) (x : EReal) :
    (Scalar.select (IntOp.cmpi .eq (Scalar.select (IntOp.andi (IntOp.cmpi .ne (if BitVec.ofNat 32 n = 0 then (0 : BitVec 32) else if (BitVec.ofNat 32 n).msb = true then -1 else 1)
      (if (4#32 : BitVec 32) = 0 then (0 : BitVec 32) else if BitVec.msb 4#32 = true then -1 else 1)) (IntOp.cmpi .ne (IntOp.remsi ArithUnit.host (BitVec.ofNat 32 n) 4#32) 0#32))
      (IntOp.subi (IntOp.divsi ArithUnit.host (BitVec.ofNat 32 n) 4#32) 1#32) (IntOp.divsi ArithUnit.host (BitVec.ofNat 32 n) 4#32)) (BitVec.ofNat 32 h)) x (0 : EReal)) = if n / 4 = h then x else (0 : EReal) := by
  rw [group_bit n hn h hh]
  by_cases e : n / 4 = h <;> simp [e, Scalar.select]

theorem half_bits : ∀ k l : Fin 128, lit0t (k.val * 128 + l.val) = if k.val / 64 = l.val / 64 then 0x3F80#16 else 0#16 := by decide +kernel

theorem one_bits : (FloatOps.ofBits (F := Ideal) .bf16 0x3F80#16 : EReal) = 1 := by
  simp [FloatOps.ofBits, Ideal.ofBits, Ideal.ieee, -EReal.coe_mul]; norm_num

theorem zero_bits : (FloatOps.ofBits (F := Ideal) .bf16 0#16 : EReal) = 0 := by
  simp [FloatOps.ofBits, Ideal.ofBits, Ideal.ieee]

theorem half_word (k l : Fin 128) :
    (FloatOps.ofBits (F := Ideal) .bf16 (lit0 (S128x128.rowMajor (ix2 k l))) : EReal) = if k.val / 64 = l.val / 64 then (1 : EReal) else (0 : EReal) := by
  have h : lit0 (S128x128.rowMajor (ix2 k l)) = lit0t (k.val * 128 + l.val) := congrArg lit0t (Shape.rowMajor_val_two (d := ![128, 128]) (ix2 k l))
  rw [h, half_bits]
  by_cases e : k.val / 64 = l.val / 64
  · rw [if_pos e, if_pos e, one_bits]
  · rw [if_neg e, if_neg e, zero_bits]

theorem s_at (c : Dev nD) (k l : Fin 128) : (V m c main_cst : FVec Ideal S128x128 .bf16) (ix2 k l)
    = if k.val / 64 = l.val / 64 then (1 : EReal) else (0 : EReal) := by
  simp only [V, List.flatten_cons, List.flatten_nil, List.append_nil]
  after_reads_at
  exact half_word k l

theorem g_at (c : Dev nD) (k : Fin 1024) : (V m c main_v99 : FVec Ideal S1x1024 .f32) (ix2 0 k) = (m ((c : Thread nD τ).loc main_arg1) : FVec Ideal S1024 .f32) (ix1 k) := by
  simp only [V, List.flatten_cons, List.flatten_nil, List.append_nil]
  after_reads_at

theorem wqd_at (c : Dev nD) (k : Fin 1024) (n : Fin 8) (l : Fin 128) : (V m c main_v46 : FVec Ideal S1024x6400 .bf16) (ix2 k ⟨n.val * 128 + l.val, by omega⟩)
    = if l.val / 64 = n.val / 4 then ((m ((c : Thread nD τ).loc main_arg2) : FVec Ideal S1024x4704 .f32) (ix2 k ⟨n.val * 64 + l.val % 64, by omega⟩) : EReal) else (0 : EReal) := by
  simp only [V, List.flatten_cons, List.flatten_nil, List.append_nil]
  after_reads_at
  refine (dif_pos (by omega)).trans ?_
  after_reads_at
  split <;> after_reads_at
  · refine (group_word _ 0 (by omega) (by omega) _).trans ?_
    refine (if_congr (by omega) ?_ rfl)
    exact congrArg (fun q : Fin 4704 => ((m ((c : Thread nD τ).loc main_arg2) : FVec Ideal S1024x4704 .f32) (ix2 k q) : EReal)) (Fin.ext (by simp only []; omega))
  · refine (group_word _ 1 (by omega) (by omega) _).trans ?_
    refine (if_congr (by omega) ?_ rfl)
    exact congrArg (fun q : Fin 4704 => ((m ((c : Thread nD τ).loc main_arg2) : FVec Ideal S1024x4704 .f32) (ix2 k q) : EReal)) (Fin.ext (by simp only []; omega))

theorem wqn_at (c : Dev nD) (k : Fin 1024) (n : Fin 8) (l : Fin 128) : (V m c main_v46 : FVec Ideal S1024x6400 .bf16) (ix2 k ⟨2048 + (n.val * 128 + l.val), by omega⟩)
    = if l.val / 64 = n.val / 4 then ((m ((c : Thread nD τ).loc main_arg2) : FVec Ideal S1024x4704 .f32) (ix2 k ⟨1352 + (n.val * 64 + l.val % 64), by omega⟩) : EReal) else (0 : EReal) := by
  simp only [V, List.flatten_cons, List.flatten_nil, List.append_nil]
  after_reads_at
  refine (dif_neg (by omega)).trans ?_
  refine (dif_neg (by omega)).trans ?_
  refine (dif_pos (by omega)).trans ?_
  after_reads_at
  split <;> after_reads_at
  · refine (group_word _ 0 (by omega) (by omega) _).trans ?_
    refine (if_congr (by omega) ?_ rfl)
    exact congrArg (fun q : Fin 4704 => ((m ((c : Thread nD τ).loc main_arg2) : FVec Ideal S1024x4704 .f32) (ix2 k q) : EReal)) (Fin.ext (by simp only []; omega))
  · refine (group_word _ 1 (by omega) (by omega) _).trans ?_
    refine (if_congr (by omega) ?_ rfl)
    exact congrArg (fun q : Fin 4704 => ((m ((c : Thread nD τ).loc main_arg2) : FVec Ideal S1024x4704 .f32) (ix2 k q) : EReal)) (Fin.ext (by simp only []; omega))

theorem wiq_at (c : Dev nD) (k : Fin 1024) (n : Fin 8) (l : Fin 128) : (V m c main_v46 : FVec Ideal S1024x6400 .bf16) (ix2 k ⟨1024 + (n.val * 128 + l.val), by omega⟩)
    = if h : l.val < 64 then ((m ((c : Thread nD τ).loc main_arg2) : FVec Ideal S1024x4704 .f32) (ix2 k ⟨768 + (n.val * 64 + l.val), by omega⟩) : EReal) else (0 : EReal) := by
  simp only [V, List.flatten_cons, List.flatten_nil, List.append_nil]
  after_reads_at
  refine (dif_pos (by omega)).trans ?_
  after_reads_at
  split <;> after_reads_at

theorem wdkv_at (c : Dev nD) (k : Fin 1024) (q : Fin 256) : (V m c main_v46 : FVec Ideal S1024x6400 .bf16) (ix2 k ⟨3072 + q.val, by omega⟩)
    = (m ((c : Thread nD τ).loc main_arg2) : FVec Ideal S1024x4704 .f32) (ix2 k ⟨512 + q.val, by omega⟩) := by
  simp only [V, List.flatten_cons, List.flatten_nil, List.append_nil]
  after_reads_at
  refine (dif_neg (by omega)).trans ?_
  refine (dif_neg (by omega)).trans ?_
  refine (dif_neg (by omega)).trans ?_
  refine (dif_pos (by omega)).trans ?_
  after_reads_at
  exact congrArg (fun q : Fin 4704 => (m ((c : Thread nD τ).loc main_arg2) : FVec Ideal S1024x4704 .f32) (ix2 k q)) (Fin.ext (by simp only []; omega))

theorem wckv_at (c : Dev nD) (k : Fin 1024) (q : Fin 256) : (V m c main_v46 : FVec Ideal S1024x6400 .bf16) (ix2 k ⟨3328 + q.val, by omega⟩)
    = (m ((c : Thread nD τ).loc main_arg2) : FVec Ideal S1024x4704 .f32) (ix2 k ⟨1864 + q.val, by omega⟩) := by
  simp only [V, List.flatten_cons, List.flatten_nil, List.append_nil]
  after_reads_at
  refine (dif_neg (by omega)).trans ?_
  refine (dif_neg (by omega)).trans ?_
  refine (dif_neg (by omega)).trans ?_
  refine (dif_neg (by omega)).trans ?_
  refine (dif_pos (by omega)).trans ?_
  after_reads_at
  exact congrArg (fun q : Fin 4704 => (m ((c : Thread nD τ).loc main_arg2) : FVec Ideal S1024x4704 .f32) (ix2 k q)) (Fin.ext (by simp only []; omega))

theorem wskv_at (c : Dev nD) (k : Fin 1024) (q : Fin 256) : (V m c main_v46 : FVec Ideal S1024x6400 .bf16) (ix2 k ⟨3584 + q.val, by omega⟩)
    = (m ((c : Thread nD τ).loc main_arg2) : FVec Ideal S1024x4704 .f32) (ix2 k ⟨2120 + q.val, by omega⟩) := by
  simp only [V, List.flatten_cons, List.flatten_nil, List.append_nil]
  after_reads_at
  refine (dif_neg (by omega)).trans ?_
  refine (dif_neg (by omega)).trans ?_
  refine (dif_neg (by omega)).trans ?_
  refine (dif_neg (by omega)).trans ?_
  refine (dif_neg (by omega)).trans ?_
  refine (dif_pos (by omega)).trans ?_
  after_reads_at
  exact congrArg (fun q : Fin 4704 => (m ((c : Thread nD τ).loc main_arg2) : FVec Ideal S1024x4704 .f32) (ix2 k q)) (Fin.ext (by simp only []; omega))

theorem wwkv_at (c : Dev nD) (k : Fin 1024) (q : Fin 256) : (V m c main_v46 : FVec Ideal S1024x6400 .bf16) (ix2 k ⟨3840 + q.val, by omega⟩)
    = (m ((c : Thread nD τ).loc main_arg2) : FVec Ideal S1024x4704 .f32) (ix2 k ⟨2376 + q.val, by omega⟩) := by
  simp only [V, List.flatten_cons, List.flatten_nil, List.append_nil]
  after_reads_at
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_pos (by omega)).trans ?_
  after_reads_at
  exact congrArg (fun q : Fin 4704 => (m ((c : Thread nD τ).loc main_arg2) : FVec Ideal S1024x4704 .f32) (ix2 k q)) (Fin.ext (by simp only []; omega))

theorem wga_at (c : Dev nD) (k : Fin 1024) (q : Fin 1024) : (V m c main_v46 : FVec Ideal S1024x6400 .bf16) (ix2 k ⟨4096 + q.val, by omega⟩)
    = (m ((c : Thread nD τ).loc main_arg2) : FVec Ideal S1024x4704 .f32) (ix2 k ⟨2656 + q.val, by omega⟩) := by
  simp only [V, List.flatten_cons, List.flatten_nil, List.append_nil]
  after_reads_at
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_pos (by omega)).trans ?_
  after_reads_at
  exact congrArg (fun q : Fin 4704 => (m ((c : Thread nD τ).loc main_arg2) : FVec Ideal S1024x4704 .f32) (ix2 k q)) (Fin.ext (by simp only []; omega))

theorem wgb_at (c : Dev nD) (k : Fin 1024) (q : Fin 1024) : (V m c main_v46 : FVec Ideal S1024x6400 .bf16) (ix2 k ⟨5120 + q.val, by omega⟩)
    = (m ((c : Thread nD τ).loc main_arg2) : FVec Ideal S1024x4704 .f32) (ix2 k ⟨3680 + q.val, by omega⟩) := by
  simp only [V, List.flatten_cons, List.flatten_nil, List.append_nil]
  after_reads_at
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_pos (by omega)).trans ?_
  after_reads_at
  exact congrArg (fun q : Fin 4704 => (m ((c : Thread nD τ).loc main_arg2) : FVec Ideal S1024x4704 .f32) (ix2 k q)) (Fin.ext (by simp only []; omega))

theorem wik_at (c : Dev nD) (k : Fin 1024) (l : Fin 128) : (V m c main_v46 : FVec Ideal S1024x6400 .bf16) (ix2 k ⟨6144 + l.val, by omega⟩)
    = if h : l.val < 64 then ((m ((c : Thread nD τ).loc main_arg2) : FVec Ideal S1024x4704 .f32) (ix2 k ⟨1288 + l.val, by omega⟩) : EReal) else (0 : EReal) := by
  simp only [V, List.flatten_cons, List.flatten_nil, List.append_nil]
  after_reads_at
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_pos (by omega)).trans ?_
  after_reads_at
  split
  · refine Eq.trans ?_ (dif_pos (by omega)).symm
    exact congrArg (fun q : Fin 4704 => ((m ((c : Thread nD τ).loc main_arg2) : FVec Ideal S1024x4704 .f32) (ix2 k q) : EReal)) (Fin.ext (by simp only []; omega))
  · refine Eq.trans ?_ (dif_neg (by omega)).symm
    rfl

theorem wm_at (c : Dev nD) (k : Fin 1024) (l : Fin 128) : (V m c main_v46 : FVec Ideal S1024x6400 .bf16) (ix2 k ⟨6272 + l.val, by omega⟩)
    = if h : l.val < 8 then ((m ((c : Thread nD τ).loc main_arg2) : FVec Ideal S1024x4704 .f32) (ix2 k ⟨1280 + l.val, by omega⟩) : EReal) else if h' : l.val < 32 then ((m ((c : Thread nD τ).loc main_arg2) : FVec Ideal S1024x4704 .f32) (ix2 k ⟨2632 + (l.val - 8), by omega⟩) : EReal) else (0 : EReal) := by
  simp only [V, List.flatten_cons, List.flatten_nil, List.append_nil]
  after_reads_at
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  after_reads_at
  split
  · after_reads_at
    refine Eq.trans ?_ (dif_pos (by omega)).symm
    exact congrArg (fun q : Fin 4704 => ((m ((c : Thread nD τ).loc main_arg2) : FVec Ideal S1024x4704 .f32) (ix2 k q) : EReal)) (Fin.ext (by simp only []; omega))
  · split
    · after_reads_at
      refine Eq.trans ?_ (dif_neg (by omega)).symm
      refine Eq.trans ?_ (dif_pos (by omega)).symm
      exact congrArg (fun q : Fin 4704 => ((m ((c : Thread nD τ).loc main_arg2) : FVec Ideal S1024x4704 .f32) (ix2 k q) : EReal)) (Fin.ext (by simp only []; omega))
    · after_reads_at
      refine Eq.trans ?_ (dif_neg (by omega)).symm
      refine Eq.trans ?_ (dif_neg (by omega)).symm
      rfl

theorem gqd_at (c : Dev nD) (n : Fin 8) (l : Fin 128) : (V m c main_v65 : FVec Ideal S1x1024 .f32) (ix2 0 ⟨n.val * 128 + l.val, by omega⟩)
    = if l.val / 64 = n.val / 4 then eighth (m ((c : Thread nD τ).loc main_arg3) : FVec Ideal S64 .f32) ⟨l.val % 64, by omega⟩ else (0 : EReal) := by
  simp only [V, List.flatten_cons, List.flatten_nil, List.append_nil]
  after_reads_at
  split <;> after_reads_at
  · refine (group_word _ 0 (by omega) (by omega) _).trans ?_
    refine (if_congr (by omega) ?_ rfl)
    exact congrArg (fun q : Fin 64 => eighth (m ((c : Thread nD τ).loc main_arg3) : FVec Ideal S64 .f32) q) (Fin.ext (by simp only []; omega))
  · refine (group_word _ 1 (by omega) (by omega) _).trans ?_
    refine (if_congr (by omega) ?_ rfl)
    exact congrArg (fun q : Fin 64 => eighth (m ((c : Thread nD τ).loc main_arg3) : FVec Ideal S64 .f32) q) (Fin.ext (by simp only []; omega))

theorem gqn_at (c : Dev nD) (n : Fin 8) (l : Fin 128) : (V m c main_v84 : FVec Ideal S1x1024 .f32) (ix2 0 ⟨n.val * 128 + l.val, by omega⟩)
    = if l.val / 64 = n.val / 4 then eighth (m ((c : Thread nD τ).loc main_arg6) : FVec Ideal S64 .f32) ⟨l.val % 64, by omega⟩ else (0 : EReal) := by
  simp only [V, List.flatten_cons, List.flatten_nil, List.append_nil]
  after_reads_at
  split <;> after_reads_at
  · refine (group_word _ 0 (by omega) (by omega) _).trans ?_
    refine (if_congr (by omega) ?_ rfl)
    exact congrArg (fun q : Fin 64 => eighth (m ((c : Thread nD τ).loc main_arg6) : FVec Ideal S64 .f32) q) (Fin.ext (by simp only []; omega))
  · refine (group_word _ 1 (by omega) (by omega) _).trans ?_
    refine (if_congr (by omega) ?_ rfl)
    exact congrArg (fun q : Fin 64 => eighth (m ((c : Thread nD τ).loc main_arg6) : FVec Ideal S64 .f32) q) (Fin.ext (by simp only []; omega))

theorem gdk_at (c : Dev nD) (l : Fin 128) : (V m c main_v95 : FVec Ideal S1x384 .f32) (ix2 0 ⟨l.val, by omega⟩) = (m ((c : Thread nD τ).loc main_arg4) : FVec Ideal S64 .f32) (ix1 ⟨l.val % 64, by omega⟩) := by
  simp only [V, List.flatten_cons, List.flatten_nil, List.append_nil]
  after_reads_at
  after_reads_at

theorem gsk_at (c : Dev nD) (l : Fin 128) : (V m c main_v95 : FVec Ideal S1x384 .f32) (ix2 0 ⟨128 + l.val, by omega⟩) = (m ((c : Thread nD τ).loc main_arg7) : FVec Ideal S64 .f32) (ix1 ⟨l.val % 64, by omega⟩) := by
  simp only [V, List.flatten_cons, List.flatten_nil, List.append_nil]
  after_reads_at
  after_reads_at

theorem gwk_at (c : Dev nD) (l : Fin 128) : (V m c main_v95 : FVec Ideal S1x384 .f32) (ix2 0 ⟨256 + l.val, by omega⟩) = (m ((c : Thread nD τ).loc main_arg8) : FVec Ideal S64 .f32) (ix1 ⟨l.val % 64, by omega⟩) := by
  simp only [V, List.flatten_cons, List.flatten_nil, List.append_nil]
  after_reads_at
  refine (dif_neg (by omega)).trans ?_
  refine (dif_neg (by omega)).trans ?_

  after_reads_at
  exact congrArg (fun q : Fin 64 => (m ((c : Thread nD τ).loc main_arg8) : FVec Ideal S64 .f32) (ix1 q)) (Fin.ext (by simp only []; omega))

theorem gik_at (c : Dev nD) (l : Fin 128) : (V m c main_v98 : FVec Ideal S1x128 .f32) (ix2 0 l) = if h : l.val < 64 then ((m ((c : Thread nD τ).loc main_arg5) : FVec Ideal S64 .f32) (ix1 ⟨l.val, by omega⟩) : EReal) else (0 : EReal) := by
  simp only [V, List.flatten_cons, List.flatten_nil, List.append_nil]
  after_reads_at
  split <;> after_reads_at

end Cert.ProjIdeal.Rows

end
-- ==== Proof.ProjQry.lean ====
/- The queries' heads, as the call computes them from its projected row. -/
module

public import proofs.«01_k».proof.Proof.Gen.ProjIdeal.Frame
public import proofs.«01_k».proof.Proof.ProjRef
public import Idealize.ShloMosaic.Lib.StableHlo.ReadAt
public import Idealize.ShloMosaic.Lib.Pipeline.ValueKit

@[expose] public section

set_option maxRecDepth 16384

noncomputable section

open Idealize.ShloMosaic Idealize.ShloMosaic.TcCoe Idealize.SL.Sem

namespace Cert.ProjIdeal.Rows

open Cert.ProjIdeal Cert.ProjIdeal.Gen

open HeadNorm

set_option maxHeartbeats 2000000 in
theorem pay25_0 (s : FVec Ideal S128x128 .bf16) (hn : FVec Ideal S512x1024 .bf16) (i : Fin 512) (w : FVec Ideal S1024x1024 .bf16) (g : FVec Ideal S1x1024 .f32) (j : Fin 128) :
    k0_pay25 (F := Ideal) s (k0_pay8 hn w) (k0_pay9 g) (k0_pay12 (k0_pay9 g) (k0_pay10 hn w) (k0_pay11 s hn w)) (k0_pay13 s (k0_pay8 hn w) (k0_pay9 g)) (k0_pay14 s (k0_pay8 hn w) (k0_pay9 g)) (k0_pay20 s (k0_pay9 g) (k0_pay15 (k0_pay8 hn w)) (k0_pay18 (k0_pay8 hn w)) (k0_pay19 s (k0_pay8 hn w))) (k0_pay21 s (k0_pay8 hn w) (k0_pay9 g)) (k0_pay22 s (k0_pay8 hn w) (k0_pay9 g)) (k0_pay23 (k0_pay8 hn w)) (k0_pay24 (k0_pay8 hn w)) (ix2 i ⟨0 * 128 + j.val, by omega⟩) = laneNorm (fun y => ∑ x : Fin 1024, (hn (ix2 i x) : EReal) * (w (ix2 x ⟨0 * 128 + y.val, by omega⟩) : EReal)) (fun k l => s (ix2 k l)) (fun l => g (ix2 0 ⟨0 * 128 + l.val, by omega⟩)) j := by
  pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25]
  rfl

set_option maxHeartbeats 2000000 in
theorem pay25_1 (s : FVec Ideal S128x128 .bf16) (hn : FVec Ideal S512x1024 .bf16) (i : Fin 512) (w : FVec Ideal S1024x1024 .bf16) (g : FVec Ideal S1x1024 .f32) (j : Fin 128) :
    k0_pay25 (F := Ideal) s (k0_pay8 hn w) (k0_pay9 g) (k0_pay12 (k0_pay9 g) (k0_pay10 hn w) (k0_pay11 s hn w)) (k0_pay13 s (k0_pay8 hn w) (k0_pay9 g)) (k0_pay14 s (k0_pay8 hn w) (k0_pay9 g)) (k0_pay20 s (k0_pay9 g) (k0_pay15 (k0_pay8 hn w)) (k0_pay18 (k0_pay8 hn w)) (k0_pay19 s (k0_pay8 hn w))) (k0_pay21 s (k0_pay8 hn w) (k0_pay9 g)) (k0_pay22 s (k0_pay8 hn w) (k0_pay9 g)) (k0_pay23 (k0_pay8 hn w)) (k0_pay24 (k0_pay8 hn w)) (ix2 i ⟨1 * 128 + j.val, by omega⟩) = laneNorm (fun y => ∑ x : Fin 1024, (hn (ix2 i x) : EReal) * (w (ix2 x ⟨1 * 128 + y.val, by omega⟩) : EReal)) (fun k l => s (ix2 k l)) (fun l => g (ix2 0 ⟨1 * 128 + l.val, by omega⟩)) j := by
  pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25]
  rfl

set_option maxHeartbeats 2000000 in
theorem pay25_2 (s : FVec Ideal S128x128 .bf16) (hn : FVec Ideal S512x1024 .bf16) (i : Fin 512) (w : FVec Ideal S1024x1024 .bf16) (g : FVec Ideal S1x1024 .f32) (j : Fin 128) :
    k0_pay25 (F := Ideal) s (k0_pay8 hn w) (k0_pay9 g) (k0_pay12 (k0_pay9 g) (k0_pay10 hn w) (k0_pay11 s hn w)) (k0_pay13 s (k0_pay8 hn w) (k0_pay9 g)) (k0_pay14 s (k0_pay8 hn w) (k0_pay9 g)) (k0_pay20 s (k0_pay9 g) (k0_pay15 (k0_pay8 hn w)) (k0_pay18 (k0_pay8 hn w)) (k0_pay19 s (k0_pay8 hn w))) (k0_pay21 s (k0_pay8 hn w) (k0_pay9 g)) (k0_pay22 s (k0_pay8 hn w) (k0_pay9 g)) (k0_pay23 (k0_pay8 hn w)) (k0_pay24 (k0_pay8 hn w)) (ix2 i ⟨2 * 128 + j.val, by omega⟩) = laneNorm (fun y => ∑ x : Fin 1024, (hn (ix2 i x) : EReal) * (w (ix2 x ⟨2 * 128 + y.val, by omega⟩) : EReal)) (fun k l => s (ix2 k l)) (fun l => g (ix2 0 ⟨2 * 128 + l.val, by omega⟩)) j := by
  pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25]
  refine (dif_neg (by omega)).trans ?_
  refine (dif_neg (by omega)).trans ?_
  refine (dif_pos (by omega)).trans ?_
  have e : 256 + j.val - 128 - 128 = j.val := by omega
  simp only [e]
  rfl

set_option maxHeartbeats 2000000 in
theorem pay25_3 (s : FVec Ideal S128x128 .bf16) (hn : FVec Ideal S512x1024 .bf16) (i : Fin 512) (w : FVec Ideal S1024x1024 .bf16) (g : FVec Ideal S1x1024 .f32) (j : Fin 128) :
    k0_pay25 (F := Ideal) s (k0_pay8 hn w) (k0_pay9 g) (k0_pay12 (k0_pay9 g) (k0_pay10 hn w) (k0_pay11 s hn w)) (k0_pay13 s (k0_pay8 hn w) (k0_pay9 g)) (k0_pay14 s (k0_pay8 hn w) (k0_pay9 g)) (k0_pay20 s (k0_pay9 g) (k0_pay15 (k0_pay8 hn w)) (k0_pay18 (k0_pay8 hn w)) (k0_pay19 s (k0_pay8 hn w))) (k0_pay21 s (k0_pay8 hn w) (k0_pay9 g)) (k0_pay22 s (k0_pay8 hn w) (k0_pay9 g)) (k0_pay23 (k0_pay8 hn w)) (k0_pay24 (k0_pay8 hn w)) (ix2 i ⟨3 * 128 + j.val, by omega⟩) = laneNorm (fun y => ∑ x : Fin 1024, (hn (ix2 i x) : EReal) * (w (ix2 x ⟨3 * 128 + y.val, by omega⟩) : EReal)) (fun k l => s (ix2 k l)) (fun l => g (ix2 0 ⟨3 * 128 + l.val, by omega⟩)) j := by
  pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25]
  refine (dif_neg (by omega)).trans ?_
  refine (dif_neg (by omega)).trans ?_
  refine (dif_neg (by omega)).trans ?_
  refine (dif_pos (by omega)).trans ?_
  have e : 384 + j.val - 128 - 128 - 128 = j.val := by omega
  simp only [e]
  rfl

set_option maxHeartbeats 2000000 in
theorem pay25_4 (s : FVec Ideal S128x128 .bf16) (hn : FVec Ideal S512x1024 .bf16) (i : Fin 512) (w : FVec Ideal S1024x1024 .bf16) (g : FVec Ideal S1x1024 .f32) (j : Fin 128) :
    k0_pay25 (F := Ideal) s (k0_pay8 hn w) (k0_pay9 g) (k0_pay12 (k0_pay9 g) (k0_pay10 hn w) (k0_pay11 s hn w)) (k0_pay13 s (k0_pay8 hn w) (k0_pay9 g)) (k0_pay14 s (k0_pay8 hn w) (k0_pay9 g)) (k0_pay20 s (k0_pay9 g) (k0_pay15 (k0_pay8 hn w)) (k0_pay18 (k0_pay8 hn w)) (k0_pay19 s (k0_pay8 hn w))) (k0_pay21 s (k0_pay8 hn w) (k0_pay9 g)) (k0_pay22 s (k0_pay8 hn w) (k0_pay9 g)) (k0_pay23 (k0_pay8 hn w)) (k0_pay24 (k0_pay8 hn w)) (ix2 i ⟨4 * 128 + j.val, by omega⟩) = laneNorm (fun y => ∑ x : Fin 1024, (hn (ix2 i x) : EReal) * (w (ix2 x ⟨4 * 128 + y.val, by omega⟩) : EReal)) (fun k l => s (ix2 k l)) (fun l => g (ix2 0 ⟨4 * 128 + l.val, by omega⟩)) j := by
  pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25]
  refine (dif_neg (by omega)).trans ?_
  refine (dif_neg (by omega)).trans ?_
  refine (dif_neg (by omega)).trans ?_
  refine (dif_neg (by omega)).trans ?_
  refine (dif_pos (by omega)).trans ?_
  have e : 512 + j.val - 128 - 128 - 128 - 128 = j.val := by omega
  simp only [e]
  rfl

set_option maxHeartbeats 2000000 in
theorem pay25_5 (s : FVec Ideal S128x128 .bf16) (hn : FVec Ideal S512x1024 .bf16) (i : Fin 512) (w : FVec Ideal S1024x1024 .bf16) (g : FVec Ideal S1x1024 .f32) (j : Fin 128) :
    k0_pay25 (F := Ideal) s (k0_pay8 hn w) (k0_pay9 g) (k0_pay12 (k0_pay9 g) (k0_pay10 hn w) (k0_pay11 s hn w)) (k0_pay13 s (k0_pay8 hn w) (k0_pay9 g)) (k0_pay14 s (k0_pay8 hn w) (k0_pay9 g)) (k0_pay20 s (k0_pay9 g) (k0_pay15 (k0_pay8 hn w)) (k0_pay18 (k0_pay8 hn w)) (k0_pay19 s (k0_pay8 hn w))) (k0_pay21 s (k0_pay8 hn w) (k0_pay9 g)) (k0_pay22 s (k0_pay8 hn w) (k0_pay9 g)) (k0_pay23 (k0_pay8 hn w)) (k0_pay24 (k0_pay8 hn w)) (ix2 i ⟨5 * 128 + j.val, by omega⟩) = laneNorm (fun y => ∑ x : Fin 1024, (hn (ix2 i x) : EReal) * (w (ix2 x ⟨5 * 128 + y.val, by omega⟩) : EReal)) (fun k l => s (ix2 k l)) (fun l => g (ix2 0 ⟨5 * 128 + l.val, by omega⟩)) j := by
  pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25]
  refine (dif_neg (by omega)).trans ?_
  refine (dif_neg (by omega)).trans ?_
  refine (dif_neg (by omega)).trans ?_
  refine (dif_neg (by omega)).trans ?_
  refine (dif_neg (by omega)).trans ?_
  refine (dif_pos (by omega)).trans ?_
  have e : 640 + j.val - 128 - 128 - 128 - 128 - 128 = j.val := by omega
  simp only [e]
  rfl

set_option maxHeartbeats 2000000 in
theorem pay25_6 (s : FVec Ideal S128x128 .bf16) (hn : FVec Ideal S512x1024 .bf16) (i : Fin 512) (w : FVec Ideal S1024x1024 .bf16) (g : FVec Ideal S1x1024 .f32) (j : Fin 128) :
    k0_pay25 (F := Ideal) s (k0_pay8 hn w) (k0_pay9 g) (k0_pay12 (k0_pay9 g) (k0_pay10 hn w) (k0_pay11 s hn w)) (k0_pay13 s (k0_pay8 hn w) (k0_pay9 g)) (k0_pay14 s (k0_pay8 hn w) (k0_pay9 g)) (k0_pay20 s (k0_pay9 g) (k0_pay15 (k0_pay8 hn w)) (k0_pay18 (k0_pay8 hn w)) (k0_pay19 s (k0_pay8 hn w))) (k0_pay21 s (k0_pay8 hn w) (k0_pay9 g)) (k0_pay22 s (k0_pay8 hn w) (k0_pay9 g)) (k0_pay23 (k0_pay8 hn w)) (k0_pay24 (k0_pay8 hn w)) (ix2 i ⟨6 * 128 + j.val, by omega⟩) = laneNorm (fun y => ∑ x : Fin 1024, (hn (ix2 i x) : EReal) * (w (ix2 x ⟨6 * 128 + y.val, by omega⟩) : EReal)) (fun k l => s (ix2 k l)) (fun l => g (ix2 0 ⟨6 * 128 + l.val, by omega⟩)) j := by
  pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25]
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_pos (by omega)).trans ?_
  have e : 768 + j.val - 128 - 128 - 128 - 128 - 128 - 128 = j.val := by omega
  simp only [e]
  rfl

set_option maxHeartbeats 2000000 in
theorem pay25_7 (s : FVec Ideal S128x128 .bf16) (hn : FVec Ideal S512x1024 .bf16) (i : Fin 512) (w : FVec Ideal S1024x1024 .bf16) (g : FVec Ideal S1x1024 .f32) (j : Fin 128) :
    k0_pay25 (F := Ideal) s (k0_pay8 hn w) (k0_pay9 g) (k0_pay12 (k0_pay9 g) (k0_pay10 hn w) (k0_pay11 s hn w)) (k0_pay13 s (k0_pay8 hn w) (k0_pay9 g)) (k0_pay14 s (k0_pay8 hn w) (k0_pay9 g)) (k0_pay20 s (k0_pay9 g) (k0_pay15 (k0_pay8 hn w)) (k0_pay18 (k0_pay8 hn w)) (k0_pay19 s (k0_pay8 hn w))) (k0_pay21 s (k0_pay8 hn w) (k0_pay9 g)) (k0_pay22 s (k0_pay8 hn w) (k0_pay9 g)) (k0_pay23 (k0_pay8 hn w)) (k0_pay24 (k0_pay8 hn w)) (ix2 i ⟨7 * 128 + j.val, by omega⟩) = laneNorm (fun y => ∑ x : Fin 1024, (hn (ix2 i x) : EReal) * (w (ix2 x ⟨7 * 128 + y.val, by omega⟩) : EReal)) (fun k l => s (ix2 k l)) (fun l => g (ix2 0 ⟨7 * 128 + l.val, by omega⟩)) j := by
  pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25]
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  have e : 896 + j.val - 128 - 128 - 128 - 128 - 128 - 128 - 128 = j.val := by omega
  simp only [e]
  rfl

theorem pay25_at (s : FVec Ideal S128x128 .bf16) (hn : FVec Ideal S512x1024 .bf16) (i : Fin 512) (w : FVec Ideal S1024x1024 .bf16) (g : FVec Ideal S1x1024 .f32) (j : Fin 128) (n : Fin 8) :
    k0_pay25 (F := Ideal) s (k0_pay8 hn w) (k0_pay9 g) (k0_pay12 (k0_pay9 g) (k0_pay10 hn w) (k0_pay11 s hn w)) (k0_pay13 s (k0_pay8 hn w) (k0_pay9 g)) (k0_pay14 s (k0_pay8 hn w) (k0_pay9 g)) (k0_pay20 s (k0_pay9 g) (k0_pay15 (k0_pay8 hn w)) (k0_pay18 (k0_pay8 hn w)) (k0_pay19 s (k0_pay8 hn w))) (k0_pay21 s (k0_pay8 hn w) (k0_pay9 g)) (k0_pay22 s (k0_pay8 hn w) (k0_pay9 g)) (k0_pay23 (k0_pay8 hn w)) (k0_pay24 (k0_pay8 hn w)) (ix2 i ⟨n.val * 128 + j.val, by omega⟩) = laneNorm (fun y => ∑ x : Fin 1024, (hn (ix2 i x) : EReal) * (w (ix2 x ⟨n.val * 128 + y.val, by omega⟩) : EReal)) (fun k l => s (ix2 k l)) (fun l => g (ix2 0 ⟨n.val * 128 + l.val, by omega⟩)) j := by
  fin_cases n
  · exact pay25_0 s hn i w g j
  · exact pay25_1 s hn i w g j
  · exact pay25_2 s hn i w g j
  · exact pay25_3 s hn i w g j
  · exact pay25_4 s hn i w g j
  · exact pay25_5 s hn i w g j
  · exact pay25_6 s hn i w g j
  · exact pay25_7 s hn i w g j

set_option maxHeartbeats 2000000 in
theorem pay46_0 (s : FVec Ideal S128x128 .bf16) (hn : FVec Ideal S512x1024 .bf16) (i : Fin 512) (w : FVec Ideal S1024x1024 .bf16) (g : FVec Ideal S1x1024 .f32) (j : Fin 128) :
    k0_pay46 (F := Ideal) s (k0_pay29 g) (k0_pay30 s hn w g) (k0_pay33 (k0_pay31 s hn w) (k0_pay32 g)) (k0_pay34 s (k0_pay28 hn w) (k0_pay29 g)) (k0_pay35 s (k0_pay28 hn w) (k0_pay29 g)) (k0_pay38 (k0_pay29 g) (k0_pay36 (k0_pay28 hn w)) (k0_pay37 s (k0_pay28 hn w))) (k0_pay39 s (k0_pay28 hn w) (k0_pay29 g)) (k0_pay40 s (k0_pay28 hn w) (k0_pay29 g)) (k0_pay41 (k0_pay28 hn w)) (k0_pay44 (k0_pay28 hn w)) (k0_pay45 s (k0_pay28 hn w)) (ix2 i ⟨0 * 128 + j.val, by omega⟩) = laneNorm (fun y => ∑ x : Fin 1024, (hn (ix2 i x) : EReal) * (w (ix2 x ⟨0 * 128 + y.val, by omega⟩) : EReal)) (fun k l => s (ix2 k l)) (fun l => g (ix2 0 ⟨0 * 128 + l.val, by omega⟩)) j := by
  pointwise [k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46]
  rfl

set_option maxHeartbeats 2000000 in
theorem pay46_1 (s : FVec Ideal S128x128 .bf16) (hn : FVec Ideal S512x1024 .bf16) (i : Fin 512) (w : FVec Ideal S1024x1024 .bf16) (g : FVec Ideal S1x1024 .f32) (j : Fin 128) :
    k0_pay46 (F := Ideal) s (k0_pay29 g) (k0_pay30 s hn w g) (k0_pay33 (k0_pay31 s hn w) (k0_pay32 g)) (k0_pay34 s (k0_pay28 hn w) (k0_pay29 g)) (k0_pay35 s (k0_pay28 hn w) (k0_pay29 g)) (k0_pay38 (k0_pay29 g) (k0_pay36 (k0_pay28 hn w)) (k0_pay37 s (k0_pay28 hn w))) (k0_pay39 s (k0_pay28 hn w) (k0_pay29 g)) (k0_pay40 s (k0_pay28 hn w) (k0_pay29 g)) (k0_pay41 (k0_pay28 hn w)) (k0_pay44 (k0_pay28 hn w)) (k0_pay45 s (k0_pay28 hn w)) (ix2 i ⟨1 * 128 + j.val, by omega⟩) = laneNorm (fun y => ∑ x : Fin 1024, (hn (ix2 i x) : EReal) * (w (ix2 x ⟨1 * 128 + y.val, by omega⟩) : EReal)) (fun k l => s (ix2 k l)) (fun l => g (ix2 0 ⟨1 * 128 + l.val, by omega⟩)) j := by
  pointwise [k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46]
  rfl

set_option maxHeartbeats 2000000 in
theorem pay46_2 (s : FVec Ideal S128x128 .bf16) (hn : FVec Ideal S512x1024 .bf16) (i : Fin 512) (w : FVec Ideal S1024x1024 .bf16) (g : FVec Ideal S1x1024 .f32) (j : Fin 128) :
    k0_pay46 (F := Ideal) s (k0_pay29 g) (k0_pay30 s hn w g) (k0_pay33 (k0_pay31 s hn w) (k0_pay32 g)) (k0_pay34 s (k0_pay28 hn w) (k0_pay29 g)) (k0_pay35 s (k0_pay28 hn w) (k0_pay29 g)) (k0_pay38 (k0_pay29 g) (k0_pay36 (k0_pay28 hn w)) (k0_pay37 s (k0_pay28 hn w))) (k0_pay39 s (k0_pay28 hn w) (k0_pay29 g)) (k0_pay40 s (k0_pay28 hn w) (k0_pay29 g)) (k0_pay41 (k0_pay28 hn w)) (k0_pay44 (k0_pay28 hn w)) (k0_pay45 s (k0_pay28 hn w)) (ix2 i ⟨2 * 128 + j.val, by omega⟩) = laneNorm (fun y => ∑ x : Fin 1024, (hn (ix2 i x) : EReal) * (w (ix2 x ⟨2 * 128 + y.val, by omega⟩) : EReal)) (fun k l => s (ix2 k l)) (fun l => g (ix2 0 ⟨2 * 128 + l.val, by omega⟩)) j := by
  pointwise [k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46]
  refine (dif_neg (by omega)).trans ?_
  refine (dif_neg (by omega)).trans ?_
  refine (dif_pos (by omega)).trans ?_
  have e : 256 + j.val - 128 - 128 = j.val := by omega
  simp only [e]
  rfl

set_option maxHeartbeats 2000000 in
theorem pay46_3 (s : FVec Ideal S128x128 .bf16) (hn : FVec Ideal S512x1024 .bf16) (i : Fin 512) (w : FVec Ideal S1024x1024 .bf16) (g : FVec Ideal S1x1024 .f32) (j : Fin 128) :
    k0_pay46 (F := Ideal) s (k0_pay29 g) (k0_pay30 s hn w g) (k0_pay33 (k0_pay31 s hn w) (k0_pay32 g)) (k0_pay34 s (k0_pay28 hn w) (k0_pay29 g)) (k0_pay35 s (k0_pay28 hn w) (k0_pay29 g)) (k0_pay38 (k0_pay29 g) (k0_pay36 (k0_pay28 hn w)) (k0_pay37 s (k0_pay28 hn w))) (k0_pay39 s (k0_pay28 hn w) (k0_pay29 g)) (k0_pay40 s (k0_pay28 hn w) (k0_pay29 g)) (k0_pay41 (k0_pay28 hn w)) (k0_pay44 (k0_pay28 hn w)) (k0_pay45 s (k0_pay28 hn w)) (ix2 i ⟨3 * 128 + j.val, by omega⟩) = laneNorm (fun y => ∑ x : Fin 1024, (hn (ix2 i x) : EReal) * (w (ix2 x ⟨3 * 128 + y.val, by omega⟩) : EReal)) (fun k l => s (ix2 k l)) (fun l => g (ix2 0 ⟨3 * 128 + l.val, by omega⟩)) j := by
  pointwise [k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46]
  refine (dif_neg (by omega)).trans ?_
  refine (dif_neg (by omega)).trans ?_
  refine (dif_neg (by omega)).trans ?_
  refine (dif_pos (by omega)).trans ?_
  have e : 384 + j.val - 128 - 128 - 128 = j.val := by omega
  simp only [e]
  rfl

set_option maxHeartbeats 2000000 in
theorem pay46_4 (s : FVec Ideal S128x128 .bf16) (hn : FVec Ideal S512x1024 .bf16) (i : Fin 512) (w : FVec Ideal S1024x1024 .bf16) (g : FVec Ideal S1x1024 .f32) (j : Fin 128) :
    k0_pay46 (F := Ideal) s (k0_pay29 g) (k0_pay30 s hn w g) (k0_pay33 (k0_pay31 s hn w) (k0_pay32 g)) (k0_pay34 s (k0_pay28 hn w) (k0_pay29 g)) (k0_pay35 s (k0_pay28 hn w) (k0_pay29 g)) (k0_pay38 (k0_pay29 g) (k0_pay36 (k0_pay28 hn w)) (k0_pay37 s (k0_pay28 hn w))) (k0_pay39 s (k0_pay28 hn w) (k0_pay29 g)) (k0_pay40 s (k0_pay28 hn w) (k0_pay29 g)) (k0_pay41 (k0_pay28 hn w)) (k0_pay44 (k0_pay28 hn w)) (k0_pay45 s (k0_pay28 hn w)) (ix2 i ⟨4 * 128 + j.val, by omega⟩) = laneNorm (fun y => ∑ x : Fin 1024, (hn (ix2 i x) : EReal) * (w (ix2 x ⟨4 * 128 + y.val, by omega⟩) : EReal)) (fun k l => s (ix2 k l)) (fun l => g (ix2 0 ⟨4 * 128 + l.val, by omega⟩)) j := by
  pointwise [k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46]
  refine (dif_neg (by omega)).trans ?_
  refine (dif_neg (by omega)).trans ?_
  refine (dif_neg (by omega)).trans ?_
  refine (dif_neg (by omega)).trans ?_
  refine (dif_pos (by omega)).trans ?_
  have e : 512 + j.val - 128 - 128 - 128 - 128 = j.val := by omega
  simp only [e]
  rfl

set_option maxHeartbeats 2000000 in
theorem pay46_5 (s : FVec Ideal S128x128 .bf16) (hn : FVec Ideal S512x1024 .bf16) (i : Fin 512) (w : FVec Ideal S1024x1024 .bf16) (g : FVec Ideal S1x1024 .f32) (j : Fin 128) :
    k0_pay46 (F := Ideal) s (k0_pay29 g) (k0_pay30 s hn w g) (k0_pay33 (k0_pay31 s hn w) (k0_pay32 g)) (k0_pay34 s (k0_pay28 hn w) (k0_pay29 g)) (k0_pay35 s (k0_pay28 hn w) (k0_pay29 g)) (k0_pay38 (k0_pay29 g) (k0_pay36 (k0_pay28 hn w)) (k0_pay37 s (k0_pay28 hn w))) (k0_pay39 s (k0_pay28 hn w) (k0_pay29 g)) (k0_pay40 s (k0_pay28 hn w) (k0_pay29 g)) (k0_pay41 (k0_pay28 hn w)) (k0_pay44 (k0_pay28 hn w)) (k0_pay45 s (k0_pay28 hn w)) (ix2 i ⟨5 * 128 + j.val, by omega⟩) = laneNorm (fun y => ∑ x : Fin 1024, (hn (ix2 i x) : EReal) * (w (ix2 x ⟨5 * 128 + y.val, by omega⟩) : EReal)) (fun k l => s (ix2 k l)) (fun l => g (ix2 0 ⟨5 * 128 + l.val, by omega⟩)) j := by
  pointwise [k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46]
  refine (dif_neg (by omega)).trans ?_
  refine (dif_neg (by omega)).trans ?_
  refine (dif_neg (by omega)).trans ?_
  refine (dif_neg (by omega)).trans ?_
  refine (dif_neg (by omega)).trans ?_
  refine (dif_pos (by omega)).trans ?_
  have e : 640 + j.val - 128 - 128 - 128 - 128 - 128 = j.val := by omega
  simp only [e]
  rfl

set_option maxHeartbeats 2000000 in
theorem pay46_6 (s : FVec Ideal S128x128 .bf16) (hn : FVec Ideal S512x1024 .bf16) (i : Fin 512) (w : FVec Ideal S1024x1024 .bf16) (g : FVec Ideal S1x1024 .f32) (j : Fin 128) :
    k0_pay46 (F := Ideal) s (k0_pay29 g) (k0_pay30 s hn w g) (k0_pay33 (k0_pay31 s hn w) (k0_pay32 g)) (k0_pay34 s (k0_pay28 hn w) (k0_pay29 g)) (k0_pay35 s (k0_pay28 hn w) (k0_pay29 g)) (k0_pay38 (k0_pay29 g) (k0_pay36 (k0_pay28 hn w)) (k0_pay37 s (k0_pay28 hn w))) (k0_pay39 s (k0_pay28 hn w) (k0_pay29 g)) (k0_pay40 s (k0_pay28 hn w) (k0_pay29 g)) (k0_pay41 (k0_pay28 hn w)) (k0_pay44 (k0_pay28 hn w)) (k0_pay45 s (k0_pay28 hn w)) (ix2 i ⟨6 * 128 + j.val, by omega⟩) = laneNorm (fun y => ∑ x : Fin 1024, (hn (ix2 i x) : EReal) * (w (ix2 x ⟨6 * 128 + y.val, by omega⟩) : EReal)) (fun k l => s (ix2 k l)) (fun l => g (ix2 0 ⟨6 * 128 + l.val, by omega⟩)) j := by
  pointwise [k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46]
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_pos (by omega)).trans ?_
  have e : 768 + j.val - 128 - 128 - 128 - 128 - 128 - 128 = j.val := by omega
  simp only [e]
  rfl

set_option maxHeartbeats 2000000 in
theorem pay46_7 (s : FVec Ideal S128x128 .bf16) (hn : FVec Ideal S512x1024 .bf16) (i : Fin 512) (w : FVec Ideal S1024x1024 .bf16) (g : FVec Ideal S1x1024 .f32) (j : Fin 128) :
    k0_pay46 (F := Ideal) s (k0_pay29 g) (k0_pay30 s hn w g) (k0_pay33 (k0_pay31 s hn w) (k0_pay32 g)) (k0_pay34 s (k0_pay28 hn w) (k0_pay29 g)) (k0_pay35 s (k0_pay28 hn w) (k0_pay29 g)) (k0_pay38 (k0_pay29 g) (k0_pay36 (k0_pay28 hn w)) (k0_pay37 s (k0_pay28 hn w))) (k0_pay39 s (k0_pay28 hn w) (k0_pay29 g)) (k0_pay40 s (k0_pay28 hn w) (k0_pay29 g)) (k0_pay41 (k0_pay28 hn w)) (k0_pay44 (k0_pay28 hn w)) (k0_pay45 s (k0_pay28 hn w)) (ix2 i ⟨7 * 128 + j.val, by omega⟩) = laneNorm (fun y => ∑ x : Fin 1024, (hn (ix2 i x) : EReal) * (w (ix2 x ⟨7 * 128 + y.val, by omega⟩) : EReal)) (fun k l => s (ix2 k l)) (fun l => g (ix2 0 ⟨7 * 128 + l.val, by omega⟩)) j := by
  pointwise [k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46]
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  have e : 896 + j.val - 128 - 128 - 128 - 128 - 128 - 128 - 128 = j.val := by omega
  simp only [e]
  rfl

theorem pay46_at (s : FVec Ideal S128x128 .bf16) (hn : FVec Ideal S512x1024 .bf16) (i : Fin 512) (w : FVec Ideal S1024x1024 .bf16) (g : FVec Ideal S1x1024 .f32) (j : Fin 128) (n : Fin 8) :
    k0_pay46 (F := Ideal) s (k0_pay29 g) (k0_pay30 s hn w g) (k0_pay33 (k0_pay31 s hn w) (k0_pay32 g)) (k0_pay34 s (k0_pay28 hn w) (k0_pay29 g)) (k0_pay35 s (k0_pay28 hn w) (k0_pay29 g)) (k0_pay38 (k0_pay29 g) (k0_pay36 (k0_pay28 hn w)) (k0_pay37 s (k0_pay28 hn w))) (k0_pay39 s (k0_pay28 hn w) (k0_pay29 g)) (k0_pay40 s (k0_pay28 hn w) (k0_pay29 g)) (k0_pay41 (k0_pay28 hn w)) (k0_pay44 (k0_pay28 hn w)) (k0_pay45 s (k0_pay28 hn w)) (ix2 i ⟨n.val * 128 + j.val, by omega⟩) = laneNorm (fun y => ∑ x : Fin 1024, (hn (ix2 i x) : EReal) * (w (ix2 x ⟨n.val * 128 + y.val, by omega⟩) : EReal)) (fun k l => s (ix2 k l)) (fun l => g (ix2 0 ⟨n.val * 128 + l.val, by omega⟩)) j := by
  fin_cases n
  · exact pay46_0 s hn i w g j
  · exact pay46_1 s hn i w g j
  · exact pay46_2 s hn i w g j
  · exact pay46_3 s hn i w g j
  · exact pay46_4 s hn i w g j
  · exact pay46_5 s hn i w g j
  · exact pay46_6 s hn i w g j
  · exact pay46_7 s hn i w g j

end Cert.ProjIdeal.Rows

end
-- ==== Proof.ProjEq.lean ====
/- Each of the call's results at one element is the reference's, given what the row's products with the prepared weights are. -/
module

public import proofs.«01_k».proof.Proof.Gen.ProjIdeal.Frame
public import proofs.«01_k».proof.Proof.ProjPay
public import proofs.«01_k».proof.Proof.ProjQry
public import Idealize.ShloMosaic.Lib.StableHlo.ReadAt
public import Idealize.ShloMosaic.Lib.Pipeline.ValueKit

@[expose] public section

set_option maxRecDepth 16384

noncomputable section

open Idealize.ShloMosaic Idealize.ShloMosaic.TcCoe Idealize.SL.Sem

namespace Cert.ProjIdeal.Rows

open Cert.ProjIdeal Cert.ProjIdeal.Gen

open HeadNorm

theorem pay7_at (a0 : FVec Ideal S65536x1024 .f32) (a1 : FVec Ideal S1024 .f32) (r : Fin 65536) (x : FVec Ideal S512x1024 .f32) (g : FVec Ideal S1x1024 .f32) (i : Fin 512) (k : Fin 1024)
    (hx : ∀ y, x (ix2 i y) = a0 (ix2 r y)) (hg : ∀ y, g (ix2 0 y) = a1 (ix1 y)) :
    k0_pay7 (F := Ideal) x g (ix2 i k) = Cert.ProjRefIdeal.Res.nrow a0 a1 r k := by
  pointwise [k0_pay7]
  unfold Cert.ProjRefIdeal.Res.nrow
  simp only [hx, hg]

theorem mm_at (a0 : FVec Ideal S65536x1024 .f32) (a1 : FVec Ideal S1024 .f32) (a2 : FVec Ideal S1024x4704 .f32) (r : Fin 65536) (h w : Fin 1024 → EReal) (q : Fin 4704)
    (hh : ∀ x, h x = Cert.ProjRefIdeal.Res.nrow a0 a1 r x) (hw : ∀ x, w x = a2 (ix2 x q)) :
    (∑ x : Fin 1024, h x * w x) = Cert.ProjRefIdeal.Res.z13 a0 a1 a2 (ix2 r q) := by
  refine Eq.trans ?_ (Cert.ProjRefIdeal.Res.z_at a0 a1 a2 r q).symm
  exact Finset.sum_congr rfl fun x _ => congrArg₂ (fun p q : EReal => p * q) (hh x) (hw x)

theorem mm_zero (h w : Fin 1024 → EReal) (hw : ∀ x, w x = 0) : (∑ x : Fin 1024, h x * w x) = 0 :=
  Finset.sum_eq_zero fun x _ => by rw [hw x, mul_zero]

theorem mm_if (a0 : FVec Ideal S65536x1024 .f32) (a1 : FVec Ideal S1024 .f32) (a2 : FVec Ideal S1024x4704 .f32) (r : Fin 65536) (h w : Fin 1024 → EReal) (p : Prop) [Decidable p] (q : Fin 4704)
    (hh : ∀ x, h x = Cert.ProjRefIdeal.Res.nrow a0 a1 r x) (hw : ∀ x, w x = if p then (a2 (ix2 x q) : EReal) else (0 : EReal)) :
    (∑ x : Fin 1024, h x * w x) = if p then (Cert.ProjRefIdeal.Res.z13 a0 a1 a2 (ix2 r q) : EReal) else (0 : EReal) := by
  by_cases e : p
  · exact (mm_at a0 a1 a2 r h w q hh fun x => (hw x).trans (if_pos e)).trans (if_pos e).symm
  · exact (mm_zero h w fun x => (hw x).trans (if_neg e)).trans (if_neg e).symm

theorem mm_dif (a0 : FVec Ideal S65536x1024 .f32) (a1 : FVec Ideal S1024 .f32) (a2 : FVec Ideal S1024x4704 .f32) (r : Fin 65536) (h w : Fin 1024 → EReal) (p : Prop) [Decidable p] (q : p → Fin 4704)
    (hh : ∀ x, h x = Cert.ProjRefIdeal.Res.nrow a0 a1 r x) (hw : ∀ x, w x = if e : p then (a2 (ix2 x (q e)) : EReal) else (0 : EReal)) :
    (∑ x : Fin 1024, h x * w x) = if e : p then (Cert.ProjRefIdeal.Res.z13 a0 a1 a2 (ix2 r (q e)) : EReal) else (0 : EReal) := by
  by_cases e : p
  · refine Eq.trans ?_ (dif_pos e).symm
    exact mm_at a0 a1 a2 r h w (q e) hh fun x => (hw x).trans (dif_pos e)
  · refine Eq.trans ?_ (dif_neg e).symm
    exact mm_zero h w fun x => (hw x).trans (dif_neg e)

theorem kb_d (z : FVec Ideal ProjRefIdeal.S65536x4704 .f32) (a3 a4 a5 a6 a7 a8 : FVec Ideal S64 .f32) (r : Fin 65536) (s : FVec Ideal S128x128 .bf16) (hn : FVec Ideal S512x1024 .bf16) (i : Fin 512) (w : FVec Ideal S1024x256 .bf16) (g : FVec Ideal S1x128 .f32) (j : Fin 128)
    (hz : ∀ q : Fin 256, (∑ x : Fin 1024, (hn (ix2 i x) : EReal) * (w (ix2 x q) : EReal)) = z (ix2 r ⟨512 + q.val, by omega⟩)) (hs : Half s) (hg : ∀ l : Fin 128, g (ix2 0 l) = a4 (ix1 ⟨l.val % 64, by omega⟩)) (hr : ∀ q, Real' (z (ix2 r q))) :
    k0_pay50 (k0_pay48 (F := Ideal) s hn w g) (ix2 i j) = Cert.ProjRefIdeal.Res.o123 z a3 a4 a5 a6 a7 a8 (ix2 r j) := by
  refine (pay50_at s hn i w g j).trans ?_
  refine Eq.trans ?_ ((Cert.ProjRefIdeal.Res.kb_d z a3 a4 a5 a6 a7 a8 r j).trans (Cert.ProjRefIdeal.Res.k_d_at z a3 a4 a5 a6 a7 a8 r j)).symm
  refine laneNorm_at _ (fun y => ?_) _ hs _ j _ _ (fun d => ?_) (fun d => ?_)
  · rw [hz ⟨y.val, by omega⟩]; exact hr _
  · exact hz ⟨j.val / 64 * 64 + d.val, by omega⟩
  · refine (hg _).trans (congrArg (fun q : Fin 64 => a4 (ix1 q)) (Fin.ext ?_))
    simp only []; omega

theorem kv_d (z : FVec Ideal ProjRefIdeal.S65536x4704 .f32) (a3 a4 a5 a6 a7 a8 : FVec Ideal S64 .f32) (r : Fin 65536) (s : FVec Ideal S128x128 .bf16) (hn : FVec Ideal S512x1024 .bf16) (i : Fin 512) (w : FVec Ideal S1024x256 .bf16) (g : FVec Ideal S1x128 .f32) (j : Fin 128)
    (hz : ∀ q : Fin 256, (∑ x : Fin 1024, (hn (ix2 i x) : EReal) * (w (ix2 x q) : EReal)) = z (ix2 r ⟨512 + q.val, by omega⟩)) (hs : Half s) (hg : ∀ l : Fin 128, g (ix2 0 l) = a4 (ix1 ⟨l.val % 64, by omega⟩)) (hr : ∀ q, Real' (z (ix2 r q))) :
    k0_pay48 (F := Ideal) s hn w g (ix2 i j) = Cert.ProjRefIdeal.Res.o122 z a3 a4 a5 a6 a7 a8 (ix2 r ⟨j.val, by omega⟩) := by
  refine (pay48_at s hn i w g j).trans ?_
  refine Eq.trans ?_ ((Cert.ProjRefIdeal.Res.kv_d_k z a3 a4 a5 a6 a7 a8 r j).trans (Cert.ProjRefIdeal.Res.k_d_at z a3 a4 a5 a6 a7 a8 r j)).symm
  refine laneNorm_at _ (fun y => ?_) _ hs _ j _ _ (fun d => ?_) (fun d => ?_)
  · rw [hz ⟨y.val, by omega⟩]; exact hr _
  · exact hz ⟨j.val / 64 * 64 + d.val, by omega⟩
  · refine (hg _).trans (congrArg (fun q : Fin 64 => a4 (ix1 q)) (Fin.ext ?_))
    simp only []; omega

theorem kb_s (z : FVec Ideal ProjRefIdeal.S65536x4704 .f32) (a3 a4 a5 a6 a7 a8 : FVec Ideal S64 .f32) (r : Fin 65536) (s : FVec Ideal S128x128 .bf16) (hn : FVec Ideal S512x1024 .bf16) (i : Fin 512) (w : FVec Ideal S1024x256 .bf16) (g : FVec Ideal S1x128 .f32) (j : Fin 128)
    (hz : ∀ q : Fin 256, (∑ x : Fin 1024, (hn (ix2 i x) : EReal) * (w (ix2 x q) : EReal)) = z (ix2 r ⟨2120 + q.val, by omega⟩)) (hs : Half s) (hg : ∀ l : Fin 128, g (ix2 0 l) = a7 (ix1 ⟨l.val % 64, by omega⟩)) (hr : ∀ q, Real' (z (ix2 r q))) :
    k0_pay55 (F := Ideal) s hn w g (ix2 i j) = Cert.ProjRefIdeal.Res.o143 z a3 a4 a5 a6 a7 a8 (ix2 r j) := by
  refine (pay55_at s hn i w g j).trans ?_
  refine Eq.trans ?_ ((Cert.ProjRefIdeal.Res.kb_s z a3 a4 a5 a6 a7 a8 r j).trans (Cert.ProjRefIdeal.Res.k_s_at z a3 a4 a5 a6 a7 a8 r j)).symm
  refine laneNorm_at _ (fun y => ?_) _ hs _ j _ _ (fun d => ?_) (fun d => ?_)
  · rw [hz ⟨y.val, by omega⟩]; exact hr _
  · exact hz ⟨j.val / 64 * 64 + d.val, by omega⟩
  · refine (hg _).trans (congrArg (fun q : Fin 64 => a7 (ix1 q)) (Fin.ext ?_))
    simp only []; omega

theorem kv_s (z : FVec Ideal ProjRefIdeal.S65536x4704 .f32) (a3 a4 a5 a6 a7 a8 : FVec Ideal S64 .f32) (r : Fin 65536) (s : FVec Ideal S128x128 .bf16) (hn : FVec Ideal S512x1024 .bf16) (i : Fin 512) (w : FVec Ideal S1024x256 .bf16) (g : FVec Ideal S1x128 .f32) (j : Fin 128)
    (hz : ∀ q : Fin 256, (∑ x : Fin 1024, (hn (ix2 i x) : EReal) * (w (ix2 x q) : EReal)) = z (ix2 r ⟨2120 + q.val, by omega⟩)) (hs : Half s) (hg : ∀ l : Fin 128, g (ix2 0 l) = a7 (ix1 ⟨l.val % 64, by omega⟩)) (hr : ∀ q, Real' (z (ix2 r q))) :
    k0_pay53 (F := Ideal) s hn w g (ix2 i j) = Cert.ProjRefIdeal.Res.o142 z a3 a4 a5 a6 a7 a8 (ix2 r ⟨j.val, by omega⟩) := by
  refine (pay53_at s hn i w g j).trans ?_
  refine Eq.trans ?_ ((Cert.ProjRefIdeal.Res.kv_s_k z a3 a4 a5 a6 a7 a8 r j).trans (Cert.ProjRefIdeal.Res.k_s_at z a3 a4 a5 a6 a7 a8 r j)).symm
  refine laneNorm_at _ (fun y => ?_) _ hs _ j _ _ (fun d => ?_) (fun d => ?_)
  · rw [hz ⟨y.val, by omega⟩]; exact hr _
  · exact hz ⟨j.val / 64 * 64 + d.val, by omega⟩
  · refine (hg _).trans (congrArg (fun q : Fin 64 => a7 (ix1 q)) (Fin.ext ?_))
    simp only []; omega

theorem kb_w (z : FVec Ideal ProjRefIdeal.S65536x4704 .f32) (a3 a4 a5 a6 a7 a8 : FVec Ideal S64 .f32) (r : Fin 65536) (s : FVec Ideal S128x128 .bf16) (hn : FVec Ideal S512x1024 .bf16) (i : Fin 512) (w : FVec Ideal S1024x256 .bf16) (g : FVec Ideal S1x128 .f32) (j : Fin 128)
    (hz : ∀ q : Fin 256, (∑ x : Fin 1024, (hn (ix2 i x) : EReal) * (w (ix2 x q) : EReal)) = z (ix2 r ⟨2376 + q.val, by omega⟩)) (hs : Half s) (hg : ∀ l : Fin 128, g (ix2 0 l) = a8 (ix1 ⟨l.val % 64, by omega⟩)) (hr : ∀ q, Real' (z (ix2 r q))) :
    k0_pay60 (F := Ideal) s hn w g (ix2 i j) = Cert.ProjRefIdeal.Res.o163 z a3 a4 a5 a6 a7 a8 (ix2 r j) := by
  refine (pay60_at s hn i w g j).trans ?_
  refine Eq.trans ?_ ((Cert.ProjRefIdeal.Res.kb_w z a3 a4 a5 a6 a7 a8 r j).trans (Cert.ProjRefIdeal.Res.k_w_at z a3 a4 a5 a6 a7 a8 r j)).symm
  refine laneNorm_at _ (fun y => ?_) _ hs _ j _ _ (fun d => ?_) (fun d => ?_)
  · rw [hz ⟨y.val, by omega⟩]; exact hr _
  · exact hz ⟨j.val / 64 * 64 + d.val, by omega⟩
  · refine (hg _).trans (congrArg (fun q : Fin 64 => a8 (ix1 q)) (Fin.ext ?_))
    simp only []; omega

theorem kv_w (z : FVec Ideal ProjRefIdeal.S65536x4704 .f32) (a3 a4 a5 a6 a7 a8 : FVec Ideal S64 .f32) (r : Fin 65536) (s : FVec Ideal S128x128 .bf16) (hn : FVec Ideal S512x1024 .bf16) (i : Fin 512) (w : FVec Ideal S1024x256 .bf16) (g : FVec Ideal S1x128 .f32) (j : Fin 128)
    (hz : ∀ q : Fin 256, (∑ x : Fin 1024, (hn (ix2 i x) : EReal) * (w (ix2 x q) : EReal)) = z (ix2 r ⟨2376 + q.val, by omega⟩)) (hs : Half s) (hg : ∀ l : Fin 128, g (ix2 0 l) = a8 (ix1 ⟨l.val % 64, by omega⟩)) (hr : ∀ q, Real' (z (ix2 r q))) :
    k0_pay58 (F := Ideal) s hn w g (ix2 i j) = Cert.ProjRefIdeal.Res.o162 z a3 a4 a5 a6 a7 a8 (ix2 r ⟨j.val, by omega⟩) := by
  refine (pay58_at s hn i w g j).trans ?_
  refine Eq.trans ?_ ((Cert.ProjRefIdeal.Res.kv_w_k z a3 a4 a5 a6 a7 a8 r j).trans (Cert.ProjRefIdeal.Res.k_w_at z a3 a4 a5 a6 a7 a8 r j)).symm
  refine laneNorm_at _ (fun y => ?_) _ hs _ j _ _ (fun d => ?_) (fun d => ?_)
  · rw [hz ⟨y.val, by omega⟩]; exact hr _
  · exact hz ⟨j.val / 64 * 64 + d.val, by omega⟩
  · refine (hg _).trans (congrArg (fun q : Fin 64 => a8 (ix1 q)) (Fin.ext ?_))
    simp only []; omega

theorem ik_norm (z : FVec Ideal ProjRefIdeal.S65536x4704 .f32) (a3 a4 a5 a6 a7 a8 : FVec Ideal S64 .f32) (r : Fin 65536) (s : FVec Ideal S128x128 .bf16) (hn : FVec Ideal S512x1024 .bf16) (i : Fin 512) (w : FVec Ideal S1024x128 .bf16) (g : FVec Ideal S1x128 .f32) (j : Fin 128)
    (hz : ∀ q : Fin 128, (∑ x : Fin 1024, (hn (ix2 i x) : EReal) * (w (ix2 x q) : EReal)) = if h : q.val < 64 then (z (ix2 r ⟨1288 + q.val, by omega⟩) : EReal) else (0 : EReal)) (hs : Half s)
    (hg : ∀ l : Fin 128, g (ix2 0 l) = if h : l.val < 64 then (a5 (ix1 ⟨l.val, h⟩) : EReal) else (0 : EReal)) (hr : ∀ q, Real' (z (ix2 r q))) :
    laneNorm (fun y => ∑ x : Fin 1024, (hn (ix2 i x) : EReal) * (w (ix2 x y) : EReal)) (fun k l => s (ix2 k l)) (fun l => g (ix2 0 l)) j
      = if h : j.val < 64 then headNorm (fun d => (z (ix2 r ⟨1288 + d.val, by omega⟩) : EReal)) (fun d => a5 (ix1 d)) ⟨j.val, h⟩ else (0 : EReal) := by
  by_cases e : j.val < 64
  · refine Eq.trans ?_ (dif_pos e).symm
    have ej : (⟨j.val, e⟩ : Fin 64) = ⟨j.val % 64, by omega⟩ := Fin.ext (by simp only []; omega)
    rw [ej]
    refine laneNorm_at _ (fun y => ?_) _ hs _ j _ _ (fun d => ?_) (fun d => ?_)
    · rw [hz y]
      split
      · exact hr _
      · exact Real'.zero
    · refine (hz _).trans ((dif_pos (by simp only []; omega)).trans ?_)
      refine congrArg (fun q : Fin 4704 => (z (ix2 r q) : EReal)) (Fin.ext ?_)
      simp only []; omega
    · refine (hg _).trans ((dif_pos (by simp only []; omega)).trans ?_)
      refine congrArg (fun q : Fin 64 => (a5 (ix1 q) : EReal)) (Fin.ext ?_)
      simp only []; omega
  · refine Eq.trans ?_ (dif_neg e).symm
    exact laneNorm_zero _ _ _ _ ((hz j).trans (dif_neg e))

theorem ika (z : FVec Ideal ProjRefIdeal.S65536x4704 .f32) (a3 a4 a5 a6 a7 a8 : FVec Ideal S64 .f32) (r : Fin 65536) (s : FVec Ideal S128x128 .bf16) (hn : FVec Ideal S512x1024 .bf16) (i : Fin 512) (w : FVec Ideal S1024x128 .bf16) (g : FVec Ideal S1x128 .f32) (j : Fin 128)
    (hz : ∀ q : Fin 128, (∑ x : Fin 1024, (hn (ix2 i x) : EReal) * (w (ix2 x q) : EReal)) = if h : q.val < 64 then (z (ix2 r ⟨1288 + q.val, by omega⟩) : EReal) else (0 : EReal)) (hs : Half s)
    (hg : ∀ l : Fin 128, g (ix2 0 l) = if h : l.val < 64 then (a5 (ix1 ⟨l.val, h⟩) : EReal) else (0 : EReal)) (hr : ∀ q, Real' (z (ix2 r q))) :
    k0_pay3 s (k0_pay65 (F := Ideal) hn w) (k0_pay66 g) (k0_pay69 hn w) (k0_pay70 s hn w) (ix2 i j) = Cert.ProjRefIdeal.Res.o48 z a3 a4 a5 a6 a7 a8 (ix2 r j) := by
  refine (pay3_at s hn i w g j).trans ?_
  refine Eq.trans ?_ (Cert.ProjRefIdeal.Res.ika_at z a3 a4 a5 a6 a7 a8 r j).symm
  exact ik_norm z a3 a4 a5 a6 a7 a8 r s hn i w g j hz hs hg hr

theorem ik (z : FVec Ideal ProjRefIdeal.S65536x4704 .f32) (a3 a4 a5 a6 a7 a8 : FVec Ideal S64 .f32) (r : Fin 65536) (s : FVec Ideal S128x128 .bf16) (hn : FVec Ideal S512x1024 .bf16) (i : Fin 512) (w : FVec Ideal S1024x128 .bf16) (g : FVec Ideal S1x128 .f32) (j : Fin 64)
    (hz : ∀ q : Fin 128, (∑ x : Fin 1024, (hn (ix2 i x) : EReal) * (w (ix2 x q) : EReal)) = if h : q.val < 64 then (z (ix2 r ⟨1288 + q.val, by omega⟩) : EReal) else (0 : EReal)) (hs : Half s)
    (hg : ∀ l : Fin 128, g (ix2 0 l) = if h : l.val < 64 then (a5 (ix1 ⟨l.val, h⟩) : EReal) else (0 : EReal)) (hr : ∀ q, Real' (z (ix2 r q))) :
    k0_pay2 s (k0_pay65 (F := Ideal) hn w) (k0_pay66 g) (k0_pay69 hn w) (k0_pay70 s hn w) (ix2 i j) = Cert.ProjRefIdeal.Res.o45 z a3 a4 a5 a6 a7 a8 (ix2 r j) := by
  refine (pay2_at s hn i w g j).trans ?_
  refine Eq.trans ?_ (Cert.ProjRefIdeal.Res.ik_at z a3 a4 a5 a6 a7 a8 r j).symm
  refine (ik_norm z a3 a4 a5 a6 a7 a8 r s hn i w g ⟨j.val, by omega⟩ hz hs hg hr).trans ?_
  exact dif_pos j.isLt

theorem mm_misc (a0 : FVec Ideal S65536x1024 .f32) (a1 : FVec Ideal S1024 .f32) (a2 : FVec Ideal S1024x4704 .f32) (r : Fin 65536) (h w : Fin 1024 → EReal) (j : Fin 128)
    (hh : ∀ x, h x = Cert.ProjRefIdeal.Res.nrow a0 a1 r x)
    (hw : ∀ x, w x = if e : j.val < 8 then (a2 (ix2 x ⟨1280 + j.val, by omega⟩) : EReal) else if e' : j.val < 32 then (a2 (ix2 x ⟨2632 + (j.val - 8), by omega⟩) : EReal) else (0 : EReal)) :
    (∑ x : Fin 1024, h x * w x) = if e : j.val < 8 then (Cert.ProjRefIdeal.Res.z13 a0 a1 a2 (ix2 r ⟨1280 + j.val, by omega⟩) : EReal) else if e' : j.val < 32 then (Cert.ProjRefIdeal.Res.z13 a0 a1 a2 (ix2 r ⟨2632 + (j.val - 8), by omega⟩) : EReal) else (0 : EReal) := by
  by_cases e : j.val < 8
  · refine Eq.trans ?_ (dif_pos e).symm
    exact mm_at a0 a1 a2 r h w _ hh fun x => (hw x).trans (dif_pos e)
  · refine Eq.trans ?_ (dif_neg e).symm
    exact mm_dif a0 a1 a2 r h w _ _ hh fun x => (hw x).trans (dif_neg e)

theorem iw (z : FVec Ideal ProjRefIdeal.S65536x4704 .f32) (a3 a4 a5 a6 a7 a8 : FVec Ideal S64 .f32) (r : Fin 65536) (hn : FVec Ideal S512x1024 .bf16) (i : Fin 512) (w : FVec Ideal S1024x128 .bf16) (j : Fin 128)
    (hz : (∑ x : Fin 1024, (hn (ix2 i x) : EReal) * (w (ix2 x j) : EReal)) = if h : j.val < 8 then (z (ix2 r ⟨1280 + j.val, by omega⟩) : EReal) else if h' : j.val < 32 then (z (ix2 r ⟨2632 + (j.val - 8), by omega⟩) : EReal) else (0 : EReal)) :
    k0_pay5 (F := Ideal) hn w (ix2 i j) = Cert.ProjRefIdeal.Res.o178 z a3 a4 a5 a6 a7 a8 (ix2 r j) := by
  refine (pay5_at hn i w j).trans ?_
  refine Eq.trans ?_ (Cert.ProjRefIdeal.Res.iw_at z a3 a4 a5 a6 a7 a8 r j).symm
  exact congrArg (fun q : EReal => q * Ideal.ofBits .f32 0x3EB504F3#32) (hz.trans (Cert.ProjRefIdeal.Res.misc_at z a3 a4 a5 a6 a7 a8 r j).symm)

theorem ng (z : FVec Ideal ProjRefIdeal.S65536x4704 .f32) (a3 a4 a5 a6 a7 a8 : FVec Ideal S64 .f32) (r : Fin 65536) (hn : FVec Ideal S512x1024 .bf16) (i : Fin 512) (w : FVec Ideal S1024x128 .bf16) (j : Fin 128)
    (hz : (∑ x : Fin 1024, (hn (ix2 i x) : EReal) * (w (ix2 x j) : EReal)) = if h : j.val < 8 then (z (ix2 r ⟨1280 + j.val, by omega⟩) : EReal) else if h' : j.val < 32 then (z (ix2 r ⟨2632 + (j.val - 8), by omega⟩) : EReal) else (0 : EReal)) :
    k0_pay6 (F := Ideal) hn w (ix2 i j) = Cert.ProjRefIdeal.Res.o184 z a3 a4 a5 a6 a7 a8 (ix2 r j) := by
  refine (pay6_at hn i w j).trans ?_
  refine Eq.trans ?_ (Cert.ProjRefIdeal.Res.ng_at z a3 a4 a5 a6 a7 a8 r j).symm
  exact congrArg (fun q : EReal => Ideal.logistic q) (hz.trans (Cert.ProjRefIdeal.Res.misc_at z a3 a4 a5 a6 a7 a8 r j).symm)

theorem ga (z : FVec Ideal ProjRefIdeal.S65536x4704 .f32) (a3 a4 a5 a6 a7 a8 : FVec Ideal S64 .f32) (r : Fin 65536) (hn : FVec Ideal S512x1024 .bf16) (i : Fin 512) (w : FVec Ideal S1024x1024 .bf16) (j : Fin 1024) (hz : (∑ x : Fin 1024, (hn (ix2 i x) : EReal) * (w (ix2 x j) : EReal)) = z (ix2 r ⟨2656 + j.val, by omega⟩)) :
    k0_pay63 (F := Ideal) hn w (ix2 i j) = Cert.ProjRefIdeal.Res.o170 z a3 a4 a5 a6 a7 a8 (ix2 r j) := by
  refine (pay63_at hn i w j).trans ?_
  refine Eq.trans ?_ (Cert.ProjRefIdeal.Res.ga_at z a3 a4 a5 a6 a7 a8 r j).symm
  exact congrArg (fun q : EReal => Ideal.logistic q) hz

theorem gb (z : FVec Ideal ProjRefIdeal.S65536x4704 .f32) (a3 a4 a5 a6 a7 a8 : FVec Ideal S64 .f32) (r : Fin 65536) (hn : FVec Ideal S512x1024 .bf16) (i : Fin 512) (w : FVec Ideal S1024x1024 .bf16) (j : Fin 1024) (hz : (∑ x : Fin 1024, (hn (ix2 i x) : EReal) * (w (ix2 x j) : EReal)) = z (ix2 r ⟨3680 + j.val, by omega⟩)) :
    k0_pay64 (F := Ideal) hn w (ix2 i j) = Cert.ProjRefIdeal.Res.o176 z a3 a4 a5 a6 a7 a8 (ix2 r j) := by
  refine (pay64_at hn i w j).trans ?_
  refine Eq.trans ?_ (Cert.ProjRefIdeal.Res.gb_at z a3 a4 a5 a6 a7 a8 r j).symm
  exact congrArg (fun q : EReal => Ideal.logistic q) hz

theorem iq (z : FVec Ideal ProjRefIdeal.S65536x4704 .f32) (a3 a4 a5 a6 a7 a8 : FVec Ideal S64 .f32) (r : Fin 65536) (hn : FVec Ideal S512x1024 .bf16) (i : Fin 512) (w : FVec Ideal S1024x1024 .bf16) (n : Fin 8) (l : Fin 128)
    (hz : (∑ x : Fin 1024, (hn (ix2 i x) : EReal) * (w (ix2 x ⟨n.val * 128 + l.val, by omega⟩) : EReal)) = if h : l.val < 64 then (z (ix2 r ⟨768 + (n.val * 64 + l.val), by omega⟩) : EReal) else (0 : EReal)) :
    k0_pay27 (k0_pay26 (F := Ideal) hn w) (ix2 i ⟨n.val * 128 + l.val, by omega⟩) = Cert.ProjRefIdeal.Res.o32 z a3 a4 a5 a6 a7 a8 (ix2 r ⟨n.val * 128 + l.val, by omega⟩) := by
  refine (pay27_at hn i w _).trans ?_
  refine Eq.trans ?_ (Cert.ProjRefIdeal.Res.q_idx_at z a3 a4 a5 a6 a7 a8 r n l).symm
  refine (congrArg (fun q : EReal => q * Ideal.ofBits .f32 0x3E000000#32) hz).trans ?_
  by_cases e : l.val < 64
  · rw [dif_pos e, dif_pos e]
  · rw [dif_neg e, dif_neg e, zero_mul]

theorem vb_d (z : FVec Ideal ProjRefIdeal.S65536x4704 .f32) (a3 a4 a5 a6 a7 a8 : FVec Ideal S64 .f32) (r : Fin 65536) (hn : FVec Ideal S512x1024 .bf16) (i : Fin 512) (w : FVec Ideal S1024x256 .bf16) (j : Fin 128) (hz : ∀ q : Fin 256, (∑ x : Fin 1024, (hn (ix2 i x) : EReal) * (w (ix2 x q) : EReal)) = z (ix2 r ⟨512 + q.val, by omega⟩)) :
    k0_pay51 (k0_pay49 (F := Ideal) hn w) (ix2 i j) = Cert.ProjRefIdeal.Res.o124 z a3 a4 a5 a6 a7 a8 (ix2 r j) := by
  refine (pay51_at hn i w j).trans ?_
  refine Eq.trans ?_ ((Cert.ProjRefIdeal.Res.vb_d z a3 a4 a5 a6 a7 a8 r j).trans (Cert.ProjRefIdeal.Res.v_d_at z a3 a4 a5 a6 a7 a8 r j)).symm
  exact hz ⟨128 + j.val, by omega⟩

theorem vb_s (z : FVec Ideal ProjRefIdeal.S65536x4704 .f32) (a3 a4 a5 a6 a7 a8 : FVec Ideal S64 .f32) (r : Fin 65536) (hn : FVec Ideal S512x1024 .bf16) (i : Fin 512) (w : FVec Ideal S1024x256 .bf16) (j : Fin 128) (hz : ∀ q : Fin 256, (∑ x : Fin 1024, (hn (ix2 i x) : EReal) * (w (ix2 x q) : EReal)) = z (ix2 r ⟨2120 + q.val, by omega⟩)) :
    k0_pay56 (k0_pay54 (F := Ideal) hn w) (ix2 i j) = Cert.ProjRefIdeal.Res.o144 z a3 a4 a5 a6 a7 a8 (ix2 r j) := by
  refine (pay56_at hn i w j).trans ?_
  refine Eq.trans ?_ ((Cert.ProjRefIdeal.Res.vb_s z a3 a4 a5 a6 a7 a8 r j).trans (Cert.ProjRefIdeal.Res.v_s_at z a3 a4 a5 a6 a7 a8 r j)).symm
  exact hz ⟨128 + j.val, by omega⟩

theorem vb_w (z : FVec Ideal ProjRefIdeal.S65536x4704 .f32) (a3 a4 a5 a6 a7 a8 : FVec Ideal S64 .f32) (r : Fin 65536) (hn : FVec Ideal S512x1024 .bf16) (i : Fin 512) (w : FVec Ideal S1024x256 .bf16) (j : Fin 128) (hz : ∀ q : Fin 256, (∑ x : Fin 1024, (hn (ix2 i x) : EReal) * (w (ix2 x q) : EReal)) = z (ix2 r ⟨2376 + q.val, by omega⟩)) :
    k0_pay61 (F := Ideal) hn w (ix2 i j) = Cert.ProjRefIdeal.Res.o164 z a3 a4 a5 a6 a7 a8 (ix2 r j) := by
  refine (pay61_at hn i w j).trans ?_
  refine Eq.trans ?_ ((Cert.ProjRefIdeal.Res.vb_w z a3 a4 a5 a6 a7 a8 r j).trans (Cert.ProjRefIdeal.Res.v_w_at z a3 a4 a5 a6 a7 a8 r j)).symm
  exact hz ⟨128 + j.val, by omega⟩

theorem vv_d (z : FVec Ideal ProjRefIdeal.S65536x4704 .f32) (a3 a4 a5 a6 a7 a8 : FVec Ideal S64 .f32) (r : Fin 65536) (hn : FVec Ideal S512x1024 .bf16) (i : Fin 512) (w : FVec Ideal S1024x256 .bf16) (j : Fin 128) (hz : ∀ q : Fin 256, (∑ x : Fin 1024, (hn (ix2 i x) : EReal) * (w (ix2 x q) : EReal)) = z (ix2 r ⟨512 + q.val, by omega⟩)) :
    k0_pay49 (F := Ideal) hn w (ix2 i j) = Cert.ProjRefIdeal.Res.o122 z a3 a4 a5 a6 a7 a8 (ix2 r ⟨128 + j.val, by omega⟩) := by
  refine (pay49_at hn i w j).trans ?_
  refine Eq.trans ?_ ((Cert.ProjRefIdeal.Res.kv_d_v z a3 a4 a5 a6 a7 a8 r j).trans (Cert.ProjRefIdeal.Res.v_d_at z a3 a4 a5 a6 a7 a8 r j)).symm
  exact hz ⟨128 + j.val, by omega⟩

theorem vv_s (z : FVec Ideal ProjRefIdeal.S65536x4704 .f32) (a3 a4 a5 a6 a7 a8 : FVec Ideal S64 .f32) (r : Fin 65536) (hn : FVec Ideal S512x1024 .bf16) (i : Fin 512) (w : FVec Ideal S1024x256 .bf16) (j : Fin 128) (hz : ∀ q : Fin 256, (∑ x : Fin 1024, (hn (ix2 i x) : EReal) * (w (ix2 x q) : EReal)) = z (ix2 r ⟨2120 + q.val, by omega⟩)) :
    k0_pay54 (F := Ideal) hn w (ix2 i j) = Cert.ProjRefIdeal.Res.o142 z a3 a4 a5 a6 a7 a8 (ix2 r ⟨128 + j.val, by omega⟩) := by
  refine (pay54_at hn i w j).trans ?_
  refine Eq.trans ?_ ((Cert.ProjRefIdeal.Res.kv_s_v z a3 a4 a5 a6 a7 a8 r j).trans (Cert.ProjRefIdeal.Res.v_s_at z a3 a4 a5 a6 a7 a8 r j)).symm
  exact hz ⟨128 + j.val, by omega⟩

theorem vv_w (z : FVec Ideal ProjRefIdeal.S65536x4704 .f32) (a3 a4 a5 a6 a7 a8 : FVec Ideal S64 .f32) (r : Fin 65536) (hn : FVec Ideal S512x1024 .bf16) (i : Fin 512) (w : FVec Ideal S1024x256 .bf16) (j : Fin 128) (hz : ∀ q : Fin 256, (∑ x : Fin 1024, (hn (ix2 i x) : EReal) * (w (ix2 x q) : EReal)) = z (ix2 r ⟨2376 + q.val, by omega⟩)) :
    k0_pay59 (F := Ideal) hn w (ix2 i j) = Cert.ProjRefIdeal.Res.o162 z a3 a4 a5 a6 a7 a8 (ix2 r ⟨128 + j.val, by omega⟩) := by
  refine (pay59_at hn i w j).trans ?_
  refine Eq.trans ?_ ((Cert.ProjRefIdeal.Res.kv_w_v z a3 a4 a5 a6 a7 a8 r j).trans (Cert.ProjRefIdeal.Res.v_w_at z a3 a4 a5 a6 a7 a8 r j)).symm
  exact hz ⟨128 + j.val, by omega⟩

theorem ckv (z : FVec Ideal ProjRefIdeal.S65536x4704 .f32) (a3 a4 a5 a6 a7 a8 : FVec Ideal S64 .f32) (r : Fin 65536) (hn : FVec Ideal S512x1024 .bf16) (i : Fin 512) (w : FVec Ideal S1024x256 .bf16) (j : Fin 256) (hz : (∑ x : Fin 1024, (hn (ix2 i x) : EReal) * (w (ix2 x j) : EReal)) = z (ix2 r ⟨1864 + j.val, by omega⟩)) :
    k0_pay62 (F := Ideal) hn w (ix2 i j) = Cert.ProjRefIdeal.Res.o20 z a3 a4 a5 a6 a7 a8 (ix2 r j) := by
  refine (pay62_at hn i w j).trans ?_
  refine Eq.trans ?_ (Cert.ProjRefIdeal.Res.ckv_at z a3 a4 a5 a6 a7 a8 r j).symm
  exact hz

theorem q_dsa (z : FVec Ideal ProjRefIdeal.S65536x4704 .f32) (a3 a4 a5 a6 a7 a8 : FVec Ideal S64 .f32) (r : Fin 65536) (s : FVec Ideal S128x128 .bf16) (hn : FVec Ideal S512x1024 .bf16) (i : Fin 512) (w : FVec Ideal S1024x1024 .bf16) (g : FVec Ideal S1x1024 .f32) (n : Fin 8) (l : Fin 128)
    (hz : ∀ l : Fin 128, (∑ x : Fin 1024, (hn (ix2 i x) : EReal) * (w (ix2 x ⟨n.val * 128 + l.val, by omega⟩) : EReal)) = if l.val / 64 = n.val / 4 then (z (ix2 r ⟨n.val * 64 + l.val % 64, by omega⟩) : EReal) else (0 : EReal)) (hs : Half s)
    (hg : ∀ l : Fin 128, g (ix2 0 ⟨n.val * 128 + l.val, by omega⟩) = if l.val / 64 = n.val / 4 then eighth a3 ⟨l.val % 64, by omega⟩ else (0 : EReal)) (hr : ∀ q, Real' (z (ix2 r q))) :
    k0_pay25 (F := Ideal) s (k0_pay8 hn w) (k0_pay9 g) (k0_pay12 (k0_pay9 g) (k0_pay10 hn w) (k0_pay11 s hn w)) (k0_pay13 s (k0_pay8 hn w) (k0_pay9 g)) (k0_pay14 s (k0_pay8 hn w) (k0_pay9 g)) (k0_pay20 s (k0_pay9 g) (k0_pay15 (k0_pay8 hn w)) (k0_pay18 (k0_pay8 hn w)) (k0_pay19 s (k0_pay8 hn w))) (k0_pay21 s (k0_pay8 hn w) (k0_pay9 g)) (k0_pay22 s (k0_pay8 hn w) (k0_pay9 g)) (k0_pay23 (k0_pay8 hn w)) (k0_pay24 (k0_pay8 hn w)) (ix2 i ⟨n.val * 128 + l.val, by omega⟩) = Cert.ProjRefIdeal.Res.o77 z a3 a4 a5 a6 a7 a8 (ix2 r ⟨n.val * 128 + l.val, by omega⟩) := by
  refine (pay25_at s hn i w g l n).trans ?_
  refine Eq.trans ?_ (Cert.ProjRefIdeal.Res.q_dsa_at z a3 a4 a5 a6 a7 a8 r n l).symm
  by_cases e : l.val / 64 = n.val / 4
  · refine Eq.trans ?_ (if_pos e).symm
    refine Eq.trans ?_ (headNorm_scale _ _ _ _)
    refine laneNorm_at _ (fun y => ?_) _ hs _ l _ _ (fun d => ?_) (fun d => ?_)
    · rw [hz y]
      split
      · exact hr _
      · exact Real'.zero
    · refine (hz _).trans ((if_pos (by simp only []; omega)).trans ?_)
      refine congrArg (fun q : Fin 4704 => (z (ix2 r q) : EReal)) (Fin.ext ?_)
      simp only []; omega
    · refine (hg _).trans ((if_pos (by simp only []; omega)).trans ?_)
      refine congrArg (fun q : Fin 64 => eighth a3 q) (Fin.ext ?_)
      simp only []; omega
  · refine Eq.trans ?_ (if_neg e).symm
    exact laneNorm_zero _ _ _ _ ((hz l).trans (if_neg e))

theorem q_nsa (z : FVec Ideal ProjRefIdeal.S65536x4704 .f32) (a3 a4 a5 a6 a7 a8 : FVec Ideal S64 .f32) (r : Fin 65536) (s : FVec Ideal S128x128 .bf16) (hn : FVec Ideal S512x1024 .bf16) (i : Fin 512) (w : FVec Ideal S1024x1024 .bf16) (g : FVec Ideal S1x1024 .f32) (n : Fin 8) (l : Fin 128)
    (hz : ∀ l : Fin 128, (∑ x : Fin 1024, (hn (ix2 i x) : EReal) * (w (ix2 x ⟨n.val * 128 + l.val, by omega⟩) : EReal)) = if l.val / 64 = n.val / 4 then (z (ix2 r ⟨1352 + (n.val * 64 + l.val % 64), by omega⟩) : EReal) else (0 : EReal)) (hs : Half s)
    (hg : ∀ l : Fin 128, g (ix2 0 ⟨n.val * 128 + l.val, by omega⟩) = if l.val / 64 = n.val / 4 then eighth a6 ⟨l.val % 64, by omega⟩ else (0 : EReal)) (hr : ∀ q, Real' (z (ix2 r q))) :
    k0_pay46 (F := Ideal) s (k0_pay29 g) (k0_pay30 s hn w g) (k0_pay33 (k0_pay31 s hn w) (k0_pay32 g)) (k0_pay34 s (k0_pay28 hn w) (k0_pay29 g)) (k0_pay35 s (k0_pay28 hn w) (k0_pay29 g)) (k0_pay38 (k0_pay29 g) (k0_pay36 (k0_pay28 hn w)) (k0_pay37 s (k0_pay28 hn w))) (k0_pay39 s (k0_pay28 hn w) (k0_pay29 g)) (k0_pay40 s (k0_pay28 hn w) (k0_pay29 g)) (k0_pay41 (k0_pay28 hn w)) (k0_pay44 (k0_pay28 hn w)) (k0_pay45 s (k0_pay28 hn w)) (ix2 i ⟨n.val * 128 + l.val, by omega⟩) = Cert.ProjRefIdeal.Res.o104 z a3 a4 a5 a6 a7 a8 (ix2 r ⟨n.val * 128 + l.val, by omega⟩) := by
  refine (pay46_at s hn i w g l n).trans ?_
  refine Eq.trans ?_ (Cert.ProjRefIdeal.Res.q_nsa_at z a3 a4 a5 a6 a7 a8 r n l).symm
  by_cases e : l.val / 64 = n.val / 4
  · refine Eq.trans ?_ (if_pos e).symm
    refine Eq.trans ?_ (headNorm_scale _ _ _ _)
    refine laneNorm_at _ (fun y => ?_) _ hs _ l _ _ (fun d => ?_) (fun d => ?_)
    · rw [hz y]
      split
      · exact hr _
      · exact Real'.zero
    · refine (hz _).trans ((if_pos (by simp only []; omega)).trans ?_)
      refine congrArg (fun q : Fin 4704 => (z (ix2 r q) : EReal)) (Fin.ext ?_)
      simp only []; omega
    · refine (hg _).trans ((if_pos (by simp only []; omega)).trans ?_)
      refine congrArg (fun q : Fin 64 => eighth a6 q) (Fin.ext ?_)
      simp only []; omega
  · refine Eq.trans ?_ (if_neg e).symm
    exact laneNorm_zero _ _ _ _ ((hz l).trans (if_neg e))

end Cert.ProjIdeal.Rows

end
-- ==== Proof.ProjBlk.lean ====
/- The blocks the call reads, element by element. -/
module

public import proofs.«01_k».proof.Proof.Gen.ProjIdeal.Frame
public import proofs.«01_k».proof.Proof.ProjW
public import proofs.«01_k».proof.Proof.ProjEq
public import Idealize.ShloMosaic.Lib.StableHlo.ReadAt
public import Idealize.ShloMosaic.Lib.Pipeline.ValueKit

@[expose] public section

set_option maxRecDepth 16384

noncomputable section

open Idealize.ShloMosaic Idealize.ShloMosaic.TcCoe Idealize.SL.Sem

namespace Cert.ProjIdeal.Rows

open Cert.ProjIdeal Cert.ProjIdeal.Gen

variable (m : (ℓ : Loc nD τ sig) → Buf (Elt Ideal) ℓ)

theorem idx_val : ∀ t : Fin cfg0.N, win0_0.index t = ![t.val, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0] :=
  (by decide +kernel : ∀ t : Fin grid0.N, _)

theorem idx8_val : ∀ t : Fin cfg0.N, win0_8.index t = ![t.val, 0] :=
  (by decide +kernel : ∀ t : Fin grid0.N, _)

theorem idx9_val : ∀ t : Fin cfg0.N, win0_9.index t = ![t.val, 0] :=
  (by decide +kernel : ∀ t : Fin grid0.N, _)

theorem idx10_val : ∀ t : Fin cfg0.N, win0_10.index t = ![t.val, 0] :=
  (by decide +kernel : ∀ t : Fin grid0.N, _)

theorem idx11_val : ∀ t : Fin cfg0.N, win0_11.index t = ![t.val, 0] :=
  (by decide +kernel : ∀ t : Fin grid0.N, _)

theorem idx12_val : ∀ t : Fin cfg0.N, win0_12.index t = ![t.val, 0] :=
  (by decide +kernel : ∀ t : Fin grid0.N, _)

theorem idx13_val : ∀ t : Fin cfg0.N, win0_13.index t = ![t.val, 0] :=
  (by decide +kernel : ∀ t : Fin grid0.N, _)

theorem idx14_val : ∀ t : Fin cfg0.N, win0_14.index t = ![t.val, 0] :=
  (by decide +kernel : ∀ t : Fin grid0.N, _)

theorem idx15_val : ∀ t : Fin cfg0.N, win0_15.index t = ![t.val, 0] :=
  (by decide +kernel : ∀ t : Fin grid0.N, _)

theorem idx16_val : ∀ t : Fin cfg0.N, win0_16.index t = ![t.val, 0] :=
  (by decide +kernel : ∀ t : Fin grid0.N, _)

theorem idx17_val : ∀ t : Fin cfg0.N, win0_17.index t = ![t.val, 0] :=
  (by decide +kernel : ∀ t : Fin grid0.N, _)

theorem idx18_val : ∀ t : Fin cfg0.N, win0_18.index t = ![t.val, 0] :=
  (by decide +kernel : ∀ t : Fin grid0.N, _)

theorem idx19_val : ∀ t : Fin cfg0.N, win0_19.index t = ![t.val, 0] :=
  (by decide +kernel : ∀ t : Fin grid0.N, _)

theorem idx20_val : ∀ t : Fin cfg0.N, win0_20.index t = ![t.val, 0] :=
  (by decide +kernel : ∀ t : Fin grid0.N, _)

theorem idx21_val : ∀ t : Fin cfg0.N, win0_21.index t = ![t.val, 0] :=
  (by decide +kernel : ∀ t : Fin grid0.N, _)

theorem idx22_val : ∀ t : Fin cfg0.N, win0_22.index t = ![t.val, 0] :=
  (by decide +kernel : ∀ t : Fin grid0.N, _)

theorem idx23_val : ∀ t : Fin cfg0.N, win0_23.index t = ![t.val, 0] :=
  (by decide +kernel : ∀ t : Fin grid0.N, _)

theorem idx24_val : ∀ t : Fin cfg0.N, win0_24.index t = ![t.val, 0] :=
  (by decide +kernel : ∀ t : Fin grid0.N, _)

theorem idx25_val : ∀ t : Fin cfg0.N, win0_25.index t = ![t.val, 0] :=
  (by decide +kernel : ∀ t : Fin grid0.N, _)

theorem idx26_val : ∀ t : Fin cfg0.N, win0_26.index t = ![t.val, 0] :=
  (by decide +kernel : ∀ t : Fin grid0.N, _)

/-- The row of the whole array that row `i` of point `t`'s block is. -/
def row (t : Fin cfg0.N) (i : Fin 512) : Fin 65536 := ⟨t.val * 512 + i.val, by have := t.isLt; have : cfg0.N = 128 := rfl; omega⟩

theorem emb8_at (t : Fin cfg0.N) (i : Fin 512) (j : Fin 1024) :
    ((cfg0.win 8).blk t).view.emb (ix2 i j : S512x1024.Idx) = (ix2 (row t i) j : S65536x1024.Idx) := by
  blk_ext [row, idx8_val t]

theorem emb9_at (t : Fin cfg0.N) (i : Fin 512) (j : Fin 1024) :
    ((cfg0.win 9).blk t).view.emb (ix2 i j : S512x1024.Idx) = (ix2 (row t i) j : S65536x1024.Idx) := by
  blk_ext [row, idx9_val t]

theorem emb10_at (t : Fin cfg0.N) (i : Fin 512) (j : Fin 1024) :
    ((cfg0.win 10).blk t).view.emb (ix2 i j : S512x1024.Idx) = (ix2 (row t i) j : S65536x1024.Idx) := by
  blk_ext [row, idx10_val t]

theorem emb11_at (t : Fin cfg0.N) (i : Fin 512) (j : Fin 256) :
    ((cfg0.win 11).blk t).view.emb (ix2 i j : S512x256.Idx) = (ix2 (row t i) j : S65536x256.Idx) := by
  blk_ext [row, idx11_val t]

theorem emb12_at (t : Fin cfg0.N) (i : Fin 512) (j : Fin 128) :
    ((cfg0.win 12).blk t).view.emb (ix2 i j : S512x128.Idx) = (ix2 (row t i) j : S65536x128.Idx) := by
  blk_ext [row, idx12_val t]

theorem emb13_at (t : Fin cfg0.N) (i : Fin 512) (j : Fin 128) :
    ((cfg0.win 13).blk t).view.emb (ix2 i j : S512x128.Idx) = (ix2 (row t i) j : S65536x128.Idx) := by
  blk_ext [row, idx13_val t]

theorem emb14_at (t : Fin cfg0.N) (i : Fin 512) (j : Fin 256) :
    ((cfg0.win 14).blk t).view.emb (ix2 i j : S512x256.Idx) = (ix2 (row t i) j : S65536x256.Idx) := by
  blk_ext [row, idx14_val t]

theorem emb15_at (t : Fin cfg0.N) (i : Fin 512) (j : Fin 256) :
    ((cfg0.win 15).blk t).view.emb (ix2 i j : S512x256.Idx) = (ix2 (row t i) j : S65536x256.Idx) := by
  blk_ext [row, idx15_val t]

theorem emb16_at (t : Fin cfg0.N) (i : Fin 512) (j : Fin 128) :
    ((cfg0.win 16).blk t).view.emb (ix2 i j : S512x128.Idx) = (ix2 (row t i) j : S65536x128.Idx) := by
  blk_ext [row, idx16_val t]

theorem emb17_at (t : Fin cfg0.N) (i : Fin 512) (j : Fin 128) :
    ((cfg0.win 17).blk t).view.emb (ix2 i j : S512x128.Idx) = (ix2 (row t i) j : S65536x128.Idx) := by
  blk_ext [row, idx17_val t]

theorem emb18_at (t : Fin cfg0.N) (i : Fin 512) (j : Fin 256) :
    ((cfg0.win 18).blk t).view.emb (ix2 i j : S512x256.Idx) = (ix2 (row t i) j : S65536x256.Idx) := by
  blk_ext [row, idx18_val t]

theorem emb19_at (t : Fin cfg0.N) (i : Fin 512) (j : Fin 128) :
    ((cfg0.win 19).blk t).view.emb (ix2 i j : S512x128.Idx) = (ix2 (row t i) j : S65536x128.Idx) := by
  blk_ext [row, idx19_val t]

theorem emb20_at (t : Fin cfg0.N) (i : Fin 512) (j : Fin 128) :
    ((cfg0.win 20).blk t).view.emb (ix2 i j : S512x128.Idx) = (ix2 (row t i) j : S65536x128.Idx) := by
  blk_ext [row, idx20_val t]

theorem emb21_at (t : Fin cfg0.N) (i : Fin 512) (j : Fin 1024) :
    ((cfg0.win 21).blk t).view.emb (ix2 i j : S512x1024.Idx) = (ix2 (row t i) j : S65536x1024.Idx) := by
  blk_ext [row, idx21_val t]

theorem emb22_at (t : Fin cfg0.N) (i : Fin 512) (j : Fin 1024) :
    ((cfg0.win 22).blk t).view.emb (ix2 i j : S512x1024.Idx) = (ix2 (row t i) j : S65536x1024.Idx) := by
  blk_ext [row, idx22_val t]

theorem emb23_at (t : Fin cfg0.N) (i : Fin 512) (j : Fin 64) :
    ((cfg0.win 23).blk t).view.emb (ix2 i j : S512x64.Idx) = (ix2 (row t i) j : S65536x64.Idx) := by
  blk_ext [row, idx23_val t]

theorem emb24_at (t : Fin cfg0.N) (i : Fin 512) (j : Fin 128) :
    ((cfg0.win 24).blk t).view.emb (ix2 i j : S512x128.Idx) = (ix2 (row t i) j : S65536x128.Idx) := by
  blk_ext [row, idx24_val t]

theorem emb25_at (t : Fin cfg0.N) (i : Fin 512) (j : Fin 128) :
    ((cfg0.win 25).blk t).view.emb (ix2 i j : S512x128.Idx) = (ix2 (row t i) j : S65536x128.Idx) := by
  blk_ext [row, idx25_val t]

theorem emb26_at (t : Fin cfg0.N) (i : Fin 512) (j : Fin 128) :
    ((cfg0.win 26).blk t).view.emb (ix2 i j : S512x128.Idx) = (ix2 (row t i) j : S65536x128.Idx) := by
  blk_ext [row, idx26_val t]

theorem bx_at (c : Dev nD) (t : Fin cfg0.N) (i : Fin 512) (k : Fin 1024) : (iblk m c 0 t : FVec Ideal S512x1024 .f32) (ix2 i k)
    = (m ((c : Thread nD τ).loc main_arg0) : FVec Ideal S65536x1024 .f32) (ix2 (row t i) k) := by
  rw [← V_main_arg0 m c]
  blk_ext [iblk, row, idx_val t]

theorem bg_at (c : Dev nD) (t : Fin cfg0.N) (k : Fin 1024) : (iblk m c 1 t : FVec Ideal S1x1024 .f32) (ix2 0 k)
    = (m ((c : Thread nD τ).loc main_arg1) : FVec Ideal S1024 .f32) (ix1 k) := by
  rw [← g_at m c]
  blk_ext [iblk, idx_val t]

theorem bgqd_at (c : Dev nD) (t : Fin cfg0.N) (l : Fin 1024) : (iblk m c 3 t : FVec Ideal S1x1024 .f32) (ix2 0 l)
    = (V m c main_v65 : FVec Ideal S1x1024 .f32) (ix2 0 l) := by
  blk_ext [iblk, idx_val t]

theorem bgqn_at (c : Dev nD) (t : Fin cfg0.N) (l : Fin 1024) : (iblk m c 4 t : FVec Ideal S1x1024 .f32) (ix2 0 l)
    = (V m c main_v84 : FVec Ideal S1x1024 .f32) (ix2 0 l) := by
  blk_ext [iblk, idx_val t]

theorem bgk_at (c : Dev nD) (t : Fin cfg0.N) (l : Fin 384) : (iblk m c 5 t : FVec Ideal S1x384 .f32) (ix2 0 l)
    = (V m c main_v95 : FVec Ideal S1x384 .f32) (ix2 0 l) := by
  blk_ext [iblk, idx_val t]

theorem bgik_at (c : Dev nD) (t : Fin cfg0.N) (l : Fin 128) : (iblk m c 6 t : FVec Ideal S1x128 .f32) (ix2 0 l)
    = (V m c main_v98 : FVec Ideal S1x128 .f32) (ix2 0 l) := by
  blk_ext [iblk, idx_val t]

theorem bw_at (c : Dev nD) (t : Fin cfg0.N) (k : Fin 1024) (q : Fin 6400) : (iblk m c 2 t : FVec Ideal S1024x6400 .bf16) (ix2 k q)
    = (V m c main_v46 : FVec Ideal S1024x6400 .bf16) (ix2 k q) := by
  blk_ext [iblk, idx_val t]

theorem bs_at (c : Dev nD) (t : Fin cfg0.N) : Half (iblk m c 7 t : FVec Ideal S128x128 .bf16) := by
  intro k l
  refine Eq.trans ?_ (s_at m c k l)
  blk_ext [iblk, idx_val t]

theorem hn_at (c : Dev nD) (t : Fin cfg0.N) (i : Fin 512) (k : Fin 1024) :
    k0_pay7 (F := Ideal) (iblk m c 0 t) (iblk m c 1 t) (ix2 i k) = Cert.ProjRefIdeal.Res.nrow (m ((c : Thread nD τ).loc main_arg0) : FVec Ideal S65536x1024 .f32) (m ((c : Thread nD τ).loc main_arg1) : FVec Ideal S1024 .f32) (row t i) k :=
  pay7_at _ _ (row t i) _ _ i k (fun y => bx_at m c t i y) (fun y => bg_at m c t y)

/-- The projected rows the reference starts from. -/
def Z (c : Dev nD) : FVec Ideal ProjRefIdeal.S65536x4704 .f32 := Cert.ProjRefIdeal.Res.z13 (m ((c : Thread nD τ).loc main_arg0)) (m ((c : Thread nD τ).loc main_arg1)) (m ((c : Thread nD τ).loc main_arg2))

theorem Z_real (c : Dev nD) (h0 : ∀ z, HeadNorm.Real' ((m ((c : Thread nD τ).loc main_arg0) : FVec Ideal S65536x1024 .f32) z)) (h1 : ∀ z, HeadNorm.Real' ((m ((c : Thread nD τ).loc main_arg1) : FVec Ideal S1024 .f32) z)) (h2 : ∀ z, HeadNorm.Real' ((m ((c : Thread nD τ).loc main_arg2) : FVec Ideal S1024x4704 .f32) z))
    (r : Fin 65536) (q : Fin 4704) : HeadNorm.Real' (Z m c (ix2 r q)) := Cert.ProjRefIdeal.Res.z_real _ _ _ h0 h1 h2 r q

end Cert.ProjIdeal.Rows

end
-- ==== Proof.ProjOutA.lean ====
/- What the call leaves in its results is the reference's results. -/
module

public import proofs.«01_k».proof.Proof.Gen.ProjIdeal.Frame
public import proofs.«01_k».proof.Proof.ProjBlk
public import Idealize.ShloMosaic.Lib.StableHlo.ReadAt
public import Idealize.ShloMosaic.Lib.Pipeline.ValueKit

@[expose] public section

set_option maxRecDepth 16384

noncomputable section

open Idealize.ShloMosaic Idealize.ShloMosaic.TcCoe Idealize.SL.Sem

namespace Cert.ProjIdeal.Rows

open Cert.ProjIdeal Cert.ProjIdeal.Gen

variable (m : (ℓ : Loc nD τ sig) → Buf (Elt Ideal) ℓ)

theorem final8 (c : Dev nD) (h0 : ∀ z, HeadNorm.Real' ((m ((c : Thread nD τ).loc main_arg0) : FVec Ideal S65536x1024 .f32) z)) (h1 : ∀ z, HeadNorm.Real' ((m ((c : Thread nD τ).loc main_arg1) : FVec Ideal S1024 .f32) z)) (h2 : ∀ z, HeadNorm.Real' ((m ((c : Thread nD τ).loc main_arg2) : FVec Ideal S1024x4704 .f32) z)) :
    (dats m 0 c).arrAt 8 (cfgs 0).N = Cert.ProjRefIdeal.Res.o77 (Z m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 8 _ (by decide +kernel) fun t hf y => ?_
  blk_simp; rw [after0_8]
  (try unfold outsAt0); frame_out
  obtain ⟨i, j, rfl⟩ : ∃ (i : Fin 512) (j : Fin 1024), y = (ix2 i j : S512x1024.Idx) := ⟨y 0, y 1, eq_ix2 y⟩
  rw [emb8_at]
  obtain ⟨n, l, rfl⟩ : ∃ (n : Fin 8) (l : Fin 128), j = ⟨n.val * 128 + l.val, by omega⟩ :=
    ⟨⟨j.val / 128, by omega⟩, ⟨j.val % 128, by omega⟩, Fin.ext (by simp only []; omega)⟩
  refine q_dsa (Z m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (row t i) _ _ i _ _ n l (fun l => mm_if (m ((c : Thread nD τ).loc main_arg0)) (m ((c : Thread nD τ).loc main_arg1)) (m ((c : Thread nD τ).loc main_arg2)) (row t i) _ _ _ _ (fun x => hn_at m c t i x) (fun x => ?_)) (bs_at m c t) (fun l => (bgqd_at m c t _).trans (gqd_at m c n l)) (fun q => Z_real m c h0 h1 h2 (row t i) q)
  · refine Eq.trans ?_ ((bw_at m c t x _).trans (wqd_at m c x n l))
    pointwise

theorem final9 (c : Dev nD)  :
    (dats m 0 c).arrAt 9 (cfgs 0).N = Cert.ProjRefIdeal.Res.o32 (Z m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 9 _ (by decide +kernel) fun t hf y => ?_
  blk_simp; rw [after0_9]
  (try unfold outsAt0); frame_out
  obtain ⟨i, j, rfl⟩ : ∃ (i : Fin 512) (j : Fin 1024), y = (ix2 i j : S512x1024.Idx) := ⟨y 0, y 1, eq_ix2 y⟩
  rw [emb9_at]
  obtain ⟨n, l, rfl⟩ : ∃ (n : Fin 8) (l : Fin 128), j = ⟨n.val * 128 + l.val, by omega⟩ :=
    ⟨⟨j.val / 128, by omega⟩, ⟨j.val % 128, by omega⟩, Fin.ext (by simp only []; omega)⟩
  refine iq (Z m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (row t i) _ i _ n l (mm_dif (m ((c : Thread nD τ).loc main_arg0)) (m ((c : Thread nD τ).loc main_arg1)) (m ((c : Thread nD τ).loc main_arg2)) (row t i) _ _ _ _ (fun x => hn_at m c t i x) (fun x => ?_))
  · refine Eq.trans ?_ ((bw_at m c t x _).trans (wiq_at m c x n l))
    pointwise

theorem final10 (c : Dev nD) (h0 : ∀ z, HeadNorm.Real' ((m ((c : Thread nD τ).loc main_arg0) : FVec Ideal S65536x1024 .f32) z)) (h1 : ∀ z, HeadNorm.Real' ((m ((c : Thread nD τ).loc main_arg1) : FVec Ideal S1024 .f32) z)) (h2 : ∀ z, HeadNorm.Real' ((m ((c : Thread nD τ).loc main_arg2) : FVec Ideal S1024x4704 .f32) z)) :
    (dats m 0 c).arrAt 10 (cfgs 0).N = Cert.ProjRefIdeal.Res.o104 (Z m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 10 _ (by decide +kernel) fun t hf y => ?_
  blk_simp; rw [after0_10]
  (try unfold outsAt0); frame_out
  obtain ⟨i, j, rfl⟩ : ∃ (i : Fin 512) (j : Fin 1024), y = (ix2 i j : S512x1024.Idx) := ⟨y 0, y 1, eq_ix2 y⟩
  rw [emb10_at]
  obtain ⟨n, l, rfl⟩ : ∃ (n : Fin 8) (l : Fin 128), j = ⟨n.val * 128 + l.val, by omega⟩ :=
    ⟨⟨j.val / 128, by omega⟩, ⟨j.val % 128, by omega⟩, Fin.ext (by simp only []; omega)⟩
  refine q_nsa (Z m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (row t i) _ _ i _ _ n l (fun l => mm_if (m ((c : Thread nD τ).loc main_arg0)) (m ((c : Thread nD τ).loc main_arg1)) (m ((c : Thread nD τ).loc main_arg2)) (row t i) _ _ _ _ (fun x => hn_at m c t i x) (fun x => ?_)) (bs_at m c t) (fun l => (bgqn_at m c t _).trans (gqn_at m c n l)) (fun q => Z_real m c h0 h1 h2 (row t i) q)
  · refine Eq.trans ?_ ((bw_at m c t x _).trans (wqn_at m c x n l))
    pointwise

end Cert.ProjIdeal.Rows

end
-- ==== Proof.ProjOutB.lean ====
/- What the call leaves in its results is the reference's results. -/
module

public import proofs.«01_k».proof.Proof.Gen.ProjIdeal.Frame
public import proofs.«01_k».proof.Proof.ProjBlk
public import Idealize.ShloMosaic.Lib.StableHlo.ReadAt
public import Idealize.ShloMosaic.Lib.Pipeline.ValueKit

@[expose] public section

set_option maxRecDepth 16384

noncomputable section

open Idealize.ShloMosaic Idealize.ShloMosaic.TcCoe Idealize.SL.Sem

namespace Cert.ProjIdeal.Rows

open Cert.ProjIdeal Cert.ProjIdeal.Gen

variable (m : (ℓ : Loc nD τ sig) → Buf (Elt Ideal) ℓ)

theorem final11 (c : Dev nD) (h0 : ∀ z, HeadNorm.Real' ((m ((c : Thread nD τ).loc main_arg0) : FVec Ideal S65536x1024 .f32) z)) (h1 : ∀ z, HeadNorm.Real' ((m ((c : Thread nD τ).loc main_arg1) : FVec Ideal S1024 .f32) z)) (h2 : ∀ z, HeadNorm.Real' ((m ((c : Thread nD τ).loc main_arg2) : FVec Ideal S1024x4704 .f32) z)) :
    (dats m 0 c).arrAt 11 (cfgs 0).N = Cert.ProjRefIdeal.Res.o122 (Z m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 11 _ (by decide +kernel) fun t hf y => ?_
  rename' h0 => r0, h1 => r1, h2 => r2
  blk_simp; rw [after0_11]
  (try unfold outsAt0); frame_out
  obtain ⟨i, j, rfl⟩ : ∃ (i : Fin 512) (j : Fin 256), y = (ix2 i j : S512x256.Idx) := ⟨y 0, y 1, eq_ix2 y⟩
  rw [emb11_at]
  canon_tiles x h
  case piece0 =>
    obtain ⟨i', j', rfl⟩ : ∃ (i' : Fin 512) (j' : Fin 128), x = (ix2 i' j' : S512x128.Idx) := ⟨x 0, x 1, eq_ix2 x⟩
    obtain rfl : i = i' := Fin.ext (h0.trans (by simp))
    have hj : j = ⟨128 + j'.val, Nat.add_lt_add_left j'.isLt 128⟩ := Fin.ext (h1.trans (by simp))
    subst hj
    refine vv_d (Z m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (row t i) _ i _ j' (fun q => mm_at (m ((c : Thread nD τ).loc main_arg0)) (m ((c : Thread nD τ).loc main_arg1)) (m ((c : Thread nD τ).loc main_arg2)) (row t i) _ _ _ (fun x => hn_at m c t i x) (fun x => ?_))
    · refine Eq.trans ?_ ((bw_at m c t x _).trans (wdkv_at m c x q))
      pointwise
  case piece1 =>
    obtain ⟨i', j', rfl⟩ : ∃ (i' : Fin 512) (j' : Fin 128), x = (ix2 i' j' : S512x128.Idx) := ⟨x 0, x 1, eq_ix2 x⟩
    obtain rfl : i = i' := Fin.ext (h0.trans (by simp))
    have hj : j = ⟨j'.val, Nat.lt_trans j'.isLt (by decide)⟩ := Fin.ext (h1.trans (by simp))
    subst hj
    refine kv_d (Z m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (row t i) _ _ i _ _ j' (fun q => mm_at (m ((c : Thread nD τ).loc main_arg0)) (m ((c : Thread nD τ).loc main_arg1)) (m ((c : Thread nD τ).loc main_arg2)) (row t i) _ _ _ (fun x => hn_at m c t i x) (fun x => ?_)) (bs_at m c t) (fun l => ?_) (fun q => Z_real m c r0 r1 r2 (row t i) q)
    · refine Eq.trans ?_ ((bw_at m c t x _).trans (wdkv_at m c x q))
      pointwise
    · refine Eq.trans ?_ ((bgk_at m c t _).trans (gdk_at m c l))
      pointwise

theorem final12 (c : Dev nD) (h0 : ∀ z, HeadNorm.Real' ((m ((c : Thread nD τ).loc main_arg0) : FVec Ideal S65536x1024 .f32) z)) (h1 : ∀ z, HeadNorm.Real' ((m ((c : Thread nD τ).loc main_arg1) : FVec Ideal S1024 .f32) z)) (h2 : ∀ z, HeadNorm.Real' ((m ((c : Thread nD τ).loc main_arg2) : FVec Ideal S1024x4704 .f32) z)) :
    (dats m 0 c).arrAt 12 (cfgs 0).N = Cert.ProjRefIdeal.Res.o123 (Z m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 12 _ (by decide +kernel) fun t hf y => ?_
  blk_simp; rw [after0_12]
  (try unfold outsAt0); frame_out
  obtain ⟨i, j, rfl⟩ : ∃ (i : Fin 512) (j : Fin 128), y = (ix2 i j : S512x128.Idx) := ⟨y 0, y 1, eq_ix2 y⟩
  rw [emb12_at]
  refine kb_d (Z m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (row t i) _ _ i _ _ j (fun q => mm_at (m ((c : Thread nD τ).loc main_arg0)) (m ((c : Thread nD τ).loc main_arg1)) (m ((c : Thread nD τ).loc main_arg2)) (row t i) _ _ _ (fun x => hn_at m c t i x) (fun x => ?_)) (bs_at m c t) (fun l => ?_) (fun q => Z_real m c h0 h1 h2 (row t i) q)
  · refine Eq.trans ?_ ((bw_at m c t x _).trans (wdkv_at m c x q))
    pointwise
  · refine Eq.trans ?_ ((bgk_at m c t _).trans (gdk_at m c l))
    pointwise

theorem final13 (c : Dev nD)  :
    (dats m 0 c).arrAt 13 (cfgs 0).N = Cert.ProjRefIdeal.Res.o124 (Z m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 13 _ (by decide +kernel) fun t hf y => ?_
  blk_simp; rw [after0_13]
  (try unfold outsAt0); frame_out
  obtain ⟨i, j, rfl⟩ : ∃ (i : Fin 512) (j : Fin 128), y = (ix2 i j : S512x128.Idx) := ⟨y 0, y 1, eq_ix2 y⟩
  rw [emb13_at]
  refine vb_d (Z m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (row t i) _ i _ j (fun q => mm_at (m ((c : Thread nD τ).loc main_arg0)) (m ((c : Thread nD τ).loc main_arg1)) (m ((c : Thread nD τ).loc main_arg2)) (row t i) _ _ _ (fun x => hn_at m c t i x) (fun x => ?_))
  · refine Eq.trans ?_ ((bw_at m c t x _).trans (wdkv_at m c x q))
    pointwise

theorem final14 (c : Dev nD)  :
    (dats m 0 c).arrAt 14 (cfgs 0).N = Cert.ProjRefIdeal.Res.o20 (Z m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 14 _ (by decide +kernel) fun t hf y => ?_
  blk_simp; rw [after0_14]
  (try unfold outsAt0); frame_out
  obtain ⟨i, j, rfl⟩ : ∃ (i : Fin 512) (j : Fin 256), y = (ix2 i j : S512x256.Idx) := ⟨y 0, y 1, eq_ix2 y⟩
  rw [emb14_at]
  refine ckv (Z m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (row t i) _ i _ j (mm_at (m ((c : Thread nD τ).loc main_arg0)) (m ((c : Thread nD τ).loc main_arg1)) (m ((c : Thread nD τ).loc main_arg2)) (row t i) _ _ _ (fun x => hn_at m c t i x) (fun x => ?_))
  · refine Eq.trans ?_ ((bw_at m c t x _).trans (wckv_at m c x j))
    pointwise

theorem final15 (c : Dev nD) (h0 : ∀ z, HeadNorm.Real' ((m ((c : Thread nD τ).loc main_arg0) : FVec Ideal S65536x1024 .f32) z)) (h1 : ∀ z, HeadNorm.Real' ((m ((c : Thread nD τ).loc main_arg1) : FVec Ideal S1024 .f32) z)) (h2 : ∀ z, HeadNorm.Real' ((m ((c : Thread nD τ).loc main_arg2) : FVec Ideal S1024x4704 .f32) z)) :
    (dats m 0 c).arrAt 15 (cfgs 0).N = Cert.ProjRefIdeal.Res.o142 (Z m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 15 _ (by decide +kernel) fun t hf y => ?_
  rename' h0 => r0, h1 => r1, h2 => r2
  blk_simp; rw [after0_15]
  (try unfold outsAt0); frame_out
  obtain ⟨i, j, rfl⟩ : ∃ (i : Fin 512) (j : Fin 256), y = (ix2 i j : S512x256.Idx) := ⟨y 0, y 1, eq_ix2 y⟩
  rw [emb15_at]
  canon_tiles x h
  case piece0 =>
    obtain ⟨i', j', rfl⟩ : ∃ (i' : Fin 512) (j' : Fin 128), x = (ix2 i' j' : S512x128.Idx) := ⟨x 0, x 1, eq_ix2 x⟩
    obtain rfl : i = i' := Fin.ext (h0.trans (by simp))
    have hj : j = ⟨128 + j'.val, Nat.add_lt_add_left j'.isLt 128⟩ := Fin.ext (h1.trans (by simp))
    subst hj
    refine vv_s (Z m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (row t i) _ i _ j' (fun q => mm_at (m ((c : Thread nD τ).loc main_arg0)) (m ((c : Thread nD τ).loc main_arg1)) (m ((c : Thread nD τ).loc main_arg2)) (row t i) _ _ _ (fun x => hn_at m c t i x) (fun x => ?_))
    · refine Eq.trans ?_ ((bw_at m c t x _).trans (wskv_at m c x q))
      pointwise
  case piece1 =>
    obtain ⟨i', j', rfl⟩ : ∃ (i' : Fin 512) (j' : Fin 128), x = (ix2 i' j' : S512x128.Idx) := ⟨x 0, x 1, eq_ix2 x⟩
    obtain rfl : i = i' := Fin.ext (h0.trans (by simp))
    have hj : j = ⟨j'.val, Nat.lt_trans j'.isLt (by decide)⟩ := Fin.ext (h1.trans (by simp))
    subst hj
    refine kv_s (Z m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (row t i) _ _ i _ _ j' (fun q => mm_at (m ((c : Thread nD τ).loc main_arg0)) (m ((c : Thread nD τ).loc main_arg1)) (m ((c : Thread nD τ).loc main_arg2)) (row t i) _ _ _ (fun x => hn_at m c t i x) (fun x => ?_)) (bs_at m c t) (fun l => ?_) (fun q => Z_real m c r0 r1 r2 (row t i) q)
    · refine Eq.trans ?_ ((bw_at m c t x _).trans (wskv_at m c x q))
      pointwise
    · refine Eq.trans ?_ ((bgk_at m c t _).trans (gsk_at m c l))
      pointwise

theorem final16 (c : Dev nD) (h0 : ∀ z, HeadNorm.Real' ((m ((c : Thread nD τ).loc main_arg0) : FVec Ideal S65536x1024 .f32) z)) (h1 : ∀ z, HeadNorm.Real' ((m ((c : Thread nD τ).loc main_arg1) : FVec Ideal S1024 .f32) z)) (h2 : ∀ z, HeadNorm.Real' ((m ((c : Thread nD τ).loc main_arg2) : FVec Ideal S1024x4704 .f32) z)) :
    (dats m 0 c).arrAt 16 (cfgs 0).N = Cert.ProjRefIdeal.Res.o143 (Z m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 16 _ (by decide +kernel) fun t hf y => ?_
  blk_simp; rw [after0_16]
  (try unfold outsAt0); frame_out
  obtain ⟨i, j, rfl⟩ : ∃ (i : Fin 512) (j : Fin 128), y = (ix2 i j : S512x128.Idx) := ⟨y 0, y 1, eq_ix2 y⟩
  rw [emb16_at]
  refine kb_s (Z m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (row t i) _ _ i _ _ j (fun q => mm_at (m ((c : Thread nD τ).loc main_arg0)) (m ((c : Thread nD τ).loc main_arg1)) (m ((c : Thread nD τ).loc main_arg2)) (row t i) _ _ _ (fun x => hn_at m c t i x) (fun x => ?_)) (bs_at m c t) (fun l => ?_) (fun q => Z_real m c h0 h1 h2 (row t i) q)
  · refine Eq.trans ?_ ((bw_at m c t x _).trans (wskv_at m c x q))
    pointwise
  · refine Eq.trans ?_ ((bgk_at m c t _).trans (gsk_at m c l))
    pointwise

end Cert.ProjIdeal.Rows

end
-- ==== Proof.ProjOutC.lean ====
/- What the call leaves in its results is the reference's results. -/
module

public import proofs.«01_k».proof.Proof.Gen.ProjIdeal.Frame
public import proofs.«01_k».proof.Proof.ProjBlk
public import Idealize.ShloMosaic.Lib.StableHlo.ReadAt
public import Idealize.ShloMosaic.Lib.Pipeline.ValueKit

@[expose] public section

set_option maxRecDepth 16384

noncomputable section

open Idealize.ShloMosaic Idealize.ShloMosaic.TcCoe Idealize.SL.Sem

namespace Cert.ProjIdeal.Rows

open Cert.ProjIdeal Cert.ProjIdeal.Gen

variable (m : (ℓ : Loc nD τ sig) → Buf (Elt Ideal) ℓ)

theorem final17 (c : Dev nD)  :
    (dats m 0 c).arrAt 17 (cfgs 0).N = Cert.ProjRefIdeal.Res.o144 (Z m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 17 _ (by decide +kernel) fun t hf y => ?_
  blk_simp; rw [after0_17]
  (try unfold outsAt0); frame_out
  obtain ⟨i, j, rfl⟩ : ∃ (i : Fin 512) (j : Fin 128), y = (ix2 i j : S512x128.Idx) := ⟨y 0, y 1, eq_ix2 y⟩
  rw [emb17_at]
  refine vb_s (Z m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (row t i) _ i _ j (fun q => mm_at (m ((c : Thread nD τ).loc main_arg0)) (m ((c : Thread nD τ).loc main_arg1)) (m ((c : Thread nD τ).loc main_arg2)) (row t i) _ _ _ (fun x => hn_at m c t i x) (fun x => ?_))
  · refine Eq.trans ?_ ((bw_at m c t x _).trans (wskv_at m c x q))
    pointwise

theorem final18 (c : Dev nD) (h0 : ∀ z, HeadNorm.Real' ((m ((c : Thread nD τ).loc main_arg0) : FVec Ideal S65536x1024 .f32) z)) (h1 : ∀ z, HeadNorm.Real' ((m ((c : Thread nD τ).loc main_arg1) : FVec Ideal S1024 .f32) z)) (h2 : ∀ z, HeadNorm.Real' ((m ((c : Thread nD τ).loc main_arg2) : FVec Ideal S1024x4704 .f32) z)) :
    (dats m 0 c).arrAt 18 (cfgs 0).N = Cert.ProjRefIdeal.Res.o162 (Z m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 18 _ (by decide +kernel) fun t hf y => ?_
  rename' h0 => r0, h1 => r1, h2 => r2
  blk_simp; rw [after0_18]
  (try unfold outsAt0); frame_out
  obtain ⟨i, j, rfl⟩ : ∃ (i : Fin 512) (j : Fin 256), y = (ix2 i j : S512x256.Idx) := ⟨y 0, y 1, eq_ix2 y⟩
  rw [emb18_at]
  canon_tiles x h
  case piece0 =>
    obtain ⟨i', j', rfl⟩ : ∃ (i' : Fin 512) (j' : Fin 128), x = (ix2 i' j' : S512x128.Idx) := ⟨x 0, x 1, eq_ix2 x⟩
    obtain rfl : i = i' := Fin.ext (h0.trans (by simp))
    have hj : j = ⟨128 + j'.val, Nat.add_lt_add_left j'.isLt 128⟩ := Fin.ext (h1.trans (by simp))
    subst hj
    refine vv_w (Z m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (row t i) _ i _ j' (fun q => mm_at (m ((c : Thread nD τ).loc main_arg0)) (m ((c : Thread nD τ).loc main_arg1)) (m ((c : Thread nD τ).loc main_arg2)) (row t i) _ _ _ (fun x => hn_at m c t i x) (fun x => ?_))
    · refine Eq.trans ?_ ((bw_at m c t x _).trans (wwkv_at m c x q))
      pointwise
  case piece1 =>
    obtain ⟨i', j', rfl⟩ : ∃ (i' : Fin 512) (j' : Fin 128), x = (ix2 i' j' : S512x128.Idx) := ⟨x 0, x 1, eq_ix2 x⟩
    obtain rfl : i = i' := Fin.ext (h0.trans (by simp))
    have hj : j = ⟨j'.val, Nat.lt_trans j'.isLt (by decide)⟩ := Fin.ext (h1.trans (by simp))
    subst hj
    refine kv_w (Z m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (row t i) _ _ i _ _ j' (fun q => mm_at (m ((c : Thread nD τ).loc main_arg0)) (m ((c : Thread nD τ).loc main_arg1)) (m ((c : Thread nD τ).loc main_arg2)) (row t i) _ _ _ (fun x => hn_at m c t i x) (fun x => ?_)) (bs_at m c t) (fun l => ?_) (fun q => Z_real m c r0 r1 r2 (row t i) q)
    · refine Eq.trans ?_ ((bw_at m c t x _).trans (wwkv_at m c x q))
      pointwise
    · refine Eq.trans ?_ ((bgk_at m c t _).trans (gwk_at m c l))
      pointwise

theorem final19 (c : Dev nD) (h0 : ∀ z, HeadNorm.Real' ((m ((c : Thread nD τ).loc main_arg0) : FVec Ideal S65536x1024 .f32) z)) (h1 : ∀ z, HeadNorm.Real' ((m ((c : Thread nD τ).loc main_arg1) : FVec Ideal S1024 .f32) z)) (h2 : ∀ z, HeadNorm.Real' ((m ((c : Thread nD τ).loc main_arg2) : FVec Ideal S1024x4704 .f32) z)) :
    (dats m 0 c).arrAt 19 (cfgs 0).N = Cert.ProjRefIdeal.Res.o163 (Z m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 19 _ (by decide +kernel) fun t hf y => ?_
  blk_simp; rw [after0_19]
  (try unfold outsAt0); frame_out
  obtain ⟨i, j, rfl⟩ : ∃ (i : Fin 512) (j : Fin 128), y = (ix2 i j : S512x128.Idx) := ⟨y 0, y 1, eq_ix2 y⟩
  rw [emb19_at]
  refine kb_w (Z m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (row t i) _ _ i _ _ j (fun q => mm_at (m ((c : Thread nD τ).loc main_arg0)) (m ((c : Thread nD τ).loc main_arg1)) (m ((c : Thread nD τ).loc main_arg2)) (row t i) _ _ _ (fun x => hn_at m c t i x) (fun x => ?_)) (bs_at m c t) (fun l => ?_) (fun q => Z_real m c h0 h1 h2 (row t i) q)
  · refine Eq.trans ?_ ((bw_at m c t x _).trans (wwkv_at m c x q))
    pointwise
  · refine Eq.trans ?_ ((bgk_at m c t _).trans (gwk_at m c l))
    pointwise

theorem final20 (c : Dev nD)  :
    (dats m 0 c).arrAt 20 (cfgs 0).N = Cert.ProjRefIdeal.Res.o164 (Z m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 20 _ (by decide +kernel) fun t hf y => ?_
  blk_simp; rw [after0_20]
  (try unfold outsAt0); frame_out
  obtain ⟨i, j, rfl⟩ : ∃ (i : Fin 512) (j : Fin 128), y = (ix2 i j : S512x128.Idx) := ⟨y 0, y 1, eq_ix2 y⟩
  rw [emb20_at]
  refine vb_w (Z m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (row t i) _ i _ j (fun q => mm_at (m ((c : Thread nD τ).loc main_arg0)) (m ((c : Thread nD τ).loc main_arg1)) (m ((c : Thread nD τ).loc main_arg2)) (row t i) _ _ _ (fun x => hn_at m c t i x) (fun x => ?_))
  · refine Eq.trans ?_ ((bw_at m c t x _).trans (wwkv_at m c x q))
    pointwise

theorem final21 (c : Dev nD)  :
    (dats m 0 c).arrAt 21 (cfgs 0).N = Cert.ProjRefIdeal.Res.o170 (Z m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 21 _ (by decide +kernel) fun t hf y => ?_
  blk_simp; rw [after0_21]
  (try unfold outsAt0); frame_out
  obtain ⟨i, j, rfl⟩ : ∃ (i : Fin 512) (j : Fin 1024), y = (ix2 i j : S512x1024.Idx) := ⟨y 0, y 1, eq_ix2 y⟩
  rw [emb21_at]
  refine ga (Z m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (row t i) _ i _ j (mm_at (m ((c : Thread nD τ).loc main_arg0)) (m ((c : Thread nD τ).loc main_arg1)) (m ((c : Thread nD τ).loc main_arg2)) (row t i) _ _ _ (fun x => hn_at m c t i x) (fun x => ?_))
  · refine Eq.trans ?_ ((bw_at m c t x _).trans (wga_at m c x j))
    pointwise

theorem final22 (c : Dev nD)  :
    (dats m 0 c).arrAt 22 (cfgs 0).N = Cert.ProjRefIdeal.Res.o176 (Z m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 22 _ (by decide +kernel) fun t hf y => ?_
  blk_simp; rw [after0_22]
  (try unfold outsAt0); frame_out
  obtain ⟨i, j, rfl⟩ : ∃ (i : Fin 512) (j : Fin 1024), y = (ix2 i j : S512x1024.Idx) := ⟨y 0, y 1, eq_ix2 y⟩
  rw [emb22_at]
  refine gb (Z m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (row t i) _ i _ j (mm_at (m ((c : Thread nD τ).loc main_arg0)) (m ((c : Thread nD τ).loc main_arg1)) (m ((c : Thread nD τ).loc main_arg2)) (row t i) _ _ _ (fun x => hn_at m c t i x) (fun x => ?_))
  · refine Eq.trans ?_ ((bw_at m c t x _).trans (wgb_at m c x j))
    pointwise

theorem final23 (c : Dev nD) (h0 : ∀ z, HeadNorm.Real' ((m ((c : Thread nD τ).loc main_arg0) : FVec Ideal S65536x1024 .f32) z)) (h1 : ∀ z, HeadNorm.Real' ((m ((c : Thread nD τ).loc main_arg1) : FVec Ideal S1024 .f32) z)) (h2 : ∀ z, HeadNorm.Real' ((m ((c : Thread nD τ).loc main_arg2) : FVec Ideal S1024x4704 .f32) z)) :
    (dats m 0 c).arrAt 23 (cfgs 0).N = Cert.ProjRefIdeal.Res.o45 (Z m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 23 _ (by decide +kernel) fun t hf y => ?_
  blk_simp; rw [after0_23]
  (try unfold outsAt0); frame_out
  obtain ⟨i, j, rfl⟩ : ∃ (i : Fin 512) (j : Fin 64), y = (ix2 i j : S512x64.Idx) := ⟨y 0, y 1, eq_ix2 y⟩
  rw [emb23_at]
  refine ik (Z m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (row t i) _ _ i _ _ j (fun q => mm_dif (m ((c : Thread nD τ).loc main_arg0)) (m ((c : Thread nD τ).loc main_arg1)) (m ((c : Thread nD τ).loc main_arg2)) (row t i) _ _ _ _ (fun x => hn_at m c t i x) (fun x => ?_)) (bs_at m c t) (fun l => (bgik_at m c t l).trans (gik_at m c l)) (fun q => Z_real m c h0 h1 h2 (row t i) q)
  · refine Eq.trans ?_ ((bw_at m c t x _).trans (wik_at m c x q))
    pointwise

theorem final24 (c : Dev nD) (h0 : ∀ z, HeadNorm.Real' ((m ((c : Thread nD τ).loc main_arg0) : FVec Ideal S65536x1024 .f32) z)) (h1 : ∀ z, HeadNorm.Real' ((m ((c : Thread nD τ).loc main_arg1) : FVec Ideal S1024 .f32) z)) (h2 : ∀ z, HeadNorm.Real' ((m ((c : Thread nD τ).loc main_arg2) : FVec Ideal S1024x4704 .f32) z)) :
    (dats m 0 c).arrAt 24 (cfgs 0).N = Cert.ProjRefIdeal.Res.o48 (Z m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 24 _ (by decide +kernel) fun t hf y => ?_
  blk_simp; rw [after0_24]
  (try unfold outsAt0); frame_out
  obtain ⟨i, j, rfl⟩ : ∃ (i : Fin 512) (j : Fin 128), y = (ix2 i j : S512x128.Idx) := ⟨y 0, y 1, eq_ix2 y⟩
  rw [emb24_at]
  refine ika (Z m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (row t i) _ _ i _ _ j (fun q => mm_dif (m ((c : Thread nD τ).loc main_arg0)) (m ((c : Thread nD τ).loc main_arg1)) (m ((c : Thread nD τ).loc main_arg2)) (row t i) _ _ _ _ (fun x => hn_at m c t i x) (fun x => ?_)) (bs_at m c t) (fun l => (bgik_at m c t l).trans (gik_at m c l)) (fun q => Z_real m c h0 h1 h2 (row t i) q)
  · refine Eq.trans ?_ ((bw_at m c t x _).trans (wik_at m c x q))
    pointwise

theorem final25 (c : Dev nD)  :
    (dats m 0 c).arrAt 25 (cfgs 0).N = Cert.ProjRefIdeal.Res.o178 (Z m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 25 _ (by decide +kernel) fun t hf y => ?_
  blk_simp; rw [after0_25]
  (try unfold outsAt0); frame_out
  obtain ⟨i, j, rfl⟩ : ∃ (i : Fin 512) (j : Fin 128), y = (ix2 i j : S512x128.Idx) := ⟨y 0, y 1, eq_ix2 y⟩
  rw [emb25_at]
  refine iw (Z m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (row t i) _ i _ j ?_
  refine (mm_misc (m ((c : Thread nD τ).loc main_arg0)) (m ((c : Thread nD τ).loc main_arg1)) (m ((c : Thread nD τ).loc main_arg2)) (row t i) _ _ j (fun x => hn_at m c t i x) (fun x => ?_))
  refine Eq.trans ?_ ((bw_at m c t x _).trans (wm_at m c x j))
  pointwise

theorem final26 (c : Dev nD)  :
    (dats m 0 c).arrAt 26 (cfgs 0).N = Cert.ProjRefIdeal.Res.o184 (Z m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 26 _ (by decide +kernel) fun t hf y => ?_
  blk_simp; rw [after0_26]
  (try unfold outsAt0); frame_out
  obtain ⟨i, j, rfl⟩ : ∃ (i : Fin 512) (j : Fin 128), y = (ix2 i j : S512x128.Idx) := ⟨y 0, y 1, eq_ix2 y⟩
  rw [emb26_at]
  refine ng (Z m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (row t i) _ i _ j ?_
  refine (mm_misc (m ((c : Thread nD τ).loc main_arg0)) (m ((c : Thread nD τ).loc main_arg1)) (m ((c : Thread nD τ).loc main_arg2)) (row t i) _ _ j (fun x => hn_at m c t i x) (fun x => ?_))
  refine Eq.trans ?_ ((bw_at m c t x _).trans (wm_at m c x j))
  pointwise

end Cert.ProjIdeal.Rows

end
-- ==== Proof.ProjClaim.lean ====
/- The claims about the projection: the three frames, and that the idealized call is the call over the extended reals, and that its results are the reference's. -/
module

public import proofs.«01_k».proof.Defs
public import proofs.«01_k».proof.Proof.Gen.Proj.Frame
public import proofs.«01_k».proof.Proof.Gen.ProjIdeal.Frame
public import proofs.«01_k».proof.Proof.Gen.ProjRefIdeal.Run
public import proofs.«01_k».proof.Proof.Gen.ProjIdeal.Value
public import Idealize.ShloMosaic.Lib.Claim
public import Idealize.ShloMosaic.Lib.ReduceAll
public import proofs.«01_k».proof.Proof.Gen.Pre_finite_hidden
public import proofs.«01_k».proof.Proof.ProjOutA
public import proofs.«01_k».proof.Proof.ProjOutB
public import proofs.«01_k».proof.Proof.ProjOutC

@[expose] public section

set_option maxRecDepth 16384

noncomputable section

open Idealize.ShloMosaic Idealize.ShloMosaic.TcCoe Idealize.SL.Sem

namespace Cert.ProjClaim

theorem frame : Cert.quiescent_Proj := fun m ρ _ => Cert.Proj.Gen.frame m ρ

theorem frame_ideal : Cert.quiescent_ProjIdeal := fun m ρ _ => Cert.ProjIdeal.Gen.frame m ρ

theorem frame_ref : Cert.quiescent_ProjRefIdeal := fun m g _ =>
  (θ_run _ _ _).mono (fun r h => ⟨fun c => (h c).2.2.2.2.2.2.2.2.2.2.2.2.2.2.2.2.2.2.2, sem_eq_zero_of_no_sems (by decide) r.2⟩) (Cert.ProjRefIdeal.Value.run m g)

theorem preserves : Cert.preserves_Proj_ProjIdeal := trivial

theorem frame_ideal_pre : Cert.quiescent_ProjIdeal_pre_finite_hidden := fun m ρ _ => Cert.ProjIdeal.Gen.frame m ρ

theorem frame_ref_pre : Cert.quiescent_ProjRefIdeal_pre_finite_hidden := fun m g _ =>
  (θ_run _ _ _).mono (fun r h => ⟨fun c => (h c).2.2.2.2.2.2.2.2.2.2.2.2.2.2.2.2.2.2.2, sem_eq_zero_of_no_sems (by decide) r.2⟩) (Cert.ProjRefIdeal.Value.run m g)

/-- Where the precondition holds the rows, their gains and the weights are finite. -/
theorem finite (a0 : FVec Ideal Cert.Pre_finite_hidden.S65536x1024 .f32) (a1 : FVec Ideal Cert.Pre_finite_hidden.S1024 .f32) (a2 : FVec Ideal Cert.Pre_finite_hidden.S1024x4704 .f32) (a3 a4 a5 a6 a7 a8 : FVec Ideal Cert.Pre_finite_hidden.S64 .f32)
    (h : Cert.Pre_finite_hidden.fn (F := Ideal) a0 a1 a2 a3 a4 a5 a6 a7 a8 = fun _ => 1#1) :
    (∀ z, HeadNorm.Real' (a0 z)) ∧ (∀ z, HeadNorm.Real' (a1 z)) ∧ ∀ z, HeadNorm.Real' (a2 z) := by
  have e := congrFun h ix0
  have e' := IntOp.andi_eq_one.1 e
  have e'' := IntOp.andi_eq_one.1 e'.1
  refine ⟨fun z => ?_, fun z => ?_, fun z => ?_⟩
  · exact HeadNorm.real_of_lt _ (Host.reduce_andi_all _ _ _ _ _ e''.1 z)
  · exact HeadNorm.real_of_lt _ (Host.reduce_andi_all _ _ _ _ _ e''.2 z)
  · exact HeadNorm.real_of_lt _ (Host.reduce_andi_all _ _ _ _ _ e'.2 z)

set_option maxHeartbeats 2000000 in
theorem algebraic : Cert.algebraic_ProjIdeal_ProjRefIdeal_pre_finite_hidden := by
  intro m g m' g' hp hag
  refine ⟨fun c => ProjRefIdeal.Res.o77 (ProjIdeal.Rows.Z m c) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7)) (m ((c.tc : Thread Cert.ProjIdeal.nD Cert.ProjIdeal.τ).loc Cert.ProjIdeal.main_arg8)),
    fun c => ProjRefIdeal.Res.o32 (ProjIdeal.Rows.Z m c) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7)) (m ((c.tc : Thread Cert.ProjIdeal.nD Cert.ProjIdeal.τ).loc Cert.ProjIdeal.main_arg8)),
    fun c => ProjRefIdeal.Res.o104 (ProjIdeal.Rows.Z m c) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7)) (m ((c.tc : Thread Cert.ProjIdeal.nD Cert.ProjIdeal.τ).loc Cert.ProjIdeal.main_arg8)),
    fun c => ProjRefIdeal.Res.o122 (ProjIdeal.Rows.Z m c) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7)) (m ((c.tc : Thread Cert.ProjIdeal.nD Cert.ProjIdeal.τ).loc Cert.ProjIdeal.main_arg8)),
    fun c => ProjRefIdeal.Res.o123 (ProjIdeal.Rows.Z m c) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7)) (m ((c.tc : Thread Cert.ProjIdeal.nD Cert.ProjIdeal.τ).loc Cert.ProjIdeal.main_arg8)),
    fun c => ProjRefIdeal.Res.o124 (ProjIdeal.Rows.Z m c) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7)) (m ((c.tc : Thread Cert.ProjIdeal.nD Cert.ProjIdeal.τ).loc Cert.ProjIdeal.main_arg8)),
    fun c => ProjRefIdeal.Res.o20 (ProjIdeal.Rows.Z m c) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7)) (m ((c.tc : Thread Cert.ProjIdeal.nD Cert.ProjIdeal.τ).loc Cert.ProjIdeal.main_arg8)),
    fun c => ProjRefIdeal.Res.o142 (ProjIdeal.Rows.Z m c) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7)) (m ((c.tc : Thread Cert.ProjIdeal.nD Cert.ProjIdeal.τ).loc Cert.ProjIdeal.main_arg8)),
    fun c => ProjRefIdeal.Res.o143 (ProjIdeal.Rows.Z m c) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7)) (m ((c.tc : Thread Cert.ProjIdeal.nD Cert.ProjIdeal.τ).loc Cert.ProjIdeal.main_arg8)),
    fun c => ProjRefIdeal.Res.o144 (ProjIdeal.Rows.Z m c) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7)) (m ((c.tc : Thread Cert.ProjIdeal.nD Cert.ProjIdeal.τ).loc Cert.ProjIdeal.main_arg8)),
    fun c => ProjRefIdeal.Res.o162 (ProjIdeal.Rows.Z m c) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7)) (m ((c.tc : Thread Cert.ProjIdeal.nD Cert.ProjIdeal.τ).loc Cert.ProjIdeal.main_arg8)),
    fun c => ProjRefIdeal.Res.o163 (ProjIdeal.Rows.Z m c) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7)) (m ((c.tc : Thread Cert.ProjIdeal.nD Cert.ProjIdeal.τ).loc Cert.ProjIdeal.main_arg8)),
    fun c => ProjRefIdeal.Res.o164 (ProjIdeal.Rows.Z m c) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7)) (m ((c.tc : Thread Cert.ProjIdeal.nD Cert.ProjIdeal.τ).loc Cert.ProjIdeal.main_arg8)),
    fun c => ProjRefIdeal.Res.o170 (ProjIdeal.Rows.Z m c) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7)) (m ((c.tc : Thread Cert.ProjIdeal.nD Cert.ProjIdeal.τ).loc Cert.ProjIdeal.main_arg8)),
    fun c => ProjRefIdeal.Res.o176 (ProjIdeal.Rows.Z m c) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7)) (m ((c.tc : Thread Cert.ProjIdeal.nD Cert.ProjIdeal.τ).loc Cert.ProjIdeal.main_arg8)),
    fun c => ProjRefIdeal.Res.o45 (ProjIdeal.Rows.Z m c) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7)) (m ((c.tc : Thread Cert.ProjIdeal.nD Cert.ProjIdeal.τ).loc Cert.ProjIdeal.main_arg8)),
    fun c => ProjRefIdeal.Res.o48 (ProjIdeal.Rows.Z m c) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7)) (m ((c.tc : Thread Cert.ProjIdeal.nD Cert.ProjIdeal.τ).loc Cert.ProjIdeal.main_arg8)),
    fun c => ProjRefIdeal.Res.o178 (ProjIdeal.Rows.Z m c) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7)) (m ((c.tc : Thread Cert.ProjIdeal.nD Cert.ProjIdeal.τ).loc Cert.ProjIdeal.main_arg8)),
    fun c => ProjRefIdeal.Res.o184 (ProjIdeal.Rows.Z m c) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7)) (m ((c.tc : Thread Cert.ProjIdeal.nD Cert.ProjIdeal.τ).loc Cert.ProjIdeal.main_arg8)), ?_, ?_⟩
  · refine (θ_run _ _ _).mono (fun r h c => ?_) (Cert.ProjIdeal.Value.run_blocks m g)
    obtain ⟨f0, f1, f2⟩ := finite _ _ _ _ _ _ _ _ _ (hp c)
    obtain ⟨q8, q9, q10, q11, q12, q13, q14, q15, q16, q17, q18, q19, q20, q21, q22, q23, q24, q25, q26, qr⟩ := h c
    exact ⟨q8.trans (Cert.ProjIdeal.Rows.final8 m c f0 f1 f2),
      q9.trans (Cert.ProjIdeal.Rows.final9 m c),
      q10.trans (Cert.ProjIdeal.Rows.final10 m c f0 f1 f2),
      q11.trans (Cert.ProjIdeal.Rows.final11 m c f0 f1 f2),
      q12.trans (Cert.ProjIdeal.Rows.final12 m c f0 f1 f2),
      q13.trans (Cert.ProjIdeal.Rows.final13 m c),
      q14.trans (Cert.ProjIdeal.Rows.final14 m c),
      q15.trans (Cert.ProjIdeal.Rows.final15 m c f0 f1 f2),
      q16.trans (Cert.ProjIdeal.Rows.final16 m c f0 f1 f2),
      q17.trans (Cert.ProjIdeal.Rows.final17 m c),
      q18.trans (Cert.ProjIdeal.Rows.final18 m c f0 f1 f2),
      q19.trans (Cert.ProjIdeal.Rows.final19 m c f0 f1 f2),
      q20.trans (Cert.ProjIdeal.Rows.final20 m c),
      q21.trans (Cert.ProjIdeal.Rows.final21 m c),
      q22.trans (Cert.ProjIdeal.Rows.final22 m c),
      q23.trans (Cert.ProjIdeal.Rows.final23 m c f0 f1 f2),
      q24.trans (Cert.ProjIdeal.Rows.final24 m c f0 f1 f2),
      q25.trans (Cert.ProjIdeal.Rows.final25 m c),
      q26.trans (Cert.ProjIdeal.Rows.final26 m c), qr⟩
  · refine (θ_run _ _ _).mono (fun r h c => ?_) (Cert.ProjRefIdeal.Value.run m' g')
    obtain ⟨q8, q9, q10, q11, q12, q13, q14, q15, q16, q17, q18, q19, q20, q21, q22, q23, q24, q25, q26, qr⟩ := h c
    obtain ⟨e0, e1, e2, e3, e4, e5, e6, e7, e8⟩ := hag c
    refine ⟨q8.trans ?_, q9.trans ?_, q10.trans ?_, q11.trans ?_, q12.trans ?_, q13.trans ?_, q14.trans ?_, q15.trans ?_, q16.trans ?_, q17.trans ?_, q18.trans ?_, q19.trans ?_, q20.trans ?_, q21.trans ?_, q22.trans ?_, q23.trans ?_, q24.trans ?_, q25.trans ?_, q26.trans ?_, qr⟩
    all_goals
      simp only [ProjIdeal.Rows.Z]
      rw [← e0, ← e1, ← e2, ← e3, ← e4, ← e5, ← e6, ← e7, ← e8]
      rfl

end Cert.ProjClaim

end
-- ==== Proof.lean ====
/- The proof of the certificate's claim: each part is proved in the module of its call. -/
module

public import proofs.«01_k».proof.Defs
public import proofs.«01_k».proof.Proof.Gen.Cmp
public import proofs.«01_k».proof.Proof.Gen.CmpIdeal
public import proofs.«01_k».proof.Proof.Gen.CmpRefIdeal
public import proofs.«01_k».proof.Proof.Gen.Ffn
public import proofs.«01_k».proof.Proof.Gen.FfnIdeal
public import proofs.«01_k».proof.Proof.Gen.FfnRefIdeal
public import proofs.«01_k».proof.Proof.Gen.Merge
public import proofs.«01_k».proof.Proof.Gen.MergeIdeal
public import proofs.«01_k».proof.Proof.Gen.MergeRefIdeal
public import proofs.«01_k».proof.Proof.Gen.Proj
public import proofs.«01_k».proof.Proof.Gen.ProjIdeal
public import proofs.«01_k».proof.Proof.Gen.ProjRefIdeal
public import proofs.«01_k».proof.Proof.Gen.Pre_finite_rows
public import proofs.«01_k».proof.Proof.Gen.Pre_finite_hidden
public import proofs.«01_k».proof.Proof.CmpClaim
public import proofs.«01_k».proof.Proof.FfnClaim
public import proofs.«01_k».proof.Proof.MergeClaim
public import proofs.«01_k».proof.Proof.ProjClaim

@[expose] public section

noncomputable section

namespace Cert.Proof

/-- Every claim of the certificate: the frames, the idealizations, and the equality of each call with its reference. -/
theorem claim : Cert.Claim :=
  ⟨Cert.Cmp.Gen.facts, Cert.CmpIdeal.Gen.facts, Cert.CmpRefIdeal.Gen.facts, Cert.Ffn.Gen.facts, Cert.FfnIdeal.Gen.facts, Cert.FfnRefIdeal.Gen.facts, Cert.Merge.Gen.facts, Cert.MergeIdeal.Gen.facts, Cert.MergeRefIdeal.Gen.facts, Cert.Proj.Gen.facts, Cert.ProjIdeal.Gen.facts, Cert.ProjRefIdeal.Gen.facts, Cert.Pre_finite_rows.Gen.facts, Cert.Pre_finite_hidden.Gen.facts,
    Cert.CmpClaim.frame,
    Cert.CmpClaim.frame_ideal,
    Cert.CmpClaim.frame_ideal_pre,
    Cert.CmpClaim.frame_ref,
    Cert.CmpClaim.frame_ref_pre,
    Cert.FfnClaim.frame,
    Cert.FfnClaim.frame_ideal,
    Cert.FfnClaim.frame_ref,
    Cert.MergeClaim.frame,
    Cert.MergeClaim.frame_ideal,
    Cert.MergeClaim.frame_ref,
    Cert.ProjClaim.frame,
    Cert.ProjClaim.frame_ideal,
    Cert.ProjClaim.frame_ideal_pre,
    Cert.ProjClaim.frame_ref,
    Cert.ProjClaim.frame_ref_pre,
    Cert.CmpClaim.preserves,
    Cert.CmpClaim.algebraic,
    Cert.FfnClaim.preserves,
    Cert.FfnClaim.algebraic,
    Cert.MergeClaim.preserves,
    Cert.MergeClaim.algebraic,
    Cert.ProjClaim.preserves,
    Cert.ProjClaim.algebraic⟩

end Cert.Proof

end
